-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x1024 : Shape := ⟨3, ![1, 2048, 1024]⟩
abbrev S1024x1024 : Shape := ⟨2, ![1024, 1024]⟩
abbrev S16x64x2x8 : Shape := ⟨4, ![16, 64, 2, 8]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x2048x1024 .f32) (main_arg1 : FVec F S1024x1024 .f32) (main_arg2 : FVec F S1024x1024 .f32) (main_arg3 : FVec F S16x64x2x8 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1x2048x1024 : Shape := ⟨3, ![1, 2048, 1024]⟩
abbrev S1024x1024 : Shape := ⟨2, ![1024, 1024]⟩
abbrev S16x64x2x8 : Shape := ⟨4, ![16, 64, 2, 8]⟩
abbrev S2048x1024 : Shape := ⟨2, ![2048, 1024]⟩
abbrev S1024x16x64 : Shape := ⟨3, ![1024, 16, 64]⟩
abbrev S16x1024x64 : Shape := ⟨3, ![16, 1024, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S16x2048x64 : Shape := ⟨3, ![16, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x63 : Shape := ⟨2, ![2048, 63]⟩
abbrev S1x2048x16x64 : Shape := ⟨4, ![1, 2048, 16, 64]⟩
abbrev S1x2048x1x64 : Shape := ⟨4, ![1, 2048, 1, 64]⟩
abbrev S1x2048x16x32 : Shape := ⟨4, ![1, 2048, 16, 32]⟩
abbrev S1x2048x16x32x1 : Shape := ⟨5, ![1, 2048, 16, 32, 1]⟩
abbrev S1x2048x16x32x2 : Shape := ⟨5, ![1, 2048, 16, 32, 2]⟩
abbrev S1x16x2048x64 : Shape := ⟨4, ![1, 16, 2048, 64]⟩
abbrev S16x2x8x1x2048 : Shape := ⟨5, ![16, 2, 8, 1, 2048]⟩
abbrev S1x16x2x2048x8 : Shape := ⟨5, ![1, 16, 2, 2048, 8]⟩
abbrev S1x16x2x2048x16 : Shape := ⟨5, ![1, 16, 2, 2048, 16]⟩
abbrev S1x16x2x2048 : Shape := ⟨4, ![1, 16, 2, 2048]⟩
abbrev S2 : Shape := ⟨1, ![2]⟩
abbrev S1x1x2x1 : Shape := ⟨4, ![1, 1, 2, 1]⟩
abbrev S16x4096 : Shape := ⟨2, ![16, 4096]⟩
abbrev S4096 : Shape := ⟨1, ![4096]⟩
abbrev S1x4096 : Shape := ⟨2, ![1, 4096]⟩
abbrev S16x2048x128 : Shape := ⟨3, ![16, 2048, 128]⟩
abbrev S16x4096x1 : Shape := ⟨3, ![16, 4096, 1]⟩
abbrev S1 : Shape := ⟨1, ![1]⟩
abbrev S1x1x1 : Shape := ⟨3, ![1, 1, 1]⟩
abbrev S16x4096x128 : Shape := ⟨3, ![16, 4096, 128]⟩
abbrev S16x16x256x128 : Shape := ⟨4, ![16, 16, 256, 128]⟩
abbrev S16x16x256 : Shape := ⟨3, ![16, 16, 256]⟩
abbrev S16x16x256x1 : Shape := ⟨4, ![16, 16, 256, 1]⟩
abbrev S16x1x256 : Shape := ⟨3, ![16, 1, 256]⟩
abbrev S16x15x256 : Shape := ⟨3, ![16, 15, 256]⟩
abbrev S16x16x512 : Shape := ⟨3, ![16, 16, 512]⟩
abbrev S16x16x1x512 : Shape := ⟨4, ![16, 16, 1, 512]⟩
abbrev S16x16x256x64 : Shape := ⟨4, ![16, 16, 256, 64]⟩
abbrev S1x1x256x128 : Shape := ⟨4, ![1, 1, 256, 128]⟩
abbrev S1x1x256x1 : Shape := ⟨4, ![1, 1, 256, 1]⟩
abbrev S1x1x1x512 : Shape := ⟨4, ![1, 1, 1, 512]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩
abbrev S512x64 : Shape := ⟨2, ![512, 64]⟩
abbrev S256x512 : Shape := ⟨2, ![256, 512]⟩
abbrev S1x512 : Shape := ⟨2, ![1, 512]⟩
abbrev S16x4096x64 : Shape := ⟨3, ![16, 4096, 64]⟩
abbrev S16x2x2048x64 : Shape := ⟨4, ![16, 2, 2048, 64]⟩
abbrev S16x2x2048 : Shape := ⟨3, ![16, 2, 2048]⟩
abbrev S16x2048 : Shape := ⟨2, ![16, 2048]⟩
abbrev S16x1x2048 : Shape := ⟨3, ![16, 1, 2048]⟩
abbrev S16x2x2048x1 : Shape := ⟨4, ![16, 2, 2048, 1]⟩
abbrev S2048x16x64 : Shape := ⟨3, ![2048, 16, 64]⟩

abbrev nBuf : Space → Nat
  | .hbm => 240
  | .vmem => 23
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S16x64x2x8, .f32⟩
  | 4 => ⟨S2048x1024, .f32⟩
  | 5 => ⟨S1024x16x64, .f32⟩
  | 6 => ⟨S16x1024x64, .f32⟩
  | 7 => ⟨S1024x16x64, .f32⟩
  | 8 => ⟨S16x1024x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x32, .f32⟩
  | 32 => ⟨S2048x32x2, .f32⟩
  | 33 => ⟨S2048x64, .f32⟩
  | 34 => ⟨S2048x32, .f32⟩
  | 35 => ⟨S2048x32x2, .f32⟩
  | 36 => ⟨S2048x64, .f32⟩
  | 37 => ⟨S16x2048x64, .f32⟩
  | 38 => ⟨S16x2048x64, .f32⟩
  | 39 => ⟨S1x2048x1024, .f32⟩
  | 40 => ⟨S1x2048x16x64, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .f32⟩
  | 58 => ⟨S2048x1, .f32⟩
  | 59 => ⟨S1x32, .f32⟩
  | 60 => ⟨S2048x32, .f32⟩
  | 61 => ⟨S2048x32, .f32⟩
  | 62 => ⟨S2048x32, .f32⟩
  | 63 => ⟨S2048x32, .f32⟩
  | 64 => ⟨S2048x32x2, .f32⟩
  | 65 => ⟨S2048x64, .f32⟩
  | 66 => ⟨S1x2048x1x64, .f32⟩
  | 67 => ⟨S2048x32, .f32⟩
  | 68 => ⟨S2048x32x2, .f32⟩
  | 69 => ⟨S2048x64, .f32⟩
  | 70 => ⟨S1x2048x1x64, .f32⟩
  | 71 => ⟨S1x2048x16x32, .f32⟩
  | 72 => ⟨S1x2048x16x32, .f32⟩
  | 73 => ⟨S1x2048x16x32, .f32⟩
  | 74 => ⟨S1x2048x16x32x1, .f32⟩
  | 75 => ⟨S1x2048x16x32x1, .f32⟩
  | 76 => ⟨S1x2048x16x32x2, .f32⟩
  | 77 => ⟨S1x2048x16x64, .f32⟩
  | 78 => ⟨S1x2048x16x64, .f32⟩
  | 79 => ⟨S1x2048x16x64, .f32⟩
  | 80 => ⟨S1x2048x16x64, .f32⟩
  | 81 => ⟨S1x2048x16x64, .f32⟩
  | 82 => ⟨S1x2048x16x64, .f32⟩
  | 83 => ⟨S1x16x2048x64, .f32⟩
  | 84 => ⟨S16x2x8x1x2048, .f32⟩
  | 85 => ⟨S1x16x2x2048x8, .f32⟩
  | 86 => ⟨S1x16x2x2048x8, .f32⟩
  | 87 => ⟨S1x16x2x2048x16, .f32⟩
  | 88 => ⟨S1x16x2x2048x16, .i32⟩
  | 89 => ⟨S_, .f32⟩
  | 90 => ⟨S_, .i32⟩
  | 91 => ⟨S1x16x2x2048, .f32⟩
  | 92 => ⟨S1x16x2x2048, .i32⟩
  | 93 => ⟨S2, .i32⟩
  | 94 => ⟨S_, .i32⟩
  | 95 => ⟨S2, .i32⟩
  | 96 => ⟨S2, .i32⟩
  | 97 => ⟨S1x1x2x1, .i32⟩
  | 98 => ⟨S1x16x2x2048, .i32⟩
  | 99 => ⟨S1x16x2x2048, .i32⟩
  | 100 => ⟨S16x4096, .i32⟩
  | 101 => ⟨S_, .i32⟩
  | 102 => ⟨S16x4096, .i32⟩
  | 103 => ⟨S16x4096, .i32⟩
  | 104 => ⟨S4096, .i32⟩
  | 105 => ⟨S1x4096, .i32⟩
  | 106 => ⟨S16x4096, .i32⟩
  | 107 => ⟨S16x4096, .i32⟩
  | 108 => ⟨S16x4096, .i32⟩
  | 109 => ⟨S16x4096, .i32⟩
  | 110 => ⟨S16x4096, .i32⟩
  | 111 => ⟨S16x4096, .i32⟩
  | 112 => ⟨S16x4096, .i32⟩
  | 113 => ⟨S16x4096, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S16x4096, .i32⟩
  | 121 => ⟨S16x4096, .i32⟩
  | 122 => ⟨S_, .i32⟩
  | 123 => ⟨S16x4096, .i32⟩
  | 124 => ⟨S16x4096, .i1⟩
  | 125 => ⟨S_, .i32⟩
  | 126 => ⟨S16x4096, .i32⟩
  | 127 => ⟨S16x4096, .i1⟩
  | _ => ⟨S1x2048x1024, .f32⟩

abbrev hbmTy0_1 (i : Nat) : BufTy := match i % 128 with
  | 0 => ⟨S_, .i32⟩
  | 1 => ⟨S_, .i1⟩
  | 2 => ⟨S16x4096, .i1⟩
  | 3 => ⟨S16x4096, .i1⟩
  | 4 => ⟨S16x4096, .i1⟩
  | 5 => ⟨S16x4096, .i32⟩
  | 6 => ⟨S16x4096, .i32⟩
  | 7 => ⟨S16x4096, .i32⟩
  | 8 => ⟨S16x2048x128, .f32⟩
  | 9 => ⟨S16x4096x1, .i32⟩
  | 10 => ⟨S_, .i32⟩
  | 11 => ⟨S16x4096x1, .i32⟩
  | 12 => ⟨S16x4096x1, .i1⟩
  | 13 => ⟨S_, .i32⟩
  | 14 => ⟨S16x4096x1, .i32⟩
  | 15 => ⟨S16x4096x1, .i32⟩
  | 16 => ⟨S16x4096x1, .i32⟩
  | 17 => ⟨S1, .i32⟩
  | 18 => ⟨S_, .i32⟩
  | 19 => ⟨S16x4096x1, .i32⟩
  | 20 => ⟨S16x4096x1, .i1⟩
  | 21 => ⟨S1x1x1, .i32⟩
  | 22 => ⟨S16x4096x1, .i32⟩
  | 23 => ⟨S16x4096x1, .i1⟩
  | 24 => ⟨S16x4096x1, .i1⟩
  | 25 => ⟨S_, .i1⟩
  | 26 => ⟨S16x4096, .i1⟩
  | 27 => ⟨S16x4096x128, .f32⟩
  | 28 => ⟨S16x4096x128, .i1⟩
  | 29 => ⟨S_, .f32⟩
  | 30 => ⟨S16x4096x128, .f32⟩
  | 31 => ⟨S16x4096x128, .f32⟩
  | 32 => ⟨S16x16x256x128, .f32⟩
  | 33 => ⟨S16x16x256, .i32⟩
  | 34 => ⟨S16x16x256x1, .i32⟩
  | 35 => ⟨S16x1x256, .i32⟩
  | 36 => ⟨S16x15x256, .i32⟩
  | 37 => ⟨S16x16x256, .i32⟩
  | 38 => ⟨S16x16x512, .i32⟩
  | 39 => ⟨S16x16x1x512, .i32⟩
  | 40 => ⟨S16x16x256x64, .f32⟩
  | 41 => ⟨S16x16x256x1, .f32⟩
  | 42 => ⟨S16x4096x64, .f32⟩
  | 43 => ⟨S16x4096, .f32⟩
  | 44 => ⟨S16x4096x1, .i32⟩
  | 45 => ⟨S_, .i32⟩
  | 46 => ⟨S16x4096x1, .i32⟩
  | 47 => ⟨S16x4096x1, .i1⟩
  | 48 => ⟨S_, .i32⟩
  | 49 => ⟨S16x4096x1, .i32⟩
  | 50 => ⟨S16x4096x1, .i32⟩
  | 51 => ⟨S16x4096x1, .i32⟩
  | 52 => ⟨S1, .i32⟩
  | 53 => ⟨S_, .i32⟩
  | 54 => ⟨S16x4096x1, .i32⟩
  | 55 => ⟨S16x4096x1, .i1⟩
  | 56 => ⟨S1x1x1, .i32⟩
  | 57 => ⟨S16x4096x1, .i32⟩
  | 58 => ⟨S16x4096x1, .i1⟩
  | 59 => ⟨S16x4096x1, .i1⟩
  | 60 => ⟨S_, .i1⟩
  | 61 => ⟨S16x4096, .i1⟩
  | 62 => ⟨S16x4096x64, .f32⟩
  | 63 => ⟨S16x4096x64, .i1⟩
  | 64 => ⟨S_, .f32⟩
  | 65 => ⟨S16x4096x64, .f32⟩
  | 66 => ⟨S16x4096x64, .f32⟩
  | 67 => ⟨S_, .i32⟩
  | 68 => ⟨S16x4096, .i32⟩
  | 69 => ⟨S16x4096, .i1⟩
  | 70 => ⟨S_, .i32⟩
  | 71 => ⟨S16x4096, .i32⟩
  | 72 => ⟨S16x4096, .i32⟩
  | 73 => ⟨S16x4096, .i32⟩
  | 74 => ⟨S16x4096x1, .i32⟩
  | 75 => ⟨S1, .i32⟩
  | 76 => ⟨S_, .i32⟩
  | 77 => ⟨S16x4096x1, .i32⟩
  | 78 => ⟨S16x4096x1, .i1⟩
  | 79 => ⟨S1x1x1, .i32⟩
  | 80 => ⟨S16x4096x1, .i32⟩
  | 81 => ⟨S16x4096x1, .i1⟩
  | 82 => ⟨S16x4096x1, .i1⟩
  | 83 => ⟨S_, .i1⟩
  | 84 => ⟨S16x4096, .i1⟩
  | 85 => ⟨S16x4096, .f32⟩
  | 86 => ⟨S_, .f32⟩
  | 87 => ⟨S16x4096, .f32⟩
  | 88 => ⟨S16x4096, .f32⟩
  | 89 => ⟨S16x2x2048x64, .f32⟩
  | 90 => ⟨S16x2x2048, .f32⟩
  | 91 => ⟨S_, .f32⟩
  | 92 => ⟨S16x2048, .f32⟩
  | 93 => ⟨S_, .f32⟩
  | 94 => ⟨S16x2048, .f32⟩
  | 95 => ⟨S16x2048, .f32⟩
  | 96 => ⟨S16x1x2048, .f32⟩
  | 97 => ⟨S16x2x2048, .f32⟩
  | 98 => ⟨S16x2x2048, .f32⟩
  | 99 => ⟨S16x2x2048, .f32⟩
  | 100 => ⟨S_, .f32⟩
  | 101 => ⟨S16x2048, .f32⟩
  | 102 => ⟨S16x1x2048, .f32⟩
  | 103 => ⟨S16x2x2048, .f32⟩
  | 104 => ⟨S16x2x2048, .f32⟩
  | 105 => ⟨S16x2x2048x1, .f32⟩
  | 106 => ⟨S16x2x2048x64, .f32⟩
  | 107 => ⟨S16x2x2048x64, .f32⟩
  | 108 => ⟨S_, .f32⟩
  | 109 => ⟨S16x2048x64, .f32⟩
  | 110 => ⟨S2048x16x64, .f32⟩
  | 111 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S2048x64, .f32⟩
  | .local _ .vmem, ⟨6, _⟩ => ⟨S2048x64, .f32⟩
  | .local _ .vmem, ⟨7, _⟩ => ⟨S1x2048x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x1x256x128, .f32⟩
  | .local _ .vmem, ⟨12, _⟩ => ⟨S1x1x256x128, .f32⟩
  | .local _ .vmem, ⟨13, _⟩ => ⟨S1x1x256x128, .f32⟩
  | .local _ .vmem, ⟨14, _⟩ => ⟨S1x1x256x128, .f32⟩
  | .local _ .vmem, ⟨15, _⟩ => ⟨S1x1x256x1, .i32⟩
  | .local _ .vmem, ⟨16, _⟩ => ⟨S1x1x256x1, .i32⟩
  | .local _ .vmem, ⟨17, _⟩ => ⟨S1x1x1x512, .i32⟩
  | .local _ .vmem, ⟨18, _⟩ => ⟨S1x1x1x512, .i32⟩
  | .local _ .vmem, ⟨19, _⟩ => ⟨S1x1x256x64, .f32⟩
  | .local _ .vmem, ⟨20, _⟩ => ⟨S1x1x256x64, .f32⟩
  | .local _ .vmem, ⟨21, _⟩ => ⟨S1x1x256x1, .f32⟩
  | .local _ .vmem, ⟨22, _⟩ => ⟨S1x1x256x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_call0_v0 : Ref sig .tc := ⟨.hbm, 88, rfl⟩
abbrev main_call0_cst : Ref sig .tc := ⟨.hbm, 89, rfl⟩
abbrev main_call0_c : Ref sig .tc := ⟨.hbm, 90, rfl⟩
abbrev main_call0_v1_0 : Ref sig .tc := ⟨.hbm, 91, rfl⟩
abbrev main_v73 : Ref sig .tc := ⟨.hbm, 92, rfl⟩
abbrev main_v74 : Ref sig .tc := ⟨.hbm, 93, rfl⟩
abbrev main_c : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_call1_v0 : Ref sig .tc := ⟨.hbm, 108, rfl⟩
abbrev main_call1_v1_0 : Ref sig .tc := ⟨.hbm, 109, rfl⟩
abbrev main_v87 : Ref sig .tc := ⟨.hbm, 110, rfl⟩
abbrev main_call2_v0 : Ref sig .tc := ⟨.hbm, 111, rfl⟩
abbrev main_call2_v1_0 : Ref sig .tc := ⟨.hbm, 112, rfl⟩
abbrev main_v88 : Ref sig .tc := ⟨.hbm, 113, rfl⟩
abbrev main_c_10 : Ref sig .tc := ⟨.hbm, 114, rfl⟩
abbrev main_call3_v0 : Ref sig .tc := ⟨.hbm, 115, rfl⟩
abbrev main_call3_c : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_c_1 : Ref sig .tc := ⟨.hbm, 122, rfl⟩
abbrev main_call3_v5 : Ref sig .tc := ⟨.hbm, 123, rfl⟩
abbrev main_call3_v6 : Ref sig .tc := ⟨.hbm, 124, rfl⟩
abbrev main_call3_c_2 : Ref sig .tc := ⟨.hbm, 125, rfl⟩
abbrev main_call3_v7 : Ref sig .tc := ⟨.hbm, 126, rfl⟩
abbrev main_call3_v8 : Ref sig .tc := ⟨.hbm, 127, rfl⟩
abbrev main_call3_c_3 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_call4_c : Ref sig .tc := ⟨.hbm, 138, rfl⟩
abbrev main_call4_v0 : Ref sig .tc := ⟨.hbm, 139, rfl⟩
abbrev main_call4_v1 : Ref sig .tc := ⟨.hbm, 140, rfl⟩
abbrev main_call4_c_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_c_1 : Ref sig .tc := ⟨.hbm, 145, rfl⟩
abbrev main_call4_c_2 : Ref sig .tc := ⟨.hbm, 146, rfl⟩
abbrev main_call4_v5 : Ref sig .tc := ⟨.hbm, 147, rfl⟩
abbrev main_call4_v6 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_call4_c_3 : Ref sig .tc := ⟨.hbm, 153, rfl⟩
abbrev main_call4_v11 : Ref sig .tc := ⟨.hbm, 154, rfl⟩
abbrev main_call4_v12 : Ref sig .tc := ⟨.hbm, 155, rfl⟩
abbrev main_call4_v13 : Ref sig .tc := ⟨.hbm, 156, rfl⟩
abbrev main_call4_cst : Ref sig .tc := ⟨.hbm, 157, rfl⟩
abbrev main_call4_v14 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_call5_v0 : Ref sig .tc := ⟨.hbm, 163, rfl⟩
abbrev main_call5_v1 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99_0 : Ref sig .tc := ⟨.hbm, 168, rfl⟩
abbrev main_v99_1 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_call6_c : Ref sig .tc := ⟨.hbm, 173, rfl⟩
abbrev main_call6_v0 : Ref sig .tc := ⟨.hbm, 174, rfl⟩
abbrev main_call6_v1 : Ref sig .tc := ⟨.hbm, 175, rfl⟩
abbrev main_call6_c_0 : Ref sig .tc := ⟨.hbm, 176, rfl⟩
abbrev main_call6_v2 : Ref sig .tc := ⟨.hbm, 177, rfl⟩
abbrev main_call6_v3 : Ref sig .tc := ⟨.hbm, 178, rfl⟩
abbrev main_call6_v4 : Ref sig .tc := ⟨.hbm, 179, rfl⟩
abbrev main_call6_c_1 : Ref sig .tc := ⟨.hbm, 180, rfl⟩
abbrev main_call6_c_2 : Ref sig .tc := ⟨.hbm, 181, rfl⟩
abbrev main_call6_v5 : Ref sig .tc := ⟨.hbm, 182, rfl⟩
abbrev main_call6_v6 : Ref sig .tc := ⟨.hbm, 183, rfl⟩
abbrev main_call6_v7 : Ref sig .tc := ⟨.hbm, 184, rfl⟩
abbrev main_call6_v8 : Ref sig .tc := ⟨.hbm, 185, rfl⟩
abbrev main_call6_v9 : Ref sig .tc := ⟨.hbm, 186, rfl⟩
abbrev main_call6_v10 : Ref sig .tc := ⟨.hbm, 187, rfl⟩
abbrev main_call6_c_3 : Ref sig .tc := ⟨.hbm, 188, rfl⟩
abbrev main_call6_v11 : Ref sig .tc := ⟨.hbm, 189, rfl⟩
abbrev main_call6_v12 : Ref sig .tc := ⟨.hbm, 190, rfl⟩
abbrev main_call6_v13 : Ref sig .tc := ⟨.hbm, 191, rfl⟩
abbrev main_call6_cst : Ref sig .tc := ⟨.hbm, 192, rfl⟩
abbrev main_call6_v14 : Ref sig .tc := ⟨.hbm, 193, rfl⟩
abbrev main_v103 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_cst : Ref sig .tc := ⟨.hbm, 214, rfl⟩
abbrev main_call7_v14 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_11 : Ref sig .tc := ⟨.hbm, 219, rfl⟩
abbrev main_v107 : Ref sig .tc := ⟨.hbm, 220, rfl⟩
abbrev main_cst_12 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_cst_13 : Ref sig .tc := ⟨.hbm, 228, rfl⟩
abbrev main_v114 : Ref sig .tc := ⟨.hbm, 229, rfl⟩
abbrev main_v115 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_cst_14 : Ref sig .tc := ⟨.hbm, 236, rfl⟩
abbrev main_v121 : Ref sig .tc := ⟨.hbm, 237, rfl⟩
abbrev main_v122 : Ref sig .tc := ⟨.hbm, 238, rfl⟩
abbrev main_v123 : Ref sig .tc := ⟨.hbm, 239, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c16_i32 : BitVec 32 := 16#32
  let c0_i32 : BitVec 32 := 0#32
  let v1 : BitVec 1 := Scalar.cmpi .eq c16_i32 c0_i32
  let c1_i32_0 : BitVec 32 := 1#32
  let v2 : BitVec 32 := Scalar.select v1 c1_i32_0 c16_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![arg0.toNat, v10.toNat, c0_i32_4.toNat, c0_i32_5.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceIdeal.lean ====
abbrev S1x2048x1024 : Shape := ⟨3, ![1, 2048, 1024]⟩
abbrev S1024x1024 : Shape := ⟨2, ![1024, 1024]⟩
abbrev S16x64x2x8 : Shape := ⟨4, ![16, 64, 2, 8]⟩
abbrev S1x2048x16x64 : Shape := ⟨4, ![1, 2048, 16, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x16x32 : Shape := ⟨4, ![1, 2048, 16, 32]⟩
abbrev S1x2048x16x32x1 : Shape := ⟨5, ![1, 2048, 16, 32, 1]⟩
abbrev S1x2048x16x32x2 : Shape := ⟨5, ![1, 2048, 16, 32, 2]⟩
abbrev S1x16x2048x64 : Shape := ⟨4, ![1, 16, 2048, 64]⟩
abbrev S16x2x8x1x2048 : Shape := ⟨5, ![16, 2, 8, 1, 2048]⟩
abbrev S1x16x2x2048x8 : Shape := ⟨5, ![1, 16, 2, 2048, 8]⟩
abbrev S1x16x2x2048x16 : Shape := ⟨5, ![1, 16, 2, 2048, 16]⟩
abbrev S1x16x2x2048 : Shape := ⟨4, ![1, 16, 2, 2048]⟩
abbrev S2 : Shape := ⟨1, ![2]⟩
abbrev S1x1x2x1 : Shape := ⟨4, ![1, 1, 2, 1]⟩
abbrev S16x4096 : Shape := ⟨2, ![16, 4096]⟩
abbrev S16x2048x64 : Shape := ⟨3, ![16, 2048, 64]⟩
abbrev S2048x16x64 : Shape := ⟨3, ![2048, 16, 64]⟩
abbrev S4096 : Shape := ⟨1, ![4096]⟩
abbrev S1x4096 : Shape := ⟨2, ![1, 4096]⟩
abbrev S16x4096x1 : Shape := ⟨3, ![16, 4096, 1]⟩
abbrev S1 : Shape := ⟨1, ![1]⟩
abbrev S1x1x1 : Shape := ⟨3, ![1, 1, 1]⟩
abbrev S16x4096x64 : Shape := ⟨3, ![16, 4096, 64]⟩
abbrev S16x16x256x64 : Shape := ⟨4, ![16, 16, 256, 64]⟩
abbrev S16x16x256 : Shape := ⟨3, ![16, 16, 256]⟩
abbrev S16x16x256x1 : Shape := ⟨4, ![16, 16, 256, 1]⟩
abbrev S16x1x256x64 : Shape := ⟨4, ![16, 1, 256, 64]⟩
abbrev S16x15x256x64 : Shape := ⟨4, ![16, 15, 256, 64]⟩
abbrev S16x16x512x64 : Shape := ⟨4, ![16, 16, 512, 64]⟩
abbrev S16x16x256x512 : Shape := ⟨4, ![16, 16, 256, 512]⟩
abbrev S16x1x256 : Shape := ⟨3, ![16, 1, 256]⟩
abbrev S16x15x256 : Shape := ⟨3, ![16, 15, 256]⟩
abbrev S16x16x512 : Shape := ⟨3, ![16, 16, 512]⟩
abbrev S16x16x1x512 : Shape := ⟨4, ![16, 16, 1, 512]⟩
abbrev S16x2x2048x64 : Shape := ⟨4, ![16, 2, 2048, 64]⟩
abbrev S16x2x2048 : Shape := ⟨3, ![16, 2, 2048]⟩
abbrev S16x2x2048x1 : Shape := ⟨4, ![16, 2, 2048, 1]⟩
abbrev S16x2048x1 : Shape := ⟨3, ![16, 2048, 1]⟩
abbrev S16x1x2048x1 : Shape := ⟨4, ![16, 1, 2048, 1]⟩

abbrev nBuf : Space → Nat
  | .hbm => 287
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S16x64x2x8, .f32⟩
  | 4 => ⟨S1x2048x1024, .f32⟩
  | 5 => ⟨S1x2048x16x64, .f32⟩
  | 6 => ⟨S1x2048x1024, .f32⟩
  | 7 => ⟨S1x2048x16x64, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S2048, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x32, .f32⟩
  | 31 => ⟨S2048x32x2, .f32⟩
  | 32 => ⟨S2048x64, .f32⟩
  | 33 => ⟨S1x2048x1x64, .f32⟩
  | 34 => ⟨S2048x32, .f32⟩
  | 35 => ⟨S2048x32x2, .f32⟩
  | 36 => ⟨S2048x64, .f32⟩
  | 37 => ⟨S1x2048x1x64, .f32⟩
  | 38 => ⟨S1x2048x16x32, .f32⟩
  | 39 => ⟨S1x2048x16x32, .f32⟩
  | 40 => ⟨S1x2048x16x32, .f32⟩
  | 41 => ⟨S1x2048x16x32x1, .f32⟩
  | 42 => ⟨S1x2048x16x32x1, .f32⟩
  | 43 => ⟨S1x2048x16x32x2, .f32⟩
  | 44 => ⟨S1x2048x16x64, .f32⟩
  | 45 => ⟨S1x2048x16x64, .f32⟩
  | 46 => ⟨S1x2048x16x64, .f32⟩
  | 47 => ⟨S1x2048x16x64, .f32⟩
  | 48 => ⟨S1x2048x16x64, .f32⟩
  | 49 => ⟨S1x2048x16x64, .f32⟩
  | 50 => ⟨S1x16x2048x64, .f32⟩
  | 51 => ⟨S16x2x8x1x2048, .f32⟩
  | 52 => ⟨S1x16x2x2048x8, .f32⟩
  | 53 => ⟨S1x16x2x2048x8, .f32⟩
  | 54 => ⟨S1x16x2x2048x16, .f32⟩
  | 55 => ⟨S1x16x2x2048x16, .i32⟩
  | 56 => ⟨S_, .f32⟩
  | 57 => ⟨S_, .i32⟩
  | 58 => ⟨S1x16x2x2048, .f32⟩
  | 59 => ⟨S1x16x2x2048, .i32⟩
  | 60 => ⟨S2, .i32⟩
  | 61 => ⟨S_, .i32⟩
  | 62 => ⟨S2, .i32⟩
  | 63 => ⟨S2, .i32⟩
  | 64 => ⟨S1x1x2x1, .i32⟩
  | 65 => ⟨S1x16x2x2048, .i32⟩
  | 66 => ⟨S1x16x2x2048, .i32⟩
  | 67 => ⟨S16x4096, .i32⟩
  | 68 => ⟨S16x2048x64, .f32⟩
  | 69 => ⟨S2048x16x64, .f32⟩
  | 70 => ⟨S16x2048x64, .f32⟩
  | 71 => ⟨S_, .i32⟩
  | 72 => ⟨S16x4096, .i32⟩
  | 73 => ⟨S16x4096, .i32⟩
  | 74 => ⟨S4096, .i32⟩
  | 75 => ⟨S1x4096, .i32⟩
  | 76 => ⟨S16x4096, .i32⟩
  | 77 => ⟨S16x4096, .i32⟩
  | 78 => ⟨S16x4096, .i32⟩
  | 79 => ⟨S16x4096, .i32⟩
  | 80 => ⟨S16x4096, .i32⟩
  | 81 => ⟨S16x4096, .i32⟩
  | 82 => ⟨S16x4096, .i32⟩
  | 83 => ⟨S16x4096, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S16x4096, .i32⟩
  | 91 => ⟨S16x4096, .i32⟩
  | 92 => ⟨S_, .i32⟩
  | 93 => ⟨S16x4096, .i32⟩
  | 94 => ⟨S16x4096, .i1⟩
  | 95 => ⟨S_, .i32⟩
  | 96 => ⟨S16x4096, .i32⟩
  | 97 => ⟨S16x4096, .i1⟩
  | 98 => ⟨S_, .i32⟩
  | 99 => ⟨S_, .i1⟩
  | 100 => ⟨S16x4096, .i1⟩
  | 101 => ⟨S16x4096, .i1⟩
  | 102 => ⟨S16x4096, .i1⟩
  | 103 => ⟨S16x4096, .i32⟩
  | 104 => ⟨S16x4096, .i32⟩
  | 105 => ⟨S16x4096, .i32⟩
  | 106 => ⟨S16x4096x1, .i32⟩
  | 107 => ⟨S_, .i32⟩
  | 108 => ⟨S16x4096x1, .i32⟩
  | 109 => ⟨S16x4096x1, .i1⟩
  | 110 => ⟨S_, .i32⟩
  | 111 => ⟨S16x4096x1, .i32⟩
  | 112 => ⟨S16x4096x1, .i32⟩
  | 113 => ⟨S16x4096x1, .i32⟩
  | 114 => ⟨S1, .i32⟩
  | 115 => ⟨S_, .i32⟩
  | 116 => ⟨S16x4096x1, .i32⟩
  | 117 => ⟨S16x4096x1, .i1⟩
  | 118 => ⟨S1x1x1, .i32⟩
  | 119 => ⟨S16x4096x1, .i32⟩
  | 120 => ⟨S16x4096x1, .i1⟩
  | 121 => ⟨S16x4096x1, .i1⟩
  | 122 => ⟨S_, .i1⟩
  | 123 => ⟨S16x4096, .i1⟩
  | 124 => ⟨S16x4096x64, .f32⟩
  | 125 => ⟨S16x4096x64, .i1⟩
  | 126 => ⟨S_, .f32⟩
  | 127 => ⟨S16x4096x64, .f32⟩
  | _ => ⟨S1x2048x1024, .f32⟩

abbrev hbmTy0_1 (i : Nat) : BufTy := match i % 128 with
  | 0 => ⟨S16x4096x64, .f32⟩
  | 1 => ⟨S16x16x256x64, .f32⟩
  | 2 => ⟨S16x4096x1, .i32⟩
  | 3 => ⟨S_, .i32⟩
  | 4 => ⟨S16x4096x1, .i32⟩
  | 5 => ⟨S16x4096x1, .i1⟩
  | 6 => ⟨S_, .i32⟩
  | 7 => ⟨S16x4096x1, .i32⟩
  | 8 => ⟨S16x4096x1, .i32⟩
  | 9 => ⟨S16x4096x1, .i32⟩
  | 10 => ⟨S1, .i32⟩
  | 11 => ⟨S_, .i32⟩
  | 12 => ⟨S16x4096x1, .i32⟩
  | 13 => ⟨S16x4096x1, .i1⟩
  | 14 => ⟨S1x1x1, .i32⟩
  | 15 => ⟨S16x4096x1, .i32⟩
  | 16 => ⟨S16x4096x1, .i1⟩
  | 17 => ⟨S16x4096x1, .i1⟩
  | 18 => ⟨S_, .i1⟩
  | 19 => ⟨S16x4096, .i1⟩
  | 20 => ⟨S16x4096x64, .f32⟩
  | 21 => ⟨S16x4096x64, .i1⟩
  | 22 => ⟨S_, .f32⟩
  | 23 => ⟨S16x4096x64, .f32⟩
  | 24 => ⟨S16x4096x64, .f32⟩
  | 25 => ⟨S16x16x256x64, .f32⟩
  | 26 => ⟨S16x16x256x64, .f32⟩
  | 27 => ⟨S_, .f32⟩
  | 28 => ⟨S16x16x256, .f32⟩
  | 29 => ⟨S16x16x256x1, .f32⟩
  | 30 => ⟨S_, .f32⟩
  | 31 => ⟨S16x16x256x1, .f32⟩
  | 32 => ⟨S16x16x256x1, .f32⟩
  | 33 => ⟨S_, .f32⟩
  | 34 => ⟨S16x16x256x1, .f32⟩
  | 35 => ⟨S16x16x256x1, .f32⟩
  | 36 => ⟨S16x16x256x1, .f32⟩
  | 37 => ⟨S16x16x256x64, .f32⟩
  | 38 => ⟨S16x16x256x64, .f32⟩
  | 39 => ⟨S_, .f32⟩
  | 40 => ⟨S16x16x256x64, .f32⟩
  | 41 => ⟨S16x16x256x64, .f32⟩
  | 42 => ⟨S16x1x256x64, .f32⟩
  | 43 => ⟨S16x15x256x64, .f32⟩
  | 44 => ⟨S16x16x256x64, .f32⟩
  | 45 => ⟨S16x16x512x64, .f32⟩
  | 46 => ⟨S16x16x256x512, .f32⟩
  | 47 => ⟨S16x16x256, .i32⟩
  | 48 => ⟨S16x1x256, .i32⟩
  | 49 => ⟨S16x15x256, .i32⟩
  | 50 => ⟨S16x16x256, .i32⟩
  | 51 => ⟨S16x16x512, .i32⟩
  | 52 => ⟨S16x16x256x1, .i32⟩
  | 53 => ⟨S16x16x1x512, .i32⟩
  | 54 => ⟨S16x16x256x512, .i32⟩
  | 55 => ⟨S16x16x256x512, .i32⟩
  | 56 => ⟨S16x16x256x512, .i1⟩
  | 57 => ⟨S_, .f32⟩
  | 58 => ⟨S_, .f32⟩
  | 59 => ⟨S16x16x256x512, .f32⟩
  | 60 => ⟨S16x16x256x512, .f32⟩
  | 61 => ⟨S16x16x256x1, .i32⟩
  | 62 => ⟨S16x16x1x512, .i32⟩
  | 63 => ⟨S16x16x256x512, .i32⟩
  | 64 => ⟨S16x16x256x512, .i32⟩
  | 65 => ⟨S16x16x256x512, .i1⟩
  | 66 => ⟨S_, .f32⟩
  | 67 => ⟨S_, .f32⟩
  | 68 => ⟨S16x16x256x512, .f32⟩
  | 69 => ⟨S16x16x256x512, .f32⟩
  | 70 => ⟨S_, .f32⟩
  | 71 => ⟨S16x16x256, .f32⟩
  | 72 => ⟨S16x16x256x1, .f32⟩
  | 73 => ⟨S16x16x256x512, .f32⟩
  | 74 => ⟨S16x16x256x512, .f32⟩
  | 75 => ⟨S16x16x256x512, .f32⟩
  | 76 => ⟨S_, .f32⟩
  | 77 => ⟨S16x16x256, .f32⟩
  | 78 => ⟨S16x16x256x1, .f32⟩
  | 79 => ⟨S16x16x256x1, .f32⟩
  | 80 => ⟨S16x16x256x1, .f32⟩
  | 81 => ⟨S16x16x256x512, .f32⟩
  | 82 => ⟨S16x16x256x512, .f32⟩
  | 83 => ⟨S16x16x256x512, .f32⟩
  | 84 => ⟨S16x1x256x64, .f32⟩
  | 85 => ⟨S16x15x256x64, .f32⟩
  | 86 => ⟨S16x16x256x64, .f32⟩
  | 87 => ⟨S16x16x512x64, .f32⟩
  | 88 => ⟨S16x16x256x64, .f32⟩
  | 89 => ⟨S16x4096x64, .f32⟩
  | 90 => ⟨S16x4096x1, .i32⟩
  | 91 => ⟨S_, .i32⟩
  | 92 => ⟨S16x4096x1, .i32⟩
  | 93 => ⟨S16x4096x1, .i1⟩
  | 94 => ⟨S_, .i32⟩
  | 95 => ⟨S16x4096x1, .i32⟩
  | 96 => ⟨S16x4096x1, .i32⟩
  | 97 => ⟨S16x4096x1, .i32⟩
  | 98 => ⟨S1, .i32⟩
  | 99 => ⟨S_, .i32⟩
  | 100 => ⟨S16x4096x1, .i32⟩
  | 101 => ⟨S16x4096x1, .i1⟩
  | 102 => ⟨S1x1x1, .i32⟩
  | 103 => ⟨S16x4096x1, .i32⟩
  | 104 => ⟨S16x4096x1, .i1⟩
  | 105 => ⟨S16x4096x1, .i1⟩
  | 106 => ⟨S_, .i1⟩
  | 107 => ⟨S16x4096, .i1⟩
  | 108 => ⟨S16x4096x64, .f32⟩
  | 109 => ⟨S16x4096x64, .i1⟩
  | 110 => ⟨S_, .f32⟩
  | 111 => ⟨S16x4096x64, .f32⟩
  | 112 => ⟨S16x4096x64, .f32⟩
  | 113 => ⟨S16x4096, .f32⟩
  | 114 => ⟨S_, .i32⟩
  | 115 => ⟨S16x4096, .i32⟩
  | 116 => ⟨S16x4096, .i1⟩
  | 117 => ⟨S_, .i32⟩
  | 118 => ⟨S16x4096, .i32⟩
  | 119 => ⟨S16x4096, .i32⟩
  | 120 => ⟨S16x4096, .i32⟩
  | 121 => ⟨S16x4096x1, .i32⟩
  | 122 => ⟨S1, .i32⟩
  | 123 => ⟨S_, .i32⟩
  | 124 => ⟨S16x4096x1, .i32⟩
  | 125 => ⟨S16x4096x1, .i1⟩
  | 126 => ⟨S1x1x1, .i32⟩
  | 127 => ⟨S16x4096x1, .i32⟩
  | _ => ⟨S1x2048x1024, .f32⟩

abbrev hbmTy0_2 (i : Nat) : BufTy := match i % 128 with
  | 0 => ⟨S16x4096x1, .i1⟩
  | 1 => ⟨S16x4096x1, .i1⟩
  | 2 => ⟨S_, .i1⟩
  | 3 => ⟨S16x4096, .i1⟩
  | 4 => ⟨S16x4096, .f32⟩
  | 5 => ⟨S_, .f32⟩
  | 6 => ⟨S16x4096, .f32⟩
  | 7 => ⟨S16x4096, .f32⟩
  | 8 => ⟨S16x2x2048x64, .f32⟩
  | 9 => ⟨S16x2x2048, .f32⟩
  | 10 => ⟨S16x2x2048x1, .f32⟩
  | 11 => ⟨S_, .f32⟩
  | 12 => ⟨S16x2048x1, .f32⟩
  | 13 => ⟨S16x1x2048x1, .f32⟩
  | 14 => ⟨S16x2x2048x1, .f32⟩
  | 15 => ⟨S16x2x2048x1, .f32⟩
  | 16 => ⟨S16x2x2048x1, .f32⟩
  | 17 => ⟨S_, .f32⟩
  | 18 => ⟨S16x2048x1, .f32⟩
  | 19 => ⟨S16x1x2048x1, .f32⟩
  | 20 => ⟨S16x1x2048x1, .f32⟩
  | 21 => ⟨S16x1x2048x1, .f32⟩
  | 22 => ⟨S16x2x2048x1, .f32⟩
  | 23 => ⟨S16x2x2048x1, .f32⟩
  | 24 => ⟨S16x2x2048x1, .f32⟩
  | 25 => ⟨S16x2x2048x64, .f32⟩
  | 26 => ⟨S16x2x2048x64, .f32⟩
  | 27 => ⟨S_, .f32⟩
  | 28 => ⟨S16x2048x64, .f32⟩
  | 29 => ⟨S2048x16x64, .f32⟩
  | 30 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_call0_v0 : Ref sig .tc := ⟨.hbm, 55, rfl⟩
abbrev main_call0_cst : Ref sig .tc := ⟨.hbm, 56, rfl⟩
abbrev main_call0_c : Ref sig .tc := ⟨.hbm, 57, rfl⟩
abbrev main_call0_v1_0 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call1_v0 : Ref sig .tc := ⟨.hbm, 78, rfl⟩
abbrev main_call1_v1_0 : Ref sig .tc := ⟨.hbm, 79, rfl⟩
abbrev main_v63 : Ref sig .tc := ⟨.hbm, 80, rfl⟩
abbrev main_call2_v0 : Ref sig .tc := ⟨.hbm, 81, rfl⟩
abbrev main_call2_v1_0 : Ref sig .tc := ⟨.hbm, 82, rfl⟩
abbrev main_v64 : Ref sig .tc := ⟨.hbm, 83, rfl⟩
abbrev main_c_5 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v65 : Ref sig .tc := ⟨.hbm, 105, rfl⟩
abbrev main_v66 : Ref sig .tc := ⟨.hbm, 106, rfl⟩
abbrev main_call4_c : Ref sig .tc := ⟨.hbm, 107, rfl⟩
abbrev main_call4_v0 : Ref sig .tc := ⟨.hbm, 108, rfl⟩
abbrev main_call4_v1 : Ref sig .tc := ⟨.hbm, 109, rfl⟩
abbrev main_call4_c_0 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_c_1 : Ref sig .tc := ⟨.hbm, 114, rfl⟩
abbrev main_call4_c_2 : Ref sig .tc := ⟨.hbm, 115, rfl⟩
abbrev main_call4_v5 : Ref sig .tc := ⟨.hbm, 116, rfl⟩
abbrev main_call4_v6 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_call4_c_3 : Ref sig .tc := ⟨.hbm, 122, rfl⟩
abbrev main_call4_v11 : Ref sig .tc := ⟨.hbm, 123, rfl⟩
abbrev main_call4_v12 : Ref sig .tc := ⟨.hbm, 124, rfl⟩
abbrev main_call4_v13 : Ref sig .tc := ⟨.hbm, 125, rfl⟩
abbrev main_call4_cst : Ref sig .tc := ⟨.hbm, 126, rfl⟩
abbrev main_call4_v14 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_c_1 : Ref sig .tc := ⟨.hbm, 138, rfl⟩
abbrev main_call5_c_2 : Ref sig .tc := ⟨.hbm, 139, rfl⟩
abbrev main_call5_v5 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_c_3 : Ref sig .tc := ⟨.hbm, 146, rfl⟩
abbrev main_call5_v11 : Ref sig .tc := ⟨.hbm, 147, rfl⟩
abbrev main_call5_v12 : Ref sig .tc := ⟨.hbm, 148, rfl⟩
abbrev main_call5_v13 : Ref sig .tc := ⟨.hbm, 149, rfl⟩
abbrev main_call5_cst : Ref sig .tc := ⟨.hbm, 150, rfl⟩
abbrev main_call5_v14 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_cst_6 : Ref sig .tc := ⟨.hbm, 155, rfl⟩
abbrev main_v73 : Ref sig .tc := ⟨.hbm, 156, rfl⟩
abbrev main_v74 : Ref sig .tc := ⟨.hbm, 157, rfl⟩
abbrev main_cst_7 : Ref sig .tc := ⟨.hbm, 158, rfl⟩
abbrev main_v75 : Ref sig .tc := ⟨.hbm, 159, rfl⟩
abbrev main_v76 : Ref sig .tc := ⟨.hbm, 160, rfl⟩
abbrev main_cst_8 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_cst_9 : Ref sig .tc := ⟨.hbm, 167, rfl⟩
abbrev main_v82 : Ref sig .tc := ⟨.hbm, 168, rfl⟩
abbrev main_v83 : Ref sig .tc := ⟨.hbm, 169, rfl⟩
abbrev main_call6_v0 : Ref sig .tc := ⟨.hbm, 170, rfl⟩
abbrev main_call6_v1 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_call7_v0 : Ref sig .tc := ⟨.hbm, 176, rfl⟩
abbrev main_call7_v1 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_cst_10 : Ref sig .tc := ⟨.hbm, 185, rfl⟩
abbrev main_call8_v0 : Ref sig .tc := ⟨.hbm, 186, rfl⟩
abbrev main_call8_v1 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_cst_11 : Ref sig .tc := ⟨.hbm, 194, rfl⟩
abbrev main_call9_v0 : Ref sig .tc := ⟨.hbm, 195, rfl⟩
abbrev main_call9_v1 : Ref sig .tc := ⟨.hbm, 196, rfl⟩
abbrev main_v101 : Ref sig .tc := ⟨.hbm, 197, rfl⟩
abbrev main_cst_12 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_cst_13 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_call10_v0 : Ref sig .tc := ⟨.hbm, 212, rfl⟩
abbrev main_call10_v1 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_call11_c : Ref sig .tc := ⟨.hbm, 219, rfl⟩
abbrev main_call11_v0 : Ref sig .tc := ⟨.hbm, 220, rfl⟩
abbrev main_call11_v1 : Ref sig .tc := ⟨.hbm, 221, rfl⟩
abbrev main_call11_c_0 : Ref sig .tc := ⟨.hbm, 222, rfl⟩
abbrev main_call11_v2 : Ref sig .tc := ⟨.hbm, 223, rfl⟩
abbrev main_call11_v3 : Ref sig .tc := ⟨.hbm, 224, rfl⟩
abbrev main_call11_v4 : Ref sig .tc := ⟨.hbm, 225, rfl⟩
abbrev main_call11_c_1 : Ref sig .tc := ⟨.hbm, 226, rfl⟩
abbrev main_call11_c_2 : Ref sig .tc := ⟨.hbm, 227, rfl⟩
abbrev main_call11_v5 : Ref sig .tc := ⟨.hbm, 228, rfl⟩
abbrev main_call11_v6 : Ref sig .tc := ⟨.hbm, 229, rfl⟩
abbrev main_call11_v7 : Ref sig .tc := ⟨.hbm, 230, rfl⟩
abbrev main_call11_v8 : Ref sig .tc := ⟨.hbm, 231, rfl⟩
abbrev main_call11_v9 : Ref sig .tc := ⟨.hbm, 232, rfl⟩
abbrev main_call11_v10 : Ref sig .tc := ⟨.hbm, 233, rfl⟩
abbrev main_call11_c_3 : Ref sig .tc := ⟨.hbm, 234, rfl⟩
abbrev main_call11_v11 : Ref sig .tc := ⟨.hbm, 235, rfl⟩
abbrev main_call11_v12 : Ref sig .tc := ⟨.hbm, 236, rfl⟩
abbrev main_call11_v13 : Ref sig .tc := ⟨.hbm, 237, rfl⟩
abbrev main_call11_cst : Ref sig .tc := ⟨.hbm, 238, rfl⟩
abbrev main_call11_v14 : Ref sig .tc := ⟨.hbm, 239, rfl⟩
abbrev main_v119 : Ref sig .tc := ⟨.hbm, 240, rfl⟩
abbrev main_v120 : Ref sig .tc := ⟨.hbm, 241, rfl⟩
abbrev main_call12_c : Ref sig .tc := ⟨.hbm, 242, rfl⟩
abbrev main_call12_v0 : Ref sig .tc := ⟨.hbm, 243, rfl⟩
abbrev main_call12_v1 : Ref sig .tc := ⟨.hbm, 244, rfl⟩
abbrev main_call12_c_0 : Ref sig .tc := ⟨.hbm, 245, rfl⟩
abbrev main_call12_v2 : Ref sig .tc := ⟨.hbm, 246, rfl⟩
abbrev main_call12_v3 : Ref sig .tc := ⟨.hbm, 247, rfl⟩
abbrev main_call12_v4 : Ref sig .tc := ⟨.hbm, 248, rfl⟩
abbrev main_call12_v5 : Ref sig .tc := ⟨.hbm, 249, rfl⟩
abbrev main_call12_c_1 : Ref sig .tc := ⟨.hbm, 250, rfl⟩
abbrev main_call12_c_2 : Ref sig .tc := ⟨.hbm, 251, rfl⟩
abbrev main_call12_v6 : Ref sig .tc := ⟨.hbm, 252, rfl⟩
abbrev main_call12_v7 : Ref sig .tc := ⟨.hbm, 253, rfl⟩
abbrev main_call12_v8 : Ref sig .tc := ⟨.hbm, 254, rfl⟩
abbrev main_call12_v9 : Ref sig .tc := ⟨.hbm, 255, rfl⟩
abbrev main_call12_v10 : Ref sig .tc := ⟨.hbm, 256, rfl⟩
abbrev main_call12_v11 : Ref sig .tc := ⟨.hbm, 257, rfl⟩
abbrev main_call12_c_3 : Ref sig .tc := ⟨.hbm, 258, rfl⟩
abbrev main_call12_v12 : Ref sig .tc := ⟨.hbm, 259, rfl⟩
abbrev main_call12_v13 : Ref sig .tc := ⟨.hbm, 260, rfl⟩
abbrev main_call12_cst : Ref sig .tc := ⟨.hbm, 261, rfl⟩
abbrev main_call12_v14 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_cst_14 : Ref sig .tc := ⟨.hbm, 267, rfl⟩
abbrev main_v125 : Ref sig .tc := ⟨.hbm, 268, rfl⟩
abbrev main_v126 : Ref sig .tc := ⟨.hbm, 269, rfl⟩
abbrev main_v127 : Ref sig .tc := ⟨.hbm, 270, rfl⟩
abbrev main_v128 : Ref sig .tc := ⟨.hbm, 271, rfl⟩
abbrev main_v129 : Ref sig .tc := ⟨.hbm, 272, rfl⟩
abbrev main_cst_15 : Ref sig .tc := ⟨.hbm, 273, rfl⟩
abbrev main_v130 : Ref sig .tc := ⟨.hbm, 274, rfl⟩
abbrev main_v131 : Ref sig .tc := ⟨.hbm, 275, rfl⟩
abbrev main_v132 : Ref sig .tc := ⟨.hbm, 276, rfl⟩
abbrev main_v133 : Ref sig .tc := ⟨.hbm, 277, rfl⟩
abbrev main_v134 : Ref sig .tc := ⟨.hbm, 278, rfl⟩
abbrev main_v135 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_cst_16 : Ref sig .tc := ⟨.hbm, 283, rfl⟩
abbrev main_v139 : Ref sig .tc := ⟨.hbm, 284, rfl⟩
abbrev main_v140 : Ref sig .tc := ⟨.hbm, 285, rfl⟩
abbrev main_v141 : Ref sig .tc := ⟨.hbm, 286, rfl⟩

abbrev nD : Nat := 1
abbrev τ : Topo := Topo.v7x

variable {F : FTy → Type} [FloatOps F]
-- ==== Proof.Stages.lean ====
/- The reference's mathematics in stages: each function below is what one stretch of its operations computes, from the
   values the stretch reads to a value it leaves for later ones. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Lsh

open Cert.ReferenceIdeal Cert.ReferenceIdeal.Gen Idealize.ShloMosaic Idealize.ShloMosaic.TcCoe Idealize.SL.Sem Idealize.ShloMosaic.StableHlo

variable {F : FTy → Type} [FloatOps F]

/-- Two pieces joined along one axis. -/
def cat_v34 (a : (⟨S1x2048x16x32x1, .f32⟩ : BufTy).Contents (Elt F)) (b : (⟨S1x2048x16x32x1, .f32⟩ : BufTy).Contents (Elt F)) : (⟨S1x2048x16x32x2, .f32⟩ : BufTy).Contents (Elt F) :=
  concatenate S1x2048x16x32x2 4 [⟨S1x2048x16x32x1, a⟩, ⟨S1x2048x16x32x1, b⟩] concatenates_S1x2048x16x32x1_S1x2048x16x32x1_S1x2048x16x32x2_d4

/-- Two pieces joined along one axis. -/
def cat_v45 (a : (⟨S1x16x2x2048x8, .f32⟩ : BufTy).Contents (Elt F)) (b : (⟨S1x16x2x2048x8, .f32⟩ : BufTy).Contents (Elt F)) : (⟨S1x16x2x2048x16, .f32⟩ : BufTy).Contents (Elt F) :=
  concatenate S1x16x2x2048x16 4 [⟨S1x16x2x2048x8, a⟩, ⟨S1x16x2x2048x8, b⟩] concatenates_S1x16x2x2048x8_S1x16x2x2048x8_S1x16x2x2048x16_d4

/-- Two pieces joined along one axis. -/
def cat_v84 (a : (⟨S16x1x256x64, .f32⟩ : BufTy).Contents (Elt F)) (b : (⟨S16x15x256x64, .f32⟩ : BufTy).Contents (Elt F)) : (⟨S16x16x256x64, .f32⟩ : BufTy).Contents (Elt F) :=
  concatenate S16x16x256x64 1 [⟨S16x1x256x64, a⟩, ⟨S16x15x256x64, b⟩] concatenates_S16x1x256x64_S16x15x256x64_S16x16x256x64_d1

/-- Two pieces joined along one axis. -/
def cat_v85 (a : (⟨S16x16x256x64, .f32⟩ : BufTy).Contents (Elt F)) (b : (⟨S16x16x256x64, .f32⟩ : BufTy).Contents (Elt F)) : (⟨S16x16x512x64, .f32⟩ : BufTy).Contents (Elt F) :=
  concatenate S16x16x512x64 2 [⟨S16x16x256x64, a⟩, ⟨S16x16x256x64, b⟩] concatenates_S16x16x256x64_S16x16x256x64_S16x16x512x64_d2

/-- Two pieces joined along one axis. -/
def cat_v88 (a : (⟨S16x1x256, .i32⟩ : BufTy).Contents (Elt F)) (b : (⟨S16x15x256, .i32⟩ : BufTy).Contents (Elt F)) : (⟨S16x16x256, .i32⟩ : BufTy).Contents (Elt F) :=
  concatenate S16x16x256 1 [⟨S16x1x256, a⟩, ⟨S16x15x256, b⟩] concatenates_S16x1x256_S16x15x256_S16x16x256_d1

/-- Two pieces joined along one axis. -/
def cat_v89 (a : (⟨S16x16x256, .i32⟩ : BufTy).Contents (Elt F)) (b : (⟨S16x16x256, .i32⟩ : BufTy).Contents (Elt F)) : (⟨S16x16x512, .i32⟩ : BufTy).Contents (Elt F) :=
  concatenate S16x16x512 2 [⟨S16x16x256, a⟩, ⟨S16x16x256, b⟩] concatenates_S16x16x256_S16x16x256_S16x16x512_d2

/-- Two pieces joined along one axis. -/
def cat_v114 (a : (⟨S16x1x256x64, .f32⟩ : BufTy).Contents (Elt F)) (b : (⟨S16x15x256x64, .f32⟩ : BufTy).Contents (Elt F)) : (⟨S16x16x256x64, .f32⟩ : BufTy).Contents (Elt F) :=
  concatenate S16x16x256x64 1 [⟨S16x1x256x64, a⟩, ⟨S16x15x256x64, b⟩] concatenates_S16x1x256x64_S16x15x256x64_S16x16x256x64_d1

/-- Two pieces joined along one axis. -/
def cat_v115 (a : (⟨S16x16x256x64, .f32⟩ : BufTy).Contents (Elt F)) (b : (⟨S16x16x256x64, .f32⟩ : BufTy).Contents (Elt F)) : (⟨S16x16x512x64, .f32⟩ : BufTy).Contents (Elt F) :=
  concatenate S16x16x512x64 2 [⟨S16x16x256x64, a⟩, ⟨S16x16x256x64, b⟩] concatenates_S16x16x256x64_S16x16x256x64_S16x16x512x64_d2

/-- The shared queries and keys, head by head. -/
def s_v1 (arg0 : (⟨S1x2048x1024, .f32⟩ : BufTy).Contents (Elt F)) (arg1 : (⟨S1024x1024, .f32⟩ : BufTy).Contents (Elt F)) : (⟨S1x2048x16x64, .f32⟩ : BufTy).Contents (Elt F) :=
  let v0 : (⟨S1x2048x1024, .f32⟩ : BufTy).Contents (Elt F) := Host.dotGeneral dot_S1x2048x1024_S1024x1024_S1x2048x1024_2_0_01_1_n_n none arg0 arg1
  shapeCast _ v0 shapeCasts_S1x2048x1024_S1x2048x16x64

/-- The values, head by head. -/
def s_v3 (arg0 : (⟨S1x2048x1024, .f32⟩ : BufTy).Contents (Elt F)) (arg2 : (⟨S1024x1024, .f32⟩ : BufTy).Contents (Elt F)) : (⟨S1x2048x16x64, .f32⟩ : BufTy).Contents (Elt F) :=
  let v2 : (⟨S1x2048x1024, .f32⟩ : BufTy).Contents (Elt F) := Host.dotGeneral dot_S1x2048x1024_S1024x1024_S1x2048x1024_2_0_01_1_n_n none arg0 arg2
  shapeCast _ v2 shapeCasts_S1x2048x1024_S1x2048x16x64

/-- The sine table, each frequency twice. -/
def s_v23 : (⟨S2048x64, .f32⟩ : BufTy).Contents (Elt F) :=
  let v15 : (⟨S2048, .f32⟩ : BufTy).Contents (Elt F) := (sitofp .f32 (iotaInDim S2048 32 0))
  let v16 : (⟨S2048x1, .f32⟩ : BufTy).Contents (Elt F) := broadcastInDim S2048x1 ![0] bcast_S2048_S2048x1_0 v15
  let v18 : (⟨S2048x32, .f32⟩ : BufTy).Contents (Elt F) := broadcastInDim S2048x32 ![0, 1] bcast_S2048x1_S2048x32_0_1 v16
  let cst_3 : (⟨S_, .f32⟩ : BufTy).Contents (Elt F) := (constant S_ .f32 0x3F800000#32)
  let v13 : (⟨S32, .f32⟩ : BufTy).Contents (Elt F) := broadcastInDim S32 ![] bcast_S_S32 cst_3
  let cst_2 : (⟨S_, .f32⟩ : BufTy).Contents (Elt F) := (constant S_ .f32 0x461C4000#32)
  let v11 : (⟨S32, .f32⟩ : BufTy).Contents (Elt F) := broadcastInDim S32 ![] bcast_S_S32 cst_2
  let cst_0 : (⟨S_, .f32⟩ : BufTy).Contents (Elt F) := (constant S_ .f32 0x00000000#32)
  let v7 : (⟨S32, .f32⟩ : BufTy).Contents (Elt F) := broadcastInDim S32 ![] bcast_S_S32 cst_0
  let cst : (⟨S_, .f32⟩ : BufTy).Contents (Elt F) := (constant S_ .f32 0x40000000#32)
  let v5 : (⟨S32, .f32⟩ : BufTy).Contents (Elt F) := broadcastInDim S32 ![] bcast_S_S32 cst
  let v4 : (⟨S32, .f32⟩ : BufTy).Contents (Elt F) := (sitofp .f32 (iotaInDim S32 32 0))
  let v6 : (⟨S32, .f32⟩ : BufTy).Contents (Elt F) := mulf v5 v4
  let v8 : (⟨S32, .f32⟩ : BufTy).Contents (Elt F) := addf v7 v6
  let cst_1 : (⟨S_, .f32⟩ : BufTy).Contents (Elt F) := (constant S_ .f32 0x42800000#32)
  let v9 : (⟨S32, .f32⟩ : BufTy).Contents (Elt F) := broadcastInDim S32 ![] bcast_S_S32 cst_1
  let v10 : (⟨S32, .f32⟩ : BufTy).Contents (Elt F) := Host.divf v8 v9
  let v12 : (⟨S32, .f32⟩ : BufTy).Contents (Elt F) := Host.powf v11 v10
  let v14 : (⟨S32, .f32⟩ : BufTy).Contents (Elt F) := Host.divf v13 v12
  let v17 : (⟨S1x32, .f32⟩ : BufTy).Contents (Elt F) := broadcastInDim S1x32 ![1] bcast_S32_S1x32_1 v14
  let v19 : (⟨S2048x32, .f32⟩ : BufTy).Contents (Elt F) := broadcastInDim S2048x32 ![0, 1] bcast_S1x32_S2048x32_0_1 v17
  let v20 : (⟨S2048x32, .f32⟩ : BufTy).Contents (Elt F) := mulf v18 v19
  let v21 : (⟨S2048x32, .f32⟩ : BufTy).Contents (Elt F) := Host.sin v20
  let v22 : (⟨S2048x32x2, .f32⟩ : BufTy).Contents (Elt F) := broadcastInDim S2048x32x2 ![0, 1] bcast_S2048x32_S2048x32x2_0_1 v21
  shapeCast _ v22 shapeCasts_S2048x32x2_S2048x64

/-- The cosine table, each frequency twice. -/
def s_v27 : (⟨S2048x64, .f32⟩ : BufTy).Contents (Elt F) :=
  let v15 : (⟨S2048, .f32⟩ : BufTy).Contents (Elt F) := (sitofp .f32 (iotaInDim S2048 32 0))
  let v16 : (⟨S2048x1, .f32⟩ : BufTy).Contents (Elt F) := broadcastInDim S2048x1 ![0] bcast_S2048_S2048x1_0 v15
  let v18 : (⟨S2048x32, .f32⟩ : BufTy).Contents (Elt F) := broadcastInDim S2048x32 ![0, 1] bcast_S2048x1_S2048x32_0_1 v16
  let cst_3 : (⟨S_, .f32⟩ : BufTy).Contents (Elt F) := (constant S_ .f32 0x3F800000#32)
  let v13 : (⟨S32, .f32⟩ : BufTy).Contents (Elt F) := broadcastInDim S32 ![] bcast_S_S32 cst_3
  let cst_2 : (⟨S_, .f32⟩ : BufTy).Contents (Elt F) := (constant S_ .f32 0x461C4000#32)
  let v11 : (⟨S32, .f32⟩ : BufTy).Contents (Elt F) := broadcastInDim S32 ![] bcast_S_S32 cst_2
  let cst_0 : (⟨S_, .f32⟩ : BufTy).Contents (Elt F) := (constant S_ .f32 0x00000000#32)
  let v7 : (⟨S32, .f32⟩ : BufTy).Contents (Elt F) := broadcastInDim S32 ![] bcast_S_S32 cst_0
  let cst : (⟨S_, .f32⟩ : BufTy).Contents (Elt F) := (constant S_ .f32 0x40000000#32)
  let v5 : (⟨S32, .f32⟩ : BufTy).Contents (Elt F) := broadcastInDim S32 ![] bcast_S_S32 cst
  let v4 : (⟨S32, .f32⟩ : BufTy).Contents (Elt F) := (sitofp .f32 (iotaInDim S32 32 0))
  let v6 : (⟨S32, .f32⟩ : BufTy).Contents (Elt F) := mulf v5 v4
  let v8 : (⟨S32, .f32⟩ : BufTy).Contents (Elt F) := addf v7 v6
  let cst_1 : (⟨S_, .f32⟩ : BufTy).Contents (Elt F) := (constant S_ .f32 0x42800000#32)
  let v9 : (⟨S32, .f32⟩ : BufTy).Contents (Elt F) := broadcastInDim S32 ![] bcast_S_S32 cst_1
  let v10 : (⟨S32, .f32⟩ : BufTy).Contents (Elt F) := Host.divf v8 v9
  let v12 : (⟨S32, .f32⟩ : BufTy).Contents (Elt F) := Host.powf v11 v10
  let v14 : (⟨S32, .f32⟩ : BufTy).Contents (Elt F) := Host.divf v13 v12
  let v17 : (⟨S1x32, .f32⟩ : BufTy).Contents (Elt F) := broadcastInDim S1x32 ![1] bcast_S32_S1x32_1 v14
  let v19 : (⟨S2048x32, .f32⟩ : BufTy).Contents (Elt F) := broadcastInDim S2048x32 ![0, 1] bcast_S1x32_S2048x32_0_1 v17
  let v20 : (⟨S2048x32, .f32⟩ : BufTy).Contents (Elt F) := mulf v18 v19
  let v25 : (⟨S2048x32, .f32⟩ : BufTy).Contents (Elt F) := Host.cos v20
  let v26 : (⟨S2048x32x2, .f32⟩ : BufTy).Contents (Elt F) := broadcastInDim S2048x32x2 ![0, 1] bcast_S2048x32_S2048x32x2_0_1 v25
  shapeCast _ v26 shapeCasts_S2048x32x2_S2048x64

/-- The sine table with unit axes. -/
def s_v24 : (⟨S1x2048x1x64, .f32⟩ : BufTy).Contents (Elt F) :=
  let v23 : (⟨S2048x64, .f32⟩ : BufTy).Contents (Elt F) := s_v23 (F := F)
  broadcastInDim S1x2048x1x64 ![1, 3] bcast_S2048x64_S1x2048x1x64_1_3 v23

/-- The cosine table with unit axes. -/
def s_v28 : (⟨S1x2048x1x64, .f32⟩ : BufTy).Contents (Elt F) :=
  let v27 : (⟨S2048x64, .f32⟩ : BufTy).Contents (Elt F) := s_v27 (F := F)
  broadcastInDim S1x2048x1x64 ![1, 3] bcast_S2048x64_S1x2048x1x64_1_3 v27

/-- The rotary embedding, heads in front. -/
def s_v41 (v1 : (⟨S1x2048x16x64, .f32⟩ : BufTy).Contents (Elt F)) (v28 : (⟨S1x2048x1x64, .f32⟩ : BufTy).Contents (Elt F)) (v24 : (⟨S1x2048x1x64, .f32⟩ : BufTy).Contents (Elt F)) : (⟨S1x16x2048x64, .f32⟩ : BufTy).Contents (Elt F) :=
  let v36 : (⟨S1x2048x16x64, .f32⟩ : BufTy).Contents (Elt F) := broadcastInDim S1x2048x16x64 ![0, 1, 2, 3] bcast_S1x2048x1x64_S1x2048x16x64_0_1_2_3 v28
  let v37 : (⟨S1x2048x16x64, .f32⟩ : BufTy).Contents (Elt F) := mulf v1 v36
  let v29 : (⟨S1x2048x16x32, .f32⟩ : BufTy).Contents (Elt F) := Host.slice S1x2048x16x32 ![0, 0, 0, 1] ![1, 1, 1, 2] v1 slicesBy_S1x2048x16x64_S1x2048x16x32_0s1_0s1_0s1_1s2
  let v30 : (⟨S1x2048x16x32, .f32⟩ : BufTy).Contents (Elt F) := Host.negf v29
  let v32 : (⟨S1x2048x16x32x1, .f32⟩ : BufTy).Contents (Elt F) := broadcastInDim S1x2048x16x32x1 ![0, 1, 2, 3] bcast_S1x2048x16x32_S1x2048x16x32x1_0_1_2_3 v30
  let v31 : (⟨S1x2048x16x32, .f32⟩ : BufTy).Contents (Elt F) := Host.slice S1x2048x16x32 ![0, 0, 0, 0] ![1, 1, 1, 2] v1 slicesBy_S1x2048x16x64_S1x2048x16x32_0s1_0s1_0s1_0s2
  let v33 : (⟨S1x2048x16x32x1, .f32⟩ : BufTy).Contents (Elt F) := broadcastInDim S1x2048x16x32x1 ![0, 1, 2, 3] bcast_S1x2048x16x32_S1x2048x16x32x1_0_1_2_3 v31
  let v34 : (⟨S1x2048x16x32x2, .f32⟩ : BufTy).Contents (Elt F) := cat_v34 v32 v33
  let v35 : (⟨S1x2048x16x64, .f32⟩ : BufTy).Contents (Elt F) := shapeCast _ v34 shapeCasts_S1x2048x16x32x2_S1x2048x16x64
  let v38 : (⟨S1x2048x16x64, .f32⟩ : BufTy).Contents (Elt F) := broadcastInDim S1x2048x16x64 ![0, 1, 2, 3] bcast_S1x2048x1x64_S1x2048x16x64_0_1_2_3 v24
  let v39 : (⟨S1x2048x16x64, .f32⟩ : BufTy).Contents (Elt F) := mulf v35 v38
  let v40 : (⟨S1x2048x16x64, .f32⟩ : BufTy).Contents (Elt F) := addf v37 v39
  transpose S1x16x2048x64 [0, 2, 1, 3] v40 transposes_S1x2048x16x64_S1x16x2048x64_0_2_1_3

/-- The projections on the hash directions and their negatives. -/
def s_v45 (arg3 : (⟨S16x64x2x8, .f32⟩ : BufTy).Contents (Elt F)) (v41 : (⟨S1x16x2048x64, .f32⟩ : BufTy).Contents (Elt F)) : (⟨S1x16x2x2048x16, .f32⟩ : BufTy).Contents (Elt F) :=
  let v42 : (⟨S16x2x8x1x2048, .f32⟩ : BufTy).Contents (Elt F) := Host.dotGeneral dot_S16x64x2x8_S1x16x2048x64_S16x2x8x1x2048_1_3_23_02_0_1 none arg3 v41
  let v43 : (⟨S1x16x2x2048x8, .f32⟩ : BufTy).Contents (Elt F) := transpose S1x16x2x2048x8 [3, 0, 1, 4, 2] v42 transposes_S16x2x8x1x2048_S1x16x2x2048x8_3_0_1_4_2
  let v44 : (⟨S1x16x2x2048x8, .f32⟩ : BufTy).Contents (Elt F) := Host.negf v43
  cat_v45 v43 v44

/-- The bucket: the position of the largest projection. -/
def s_v46 (v45 : (⟨S1x16x2x2048x16, .f32⟩ : BufTy).Contents (Elt F)) : (⟨S1x16x2x2048, .i32⟩ : BufTy).Contents (Elt F) :=
  let call0_v0 : (⟨S1x16x2x2048x16, .i32⟩ : BufTy).Contents (Elt F) := (iotaInDim S1x16x2x2048x16 32 4)
  let call0_cst : (⟨S_, .f32⟩ : BufTy).Contents (Elt F) := (constant S_ .f32 0xFF800000#32)
  let call0_c : (⟨S_, .i32⟩ : BufTy).Contents (Elt F) := (constantI S_ 32 0#32)
  fun j => (Host.argReduce reducer_argmax_f32_i32 v45 call0_v0 call0_cst call0_c reducesTo_S1x16x2x2048x16_S1x16x2x2048_d4 h_S_ j).2

/-- Buckets numbered over both rounds. -/
def s_v53 (v46 : (⟨S1x16x2x2048, .i32⟩ : BufTy).Contents (Elt F)) : (⟨S16x4096, .i32⟩ : BufTy).Contents (Elt F) :=
  let v47 : (⟨S2, .i32⟩ : BufTy).Contents (Elt F) := (iotaInDim S2 32 0)
  let c : (⟨S_, .i32⟩ : BufTy).Contents (Elt F) := (constantI S_ 32 16#32)
  let v48 : (⟨S2, .i32⟩ : BufTy).Contents (Elt F) := broadcastInDim S2 ![] bcast_S_S2 c
  let v49 : (⟨S2, .i32⟩ : BufTy).Contents (Elt F) := muli v47 v48
  let v50 : (⟨S1x1x2x1, .i32⟩ : BufTy).Contents (Elt F) := shapeCast _ v49 shapeCasts_S2_S1x1x2x1
  let v51 : (⟨S1x16x2x2048, .i32⟩ : BufTy).Contents (Elt F) := broadcastInDim S1x16x2x2048 ![0, 1, 2, 3] bcast_S1x1x2x1_S1x16x2x2048_0_1_2_3 v50
  let v52 : (⟨S1x16x2x2048, .i32⟩ : BufTy).Contents (Elt F) := addi v46 v51
  shapeCast _ v52 shapeCasts_S1x16x2x2048_S16x4096

/-- Queries without the batch axis. -/
def s_v54 (v41 : (⟨S1x16x2048x64, .f32⟩ : BufTy).Contents (Elt F)) : (⟨S16x2048x64, .f32⟩ : BufTy).Contents (Elt F) :=
  shapeCast _ v41 shapeCasts_S1x16x2048x64_S16x2048x64

/-- Values without the batch axis, heads in front. -/
def s_v56 (v3 : (⟨S1x2048x16x64, .f32⟩ : BufTy).Contents (Elt F)) : (⟨S16x2048x64, .f32⟩ : BufTy).Contents (Elt F) :=
  let v55 : (⟨S2048x16x64, .f32⟩ : BufTy).Contents (Elt F) := shapeCast _ v3 shapeCasts_S1x2048x16x64_S2048x16x64
  transpose S16x2048x64 [1, 0, 2] v55 transposes_S2048x16x64_S16x2048x64_1_0_2

/-- The sorting key of every position. -/
def s_v62 (v53 : (⟨S16x4096, .i32⟩ : BufTy).Contents (Elt F)) : (⟨S16x4096, .i32⟩ : BufTy).Contents (Elt F) :=
  let c_4 : (⟨S_, .i32⟩ : BufTy).Contents (Elt F) := (constantI S_ 32 4096#32)
  let v57 : (⟨S16x4096, .i32⟩ : BufTy).Contents (Elt F) := broadcastInDim S16x4096 ![] bcast_S_S16x4096 c_4
  let v58 : (⟨S16x4096, .i32⟩ : BufTy).Contents (Elt F) := muli v57 v53
  let v59 : (⟨S4096, .i32⟩ : BufTy).Contents (Elt F) := (iotaInDim S4096 32 0)
  let v60 : (⟨S1x4096, .i32⟩ : BufTy).Contents (Elt F) := broadcastInDim S1x4096 ![1] bcast_S4096_S1x4096_1 v59
  let v61 : (⟨S16x4096, .i32⟩ : BufTy).Contents (Elt F) := broadcastInDim S16x4096 ![0, 1] bcast_S1x4096_S16x4096_0_1 v60
  addi v58 v61

/-- The positions in sorted order. -/
def s_v63 (v62 : (⟨S16x4096, .i32⟩ : BufTy).Contents (Elt F)) : (⟨S16x4096, .i32⟩ : BufTy).Contents (Elt F) :=
  let call1_v0 : (⟨S16x4096, .i32⟩ : BufTy).Contents (Elt F) := (iotaInDim S16x4096 32 1)
  (Host.sort2 S16x4096 1 comparator_i32_i32_d1 v62 call1_v0).2

/-- Where each position went. -/
def s_v64 (v63 : (⟨S16x4096, .i32⟩ : BufTy).Contents (Elt F)) : (⟨S16x4096, .i32⟩ : BufTy).Contents (Elt F) :=
  let call2_v0 : (⟨S16x4096, .i32⟩ : BufTy).Contents (Elt F) := (iotaInDim S16x4096 32 1)
  (Host.sort2 S16x4096 1 comparator_i32_i32_d1 v63 call2_v0).2

/-- The sorted positions within the sequence. -/
def s_v65 (v63 : (⟨S16x4096, .i32⟩ : BufTy).Contents (Elt F)) : (⟨S16x4096, .i32⟩ : BufTy).Contents (Elt F) :=
  let c_5 : (⟨S_, .i32⟩ : BufTy).Contents (Elt F) := (constantI S_ 32 2048#32)
  let call3_v0 : (⟨S_, .i32⟩ : BufTy).Contents (Elt F) := id c_5
  let call3_c : (⟨S_, .i32⟩ : BufTy).Contents (Elt F) := (constantI S_ 32 0#32)
  let call3_v1 : (⟨S_, .i1⟩ : BufTy).Contents (Elt F) := (cmpi .eq) call3_v0 call3_c
  let call3_c_0 : (⟨S_, .i32⟩ : BufTy).Contents (Elt F) := (constantI S_ 32 1#32)
  let call3_v2 : (⟨S_, .i32⟩ : BufTy).Contents (Elt F) := select call3_v1 call3_c_0 call3_v0
  let call3_v3 : (⟨S16x4096, .i32⟩ : BufTy).Contents (Elt F) := (broadcastInDim S16x4096 ![] bcast_S_S16x4096) call3_v2
  let call3_v4 : (⟨S16x4096, .i32⟩ : BufTy).Contents (Elt F) := Host.remsi v63 call3_v3
  let call3_c_2 : (⟨S_, .i32⟩ : BufTy).Contents (Elt F) := (constantI S_ 32 0#32)
  let call3_v7 : (⟨S16x4096, .i32⟩ : BufTy).Contents (Elt F) := (broadcastInDim S16x4096 ![] bcast_S_S16x4096) call3_c_2
  let call3_v8 : (⟨S16x4096, .i1⟩ : BufTy).Contents (Elt F) := (cmpi .slt) call3_v4 call3_v7
  let call3_c_3 : (⟨S_, .i32⟩ : BufTy).Contents (Elt F) := (constantI S_ 32 0#32)
  let call3_v9 : (⟨S_, .i1⟩ : BufTy).Contents (Elt F) := (cmpi .slt) call3_v2 call3_c_3
  let call3_v10 : (⟨S16x4096, .i1⟩ : BufTy).Contents (Elt F) := (broadcastInDim S16x4096 ![] bcast_S_S16x4096) call3_v9
  let call3_v11 : (⟨S16x4096, .i1⟩ : BufTy).Contents (Elt F) := (cmpi .ne) call3_v8 call3_v10
  let call3_c_1 : (⟨S_, .i32⟩ : BufTy).Contents (Elt F) := (constantI S_ 32 0#32)
  let call3_v5 : (⟨S16x4096, .i32⟩ : BufTy).Contents (Elt F) := (broadcastInDim S16x4096 ![] bcast_S_S16x4096) call3_c_1
  let call3_v6 : (⟨S16x4096, .i1⟩ : BufTy).Contents (Elt F) := (cmpi .ne) call3_v4 call3_v5
  let call3_v12 : (⟨S16x4096, .i1⟩ : BufTy).Contents (Elt F) := andi call3_v11 call3_v6
  let call3_v13 : (⟨S16x4096, .i32⟩ : BufTy).Contents (Elt F) := (broadcastInDim S16x4096 ![] bcast_S_S16x4096) call3_v2
  let call3_v14 : (⟨S16x4096, .i32⟩ : BufTy).Contents (Elt F) := addi call3_v4 call3_v13
  select call3_v12 call3_v14 call3_v4

/-- Queries in sorted order. -/
def s_v67 (v65 : (⟨S16x4096, .i32⟩ : BufTy).Contents (Elt F)) (v54 : (⟨S16x2048x64, .f32⟩ : BufTy).Contents (Elt F)) : (⟨S16x4096x64, .f32⟩ : BufTy).Contents (Elt F) :=
  let v66 : (⟨S16x4096x1, .i32⟩ : BufTy).Contents (Elt F) := broadcastInDim S16x4096x1 ![0, 1] bcast_S16x4096_S16x4096x1_0_1 v65
  let call4_c : (⟨S_, .i32⟩ : BufTy).Contents (Elt F) := (constantI S_ 32 0#32)
  let call4_v0 : (⟨S16x4096x1, .i32⟩ : BufTy).Contents (Elt F) := (broadcastInDim S16x4096x1 ![] bcast_S_S16x4096x1) call4_c
  let call4_v1 : (⟨S16x4096x1, .i1⟩ : BufTy).Contents (Elt F) := (cmpi .slt) v66 call4_v0
  let call4_c_0 : (⟨S_, .i32⟩ : BufTy).Contents (Elt F) := (constantI S_ 32 2048#32)
  let call4_v2 : (⟨S16x4096x1, .i32⟩ : BufTy).Contents (Elt F) := (broadcastInDim S16x4096x1 ![] bcast_S_S16x4096x1) call4_c_0
  let call4_v3 : (⟨S16x4096x1, .i32⟩ : BufTy).Contents (Elt F) := addi v66 call4_v2
  let call4_v4 : (⟨S16x4096x1, .i32⟩ : BufTy).Contents (Elt F) := select call4_v1 call4_v3 v66
  let call4_c_2 : (⟨S_, .i32⟩ : BufTy).Contents (Elt F) := (constantI S_ 32 0#32)
  let call4_v5 : (⟨S16x4096x1, .i32⟩ : BufTy).Contents (Elt F) := (broadcastInDim S16x4096x1 ![] bcast_S_S16x4096x1) call4_c_2
  let call4_v6 : (⟨S16x4096x1, .i1⟩ : BufTy).Contents (Elt F) := (cmpi .sge) call4_v4 call4_v5
  let call4_c_1 : (⟨S1, .i32⟩ : BufTy).Contents (Elt F) := (constantI S1 32 2047#32)
  let call4_v7 : (⟨S1x1x1, .i32⟩ : BufTy).Contents (Elt F) := (broadcastInDim S1x1x1 ![2] bcast_S1_S1x1x1_2) call4_c_1
  let call4_v8 : (⟨S16x4096x1, .i32⟩ : BufTy).Contents (Elt F) := (broadcastInDim S16x4096x1 ![0, 1, 2] bcast_S1x1x1_S16x4096x1_0_1_2) call4_v7
  let call4_v9 : (⟨S16x4096x1, .i1⟩ : BufTy).Contents (Elt F) := (cmpi .sle) call4_v4 call4_v8
  let call4_v10 : (⟨S16x4096x1, .i1⟩ : BufTy).Contents (Elt F) := andi call4_v6 call4_v9
  let call4_c_3 : (⟨S_, .i1⟩ : BufTy).Contents (Elt F) := (constantI S_ 1 1#1)
  let call4_v11 : (⟨S16x4096, .i1⟩ : BufTy).Contents (Elt F) := Host.reduce IntOp.andi call4_v10 call4_c_3 reducesTo_S16x4096x1_S16x4096_d2 h_S_
  let call4_v13 : (⟨S16x4096x64, .i1⟩ : BufTy).Contents (Elt F) := (broadcastInDim S16x4096x64 ![0, 1] bcast_S16x4096_S16x4096x64_0_1) call4_v11
  let call4_v12 : (⟨S16x4096x64, .f32⟩ : BufTy).Contents (Elt F) := Host.gather gather_S16x2048x64_S16x4096x1_S16x4096x64_2_1_0_0_1_2_1164 v54 call4_v4
  let call4_cst : (⟨S_, .f32⟩ : BufTy).Contents (Elt F) := (constant S_ .f32 0x7FC00000#32)
  let call4_v14 : (⟨S16x4096x64, .f32⟩ : BufTy).Contents (Elt F) := (broadcastInDim S16x4096x64 ![] bcast_S_S16x4096x64) call4_cst
  select call4_v13 call4_v12 call4_v14

/-- Queries in chunks. -/
def s_v68 (v65 : (⟨S16x4096, .i32⟩ : BufTy).Contents (Elt F)) (v54 : (⟨S16x2048x64, .f32⟩ : BufTy).Contents (Elt F)) : (⟨S16x16x256x64, .f32⟩ : BufTy).Contents (Elt F) :=
  let v67 : (⟨S16x4096x64, .f32⟩ : BufTy).Contents (Elt F) := s_v67 (F := F) v65 v54
  shapeCast _ v67 shapeCasts_S16x4096x64_S16x16x256x64

/-- Values in sorted order. -/
def s_v70 (v65 : (⟨S16x4096, .i32⟩ : BufTy).Contents (Elt F)) (v56 : (⟨S16x2048x64, .f32⟩ : BufTy).Contents (Elt F)) : (⟨S16x4096x64, .f32⟩ : BufTy).Contents (Elt F) :=
  let v69 : (⟨S16x4096x1, .i32⟩ : BufTy).Contents (Elt F) := broadcastInDim S16x4096x1 ![0, 1] bcast_S16x4096_S16x4096x1_0_1 v65
  let call5_c : (⟨S_, .i32⟩ : BufTy).Contents (Elt F) := (constantI S_ 32 0#32)
  let call5_v0 : (⟨S16x4096x1, .i32⟩ : BufTy).Contents (Elt F) := (broadcastInDim S16x4096x1 ![] bcast_S_S16x4096x1) call5_c
  let call5_v1 : (⟨S16x4096x1, .i1⟩ : BufTy).Contents (Elt F) := (cmpi .slt) v69 call5_v0
  let call5_c_0 : (⟨S_, .i32⟩ : BufTy).Contents (Elt F) := (constantI S_ 32 2048#32)
  let call5_v2 : (⟨S16x4096x1, .i32⟩ : BufTy).Contents (Elt F) := (broadcastInDim S16x4096x1 ![] bcast_S_S16x4096x1) call5_c_0
  let call5_v3 : (⟨S16x4096x1, .i32⟩ : BufTy).Contents (Elt F) := addi v69 call5_v2
  let call5_v4 : (⟨S16x4096x1, .i32⟩ : BufTy).Contents (Elt F) := select call5_v1 call5_v3 v69
  let call5_c_2 : (⟨S_, .i32⟩ : BufTy).Contents (Elt F) := (constantI S_ 32 0#32)
  let call5_v5 : (⟨S16x4096x1, .i32⟩ : BufTy).Contents (Elt F) := (broadcastInDim S16x4096x1 ![] bcast_S_S16x4096x1) call5_c_2
  let call5_v6 : (⟨S16x4096x1, .i1⟩ : BufTy).Contents (Elt F) := (cmpi .sge) call5_v4 call5_v5
  let call5_c_1 : (⟨S1, .i32⟩ : BufTy).Contents (Elt F) := (constantI S1 32 2047#32)
  let call5_v7 : (⟨S1x1x1, .i32⟩ : BufTy).Contents (Elt F) := (broadcastInDim S1x1x1 ![2] bcast_S1_S1x1x1_2) call5_c_1
  let call5_v8 : (⟨S16x4096x1, .i32⟩ : BufTy).Contents (Elt F) := (broadcastInDim S16x4096x1 ![0, 1, 2] bcast_S1x1x1_S16x4096x1_0_1_2) call5_v7
  let call5_v9 : (⟨S16x4096x1, .i1⟩ : BufTy).Contents (Elt F) := (cmpi .sle) call5_v4 call5_v8
  let call5_v10 : (⟨S16x4096x1, .i1⟩ : BufTy).Contents (Elt F) := andi call5_v6 call5_v9
  let call5_c_3 : (⟨S_, .i1⟩ : BufTy).Contents (Elt F) := (constantI S_ 1 1#1)
  let call5_v11 : (⟨S16x4096, .i1⟩ : BufTy).Contents (Elt F) := Host.reduce IntOp.andi call5_v10 call5_c_3 reducesTo_S16x4096x1_S16x4096_d2 h_S_
  let call5_v13 : (⟨S16x4096x64, .i1⟩ : BufTy).Contents (Elt F) := (broadcastInDim S16x4096x64 ![0, 1] bcast_S16x4096_S16x4096x64_0_1) call5_v11
  let call5_v12 : (⟨S16x4096x64, .f32⟩ : BufTy).Contents (Elt F) := Host.gather gather_S16x2048x64_S16x4096x1_S16x4096x64_2_1_0_0_1_2_1164 v56 call5_v4
  let call5_cst : (⟨S_, .f32⟩ : BufTy).Contents (Elt F) := (constant S_ .f32 0x7FC00000#32)
  let call5_v14 : (⟨S16x4096x64, .f32⟩ : BufTy).Contents (Elt F) := (broadcastInDim S16x4096x64 ![] bcast_S_S16x4096x64) call5_cst
  select call5_v13 call5_v12 call5_v14

/-- Values in chunks. -/
def s_v71 (v65 : (⟨S16x4096, .i32⟩ : BufTy).Contents (Elt F)) (v56 : (⟨S16x2048x64, .f32⟩ : BufTy).Contents (Elt F)) : (⟨S16x16x256x64, .f32⟩ : BufTy).Contents (Elt F) :=
  let v70 : (⟨S16x4096x64, .f32⟩ : BufTy).Contents (Elt F) := s_v70 (F := F) v65 v56
  shapeCast _ v70 shapeCasts_S16x4096x64_S16x16x256x64

/-- Keys: queries scaled to unit mean square. -/
def s_v83 (v68 : (⟨S16x16x256x64, .f32⟩ : BufTy).Contents (Elt F)) : (⟨S16x16x256x64, .f32⟩ : BufTy).Contents (Elt F) :=
  let v72 : (⟨S16x16x256x64, .f32⟩ : BufTy).Contents (Elt F) := mulf v68 v68
  let cst_6 : (⟨S_, .f32⟩ : BufTy).Contents (Elt F) := (constant S_ .f32 0x00000000#32)
  let v73 : (⟨S16x16x256, .f32⟩ : BufTy).Contents (Elt F) := Host.reduceAdd v72 cst_6 reducesTo_S16x16x256x64_S16x16x256_d3 h_S_
  let v74 : (⟨S16x16x256x1, .f32⟩ : BufTy).Contents (Elt F) := broadcastInDim S16x16x256x1 ![0, 1, 2] bcast_S16x16x256_S16x16x256x1_0_1_2 v73
  let cst_7 : (⟨S_, .f32⟩ : BufTy).Contents (Elt F) := (constant S_ .f32 0x42800000#32)
  let v75 : (⟨S16x16x256x1, .f32⟩ : BufTy).Contents (Elt F) := broadcastInDim S16x16x256x1 ![] bcast_S_S16x16x256x1 cst_7
  let v76 : (⟨S16x16x256x1, .f32⟩ : BufTy).Contents (Elt F) := Host.divf v74 v75
  let cst_8 : (⟨S_, .f32⟩ : BufTy).Contents (Elt F) := (constant S_ .f32 0x358637BD#32)
  let v77 : (⟨S16x16x256x1, .f32⟩ : BufTy).Contents (Elt F) := broadcastInDim S16x16x256x1 ![] bcast_S_S16x16x256x1 cst_8
  let v78 : (⟨S16x16x256x1, .f32⟩ : BufTy).Contents (Elt F) := addf v76 v77
  let v79 : (⟨S16x16x256x1, .f32⟩ : BufTy).Contents (Elt F) := Host.rsqrt v78
  let v80 : (⟨S16x16x256x64, .f32⟩ : BufTy).Contents (Elt F) := broadcastInDim S16x16x256x64 ![0, 1, 2, 3] bcast_S16x16x256x1_S16x16x256x64_0_1_2_3 v79
  let v81 : (⟨S16x16x256x64, .f32⟩ : BufTy).Contents (Elt F) := mulf v68 v80
  let cst_9 : (⟨S_, .f32⟩ : BufTy).Contents (Elt F) := (constant S_ .f32 0x3E000000#32)
  let v82 : (⟨S16x16x256x64, .f32⟩ : BufTy).Contents (Elt F) := broadcastInDim S16x16x256x64 ![] bcast_S_S16x16x256x64 cst_9
  mulf v81 v82

/-- The keys each chunk attends to. -/
def s_v85 (v83 : (⟨S16x16x256x64, .f32⟩ : BufTy).Contents (Elt F)) : (⟨S16x16x512x64, .f32⟩ : BufTy).Contents (Elt F) :=
  let call6_v0 : (⟨S16x1x256x64, .f32⟩ : BufTy).Contents (Elt F) := extractStridedSlice S16x1x256x64 ![0, 15, 0, 0] v83 slices_S16x16x256x64_S16x1x256x64_0_15_0_0
  let call6_v1 : (⟨S16x15x256x64, .f32⟩ : BufTy).Contents (Elt F) := extractStridedSlice S16x15x256x64 ![0, 0, 0, 0] v83 slices_S16x16x256x64_S16x15x256x64_0_0_0_0
  let v84 : (⟨S16x16x256x64, .f32⟩ : BufTy).Contents (Elt F) := cat_v84 call6_v0 call6_v1
  cat_v85 v84 v83

/-- All dot products. -/
def s_v86 (v68 : (⟨S16x16x256x64, .f32⟩ : BufTy).Contents (Elt F)) (v83 : (⟨S16x16x256x64, .f32⟩ : BufTy).Contents (Elt F)) : (⟨S16x16x256x512, .f32⟩ : BufTy).Contents (Elt F) :=
  let v85 : (⟨S16x16x512x64, .f32⟩ : BufTy).Contents (Elt F) := s_v85 (F := F) v83
  Host.dotGeneral dot_S16x16x256x64_S16x16x512x64_S16x16x256x512_3_3_2_2_01_01 none v68 v85

/-- Positions in chunks. -/
def s_v87 (v65 : (⟨S16x4096, .i32⟩ : BufTy).Contents (Elt F)) : (⟨S16x16x256, .i32⟩ : BufTy).Contents (Elt F) :=
  shapeCast _ v65 shapeCasts_S16x4096_S16x16x256

/-- Key positions of each chunk. -/
def s_v89 (v65 : (⟨S16x4096, .i32⟩ : BufTy).Contents (Elt F)) : (⟨S16x16x512, .i32⟩ : BufTy).Contents (Elt F) :=
  let v87 : (⟨S16x16x256, .i32⟩ : BufTy).Contents (Elt F) := s_v87 (F := F) v65
  let call7_v0 : (⟨S16x1x256, .i32⟩ : BufTy).Contents (Elt F) := extractStridedSlice S16x1x256 ![0, 15, 0] v87 slices_S16x16x256_S16x1x256_0_15_0
  let call7_v1 : (⟨S16x15x256, .i32⟩ : BufTy).Contents (Elt F) := extractStridedSlice S16x15x256 ![0, 0, 0] v87 slices_S16x16x256_S16x15x256_0_0_0
  let v88 : (⟨S16x16x256, .i32⟩ : BufTy).Contents (Elt F) := cat_v88 call7_v0 call7_v1
  cat_v89 v88 v87

/-- Dot products under both masks. -/
def s_v101 (v65 : (⟨S16x4096, .i32⟩ : BufTy).Contents (Elt F)) (v86 : (⟨S16x16x256x512, .f32⟩ : BufTy).Contents (Elt F)) : (⟨S16x16x256x512, .f32⟩ : BufTy).Contents (Elt F) :=
  let v87 : (⟨S16x16x256, .i32⟩ : BufTy).Contents (Elt F) := s_v87 (F := F) v65
  let v96 : (⟨S16x16x256x1, .i32⟩ : BufTy).Contents (Elt F) := broadcastInDim S16x16x256x1 ![0, 1, 2] bcast_S16x16x256_S16x16x256x1_0_1_2 v87
  let v98 : (⟨S16x16x256x512, .i32⟩ : BufTy).Contents (Elt F) := broadcastInDim S16x16x256x512 ![0, 1, 2, 3] bcast_S16x16x256x1_S16x16x256x512_0_1_2_3 v96
  let v89 : (⟨S16x16x512, .i32⟩ : BufTy).Contents (Elt F) := s_v89 (F := F) v65
  let v97 : (⟨S16x16x1x512, .i32⟩ : BufTy).Contents (Elt F) := broadcastInDim S16x16x1x512 ![0, 1, 3] bcast_S16x16x512_S16x16x1x512_0_1_3 v89
  let v99 : (⟨S16x16x256x512, .i32⟩ : BufTy).Contents (Elt F) := broadcastInDim S16x16x256x512 ![0, 1, 2, 3] bcast_S16x16x1x512_S16x16x256x512_0_1_2_3 v97
  let v100 : (⟨S16x16x256x512, .i1⟩ : BufTy).Contents (Elt F) := cmpi .ne v98 v99
  let v90 : (⟨S16x16x256x1, .i32⟩ : BufTy).Contents (Elt F) := broadcastInDim S16x16x256x1 ![0, 1, 2] bcast_S16x16x256_S16x16x256x1_0_1_2 v87
  let v92 : (⟨S16x16x256x512, .i32⟩ : BufTy).Contents (Elt F) := broadcastInDim S16x16x256x512 ![0, 1, 2, 3] bcast_S16x16x256x1_S16x16x256x512_0_1_2_3 v90
  let v91 : (⟨S16x16x1x512, .i32⟩ : BufTy).Contents (Elt F) := broadcastInDim S16x16x1x512 ![0, 1, 3] bcast_S16x16x512_S16x16x1x512_0_1_3 v89
  let v93 : (⟨S16x16x256x512, .i32⟩ : BufTy).Contents (Elt F) := broadcastInDim S16x16x256x512 ![0, 1, 2, 3] bcast_S16x16x1x512_S16x16x256x512_0_1_2_3 v91
  let v94 : (⟨S16x16x256x512, .i1⟩ : BufTy).Contents (Elt F) := cmpi .sge v92 v93
  let cst_10 : (⟨S_, .f32⟩ : BufTy).Contents (Elt F) := (constant S_ .f32 0xCE6E6B28#32)
  let call8_v0 : (⟨S_, .f32⟩ : BufTy).Contents (Elt F) := id cst_10
  let call8_v1 : (⟨S16x16x256x512, .f32⟩ : BufTy).Contents (Elt F) := (broadcastInDim S16x16x256x512 ![] bcast_S_S16x16x256x512) call8_v0
  let v95 : (⟨S16x16x256x512, .f32⟩ : BufTy).Contents (Elt F) := select v94 v86 call8_v1
  let cst_11 : (⟨S_, .f32⟩ : BufTy).Contents (Elt F) := (constant S_ .f32 0xC7C35000#32)
  let call9_v0 : (⟨S_, .f32⟩ : BufTy).Contents (Elt F) := id cst_11
  let call9_v1 : (⟨S16x16x256x512, .f32⟩ : BufTy).Contents (Elt F) := (broadcastInDim S16x16x256x512 ![] bcast_S_S16x16x256x512) call9_v0
  select v100 v95 call9_v1

/-- The largest entry of a row. -/
def s_v103 (v101 : (⟨S16x16x256x512, .f32⟩ : BufTy).Contents (Elt F)) : (⟨S16x16x256x1, .f32⟩ : BufTy).Contents (Elt F) :=
  let cst_12 : (⟨S_, .f32⟩ : BufTy).Contents (Elt F) := (constant S_ .f32 0xFF800000#32)
  let v102 : (⟨S16x16x256, .f32⟩ : BufTy).Contents (Elt F) := Host.reduce FloatOps.maximumf v101 cst_12 reducesTo_S16x16x256x512_S16x16x256_d3 h_S_
  broadcastInDim S16x16x256x1 ![0, 1, 2] bcast_S16x16x256_S16x16x256x1_0_1_2 v102

/-- The same along the row. -/
def s_v104 (v101 : (⟨S16x16x256x512, .f32⟩ : BufTy).Contents (Elt F)) : (⟨S16x16x256x512, .f32⟩ : BufTy).Contents (Elt F) :=
  let v103 : (⟨S16x16x256x1, .f32⟩ : BufTy).Contents (Elt F) := s_v103 (F := F) v101
  broadcastInDim S16x16x256x512 ![0, 1, 2, 3] bcast_S16x16x256x1_S16x16x256x512_0_1_2_3 v103

/-- The logarithm of the sum of exponentials. -/
def s_v110 (v103 : (⟨S16x16x256x1, .f32⟩ : BufTy).Contents (Elt F)) (v101 : (⟨S16x16x256x512, .f32⟩ : BufTy).Contents (Elt F)) (v104 : (⟨S16x16x256x512, .f32⟩ : BufTy).Contents (Elt F)) : (⟨S16x16x256x1, .f32⟩ : BufTy).Contents (Elt F) :=
  let v105 : (⟨S16x16x256x512, .f32⟩ : BufTy).Contents (Elt F) := subf v101 v104
  let v106 : (⟨S16x16x256x512, .f32⟩ : BufTy).Contents (Elt F) := Host.exp v105
  let cst_13 : (⟨S_, .f32⟩ : BufTy).Contents (Elt F) := (constant S_ .f32 0x00000000#32)
  let v107 : (⟨S16x16x256, .f32⟩ : BufTy).Contents (Elt F) := Host.reduceAdd v106 cst_13 reducesTo_S16x16x256x512_S16x16x256_d3 h_S_
  let v108 : (⟨S16x16x256x1, .f32⟩ : BufTy).Contents (Elt F) := broadcastInDim S16x16x256x1 ![0, 1, 2] bcast_S16x16x256_S16x16x256x1_0_1_2 v107
  let v109 : (⟨S16x16x256x1, .f32⟩ : BufTy).Contents (Elt F) := Host.log v108
  addf v103 v109

/-- The softmax weights. -/
def s_v113 (v101 : (⟨S16x16x256x512, .f32⟩ : BufTy).Contents (Elt F)) (v110 : (⟨S16x16x256x1, .f32⟩ : BufTy).Contents (Elt F)) : (⟨S16x16x256x512, .f32⟩ : BufTy).Contents (Elt F) :=
  let v111 : (⟨S16x16x256x512, .f32⟩ : BufTy).Contents (Elt F) := broadcastInDim S16x16x256x512 ![0, 1, 2, 3] bcast_S16x16x256x1_S16x16x256x512_0_1_2_3 v110
  let v112 : (⟨S16x16x256x512, .f32⟩ : BufTy).Contents (Elt F) := subf v101 v111
  Host.exp v112

/-- The values each chunk attends to. -/
def s_v115 (v71 : (⟨S16x16x256x64, .f32⟩ : BufTy).Contents (Elt F)) : (⟨S16x16x512x64, .f32⟩ : BufTy).Contents (Elt F) :=
  let call10_v0 : (⟨S16x1x256x64, .f32⟩ : BufTy).Contents (Elt F) := extractStridedSlice S16x1x256x64 ![0, 15, 0, 0] v71 slices_S16x16x256x64_S16x1x256x64_0_15_0_0
  let call10_v1 : (⟨S16x15x256x64, .f32⟩ : BufTy).Contents (Elt F) := extractStridedSlice S16x15x256x64 ![0, 0, 0, 0] v71 slices_S16x16x256x64_S16x15x256x64_0_0_0_0
  let v114 : (⟨S16x16x256x64, .f32⟩ : BufTy).Contents (Elt F) := cat_v114 call10_v0 call10_v1
  cat_v115 v114 v71

/-- The attention output. -/
def s_v116 (v101 : (⟨S16x16x256x512, .f32⟩ : BufTy).Contents (Elt F)) (v110 : (⟨S16x16x256x1, .f32⟩ : BufTy).Contents (Elt F)) (v71 : (⟨S16x16x256x64, .f32⟩ : BufTy).Contents (Elt F)) : (⟨S16x16x256x64, .f32⟩ : BufTy).Contents (Elt F) :=
  let v113 : (⟨S16x16x256x512, .f32⟩ : BufTy).Contents (Elt F) := s_v113 (F := F) v101 v110
  let v115 : (⟨S16x16x512x64, .f32⟩ : BufTy).Contents (Elt F) := s_v115 (F := F) v71
  Host.dotGeneral dot_S16x16x256x512_S16x16x512x64_S16x16x256x64_3_2_2_3_01_01 none v113 v115

/-- Outputs in the order of the positions. -/
def s_v119 (v64 : (⟨S16x4096, .i32⟩ : BufTy).Contents (Elt F)) (v116 : (⟨S16x16x256x64, .f32⟩ : BufTy).Contents (Elt F)) : (⟨S16x4096x64, .f32⟩ : BufTy).Contents (Elt F) :=
  let v118 : (⟨S16x4096x1, .i32⟩ : BufTy).Contents (Elt F) := broadcastInDim S16x4096x1 ![0, 1] bcast_S16x4096_S16x4096x1_0_1 v64
  let call11_c : (⟨S_, .i32⟩ : BufTy).Contents (Elt F) := (constantI S_ 32 0#32)
  let call11_v0 : (⟨S16x4096x1, .i32⟩ : BufTy).Contents (Elt F) := (broadcastInDim S16x4096x1 ![] bcast_S_S16x4096x1) call11_c
  let call11_v1 : (⟨S16x4096x1, .i1⟩ : BufTy).Contents (Elt F) := (cmpi .slt) v118 call11_v0
  let call11_c_0 : (⟨S_, .i32⟩ : BufTy).Contents (Elt F) := (constantI S_ 32 4096#32)
  let call11_v2 : (⟨S16x4096x1, .i32⟩ : BufTy).Contents (Elt F) := (broadcastInDim S16x4096x1 ![] bcast_S_S16x4096x1) call11_c_0
  let call11_v3 : (⟨S16x4096x1, .i32⟩ : BufTy).Contents (Elt F) := addi v118 call11_v2
  let call11_v4 : (⟨S16x4096x1, .i32⟩ : BufTy).Contents (Elt F) := select call11_v1 call11_v3 v118
  let call11_c_2 : (⟨S_, .i32⟩ : BufTy).Contents (Elt F) := (constantI S_ 32 0#32)
  let call11_v5 : (⟨S16x4096x1, .i32⟩ : BufTy).Contents (Elt F) := (broadcastInDim S16x4096x1 ![] bcast_S_S16x4096x1) call11_c_2
  let call11_v6 : (⟨S16x4096x1, .i1⟩ : BufTy).Contents (Elt F) := (cmpi .sge) call11_v4 call11_v5
  let call11_c_1 : (⟨S1, .i32⟩ : BufTy).Contents (Elt F) := (constantI S1 32 4095#32)
  let call11_v7 : (⟨S1x1x1, .i32⟩ : BufTy).Contents (Elt F) := (broadcastInDim S1x1x1 ![2] bcast_S1_S1x1x1_2) call11_c_1
  let call11_v8 : (⟨S16x4096x1, .i32⟩ : BufTy).Contents (Elt F) := (broadcastInDim S16x4096x1 ![0, 1, 2] bcast_S1x1x1_S16x4096x1_0_1_2) call11_v7
  let call11_v9 : (⟨S16x4096x1, .i1⟩ : BufTy).Contents (Elt F) := (cmpi .sle) call11_v4 call11_v8
  let call11_v10 : (⟨S16x4096x1, .i1⟩ : BufTy).Contents (Elt F) := andi call11_v6 call11_v9
  let call11_c_3 : (⟨S_, .i1⟩ : BufTy).Contents (Elt F) := (constantI S_ 1 1#1)
  let call11_v11 : (⟨S16x4096, .i1⟩ : BufTy).Contents (Elt F) := Host.reduce IntOp.andi call11_v10 call11_c_3 reducesTo_S16x4096x1_S16x4096_d2 h_S_
  let call11_v13 : (⟨S16x4096x64, .i1⟩ : BufTy).Contents (Elt F) := (broadcastInDim S16x4096x64 ![0, 1] bcast_S16x4096_S16x4096x64_0_1) call11_v11
  let v117 : (⟨S16x4096x64, .f32⟩ : BufTy).Contents (Elt F) := shapeCast _ v116 shapeCasts_S16x16x256x64_S16x4096x64
  let call11_v12 : (⟨S16x4096x64, .f32⟩ : BufTy).Contents (Elt F) := Host.gather gather_S16x4096x64_S16x4096x1_S16x4096x64_2_1_0_0_1_2_1164 v117 call11_v4
  let call11_cst : (⟨S_, .f32⟩ : BufTy).Contents (Elt F) := (constant S_ .f32 0x7FC00000#32)
  let call11_v14 : (⟨S16x4096x64, .f32⟩ : BufTy).Contents (Elt F) := (broadcastInDim S16x4096x64 ![] bcast_S_S16x4096x64) call11_cst
  select call11_v13 call11_v12 call11_v14

/-- Logits in the order of the positions. -/
def s_v121 (v64 : (⟨S16x4096, .i32⟩ : BufTy).Contents (Elt F)) (v110 : (⟨S16x16x256x1, .f32⟩ : BufTy).Contents (Elt F)) : (⟨S16x4096, .f32⟩ : BufTy).Contents (Elt F) :=
  let call12_c : (⟨S_, .i32⟩ : BufTy).Contents (Elt F) := (constantI S_ 32 0#32)
  let call12_v0 : (⟨S16x4096, .i32⟩ : BufTy).Contents (Elt F) := (broadcastInDim S16x4096 ![] bcast_S_S16x4096) call12_c
  let call12_v1 : (⟨S16x4096, .i1⟩ : BufTy).Contents (Elt F) := (cmpi .slt) v64 call12_v0
  let call12_c_0 : (⟨S_, .i32⟩ : BufTy).Contents (Elt F) := (constantI S_ 32 4096#32)
  let call12_v2 : (⟨S16x4096, .i32⟩ : BufTy).Contents (Elt F) := (broadcastInDim S16x4096 ![] bcast_S_S16x4096) call12_c_0
  let call12_v3 : (⟨S16x4096, .i32⟩ : BufTy).Contents (Elt F) := addi v64 call12_v2
  let call12_v4 : (⟨S16x4096, .i32⟩ : BufTy).Contents (Elt F) := select call12_v1 call12_v3 v64
  let call12_v5 : (⟨S16x4096x1, .i32⟩ : BufTy).Contents (Elt F) := shapeCast _ call12_v4 shapeCasts_S16x4096_S16x4096x1
  let call12_c_2 : (⟨S_, .i32⟩ : BufTy).Contents (Elt F) := (constantI S_ 32 0#32)
  let call12_v6 : (⟨S16x4096x1, .i32⟩ : BufTy).Contents (Elt F) := (broadcastInDim S16x4096x1 ![] bcast_S_S16x4096x1) call12_c_2
  let call12_v7 : (⟨S16x4096x1, .i1⟩ : BufTy).Contents (Elt F) := (cmpi .sge) call12_v5 call12_v6
  let call12_c_1 : (⟨S1, .i32⟩ : BufTy).Contents (Elt F) := (constantI S1 32 4095#32)
  let call12_v8 : (⟨S1x1x1, .i32⟩ : BufTy).Contents (Elt F) := (broadcastInDim S1x1x1 ![2] bcast_S1_S1x1x1_2) call12_c_1
  let call12_v9 : (⟨S16x4096x1, .i32⟩ : BufTy).Contents (Elt F) := (broadcastInDim S16x4096x1 ![0, 1, 2] bcast_S1x1x1_S16x4096x1_0_1_2) call12_v8
  let call12_v10 : (⟨S16x4096x1, .i1⟩ : BufTy).Contents (Elt F) := (cmpi .sle) call12_v5 call12_v9
  let call12_v11 : (⟨S16x4096x1, .i1⟩ : BufTy).Contents (Elt F) := andi call12_v7 call12_v10
  let call12_c_3 : (⟨S_, .i1⟩ : BufTy).Contents (Elt F) := (constantI S_ 1 1#1)
  let call12_v12 : (⟨S16x4096, .i1⟩ : BufTy).Contents (Elt F) := Host.reduce IntOp.andi call12_v11 call12_c_3 reducesTo_S16x4096x1_S16x4096_d2 h_S_
  let v120 : (⟨S16x4096, .f32⟩ : BufTy).Contents (Elt F) := shapeCast _ v110 shapeCasts_S16x16x256x1_S16x4096
  let call12_v13 : (⟨S16x4096, .f32⟩ : BufTy).Contents (Elt F) := Host.gather gather_S16x4096_S16x4096x1_S16x4096_n_1_0_0_1_2_11 v120 call12_v5
  let call12_cst : (⟨S_, .f32⟩ : BufTy).Contents (Elt F) := (constant S_ .f32 0x7FC00000#32)
  let call12_v14 : (⟨S16x4096, .f32⟩ : BufTy).Contents (Elt F) := (broadcastInDim S16x4096 ![] bcast_S_S16x4096) call12_cst
  select call12_v12 call12_v13 call12_v14

/-- The rounds combined. -/
def s_v141 (v119 : (⟨S16x4096x64, .f32⟩ : BufTy).Contents (Elt F)) (v121 : (⟨S16x4096, .f32⟩ : BufTy).Contents (Elt F)) : (⟨S1x2048x1024, .f32⟩ : BufTy).Contents (Elt F) :=
  let v122 : (⟨S16x2x2048x64, .f32⟩ : BufTy).Contents (Elt F) := shapeCast _ v119 shapeCasts_S16x4096x64_S16x2x2048x64
  let v123 : (⟨S16x2x2048, .f32⟩ : BufTy).Contents (Elt F) := shapeCast _ v121 shapeCasts_S16x4096_S16x2x2048
  let v124 : (⟨S16x2x2048x1, .f32⟩ : BufTy).Contents (Elt F) := broadcastInDim S16x2x2048x1 ![0, 1, 2] bcast_S16x2x2048_S16x2x2048x1_0_1_2 v123
  let cst_14 : (⟨S_, .f32⟩ : BufTy).Contents (Elt F) := (constant S_ .f32 0xFF800000#32)
  let v125 : (⟨S16x2048x1, .f32⟩ : BufTy).Contents (Elt F) := Host.reduce FloatOps.maximumf v124 cst_14 reducesTo_S16x2x2048x1_S16x2048x1_d1 h_S_
  let v126 : (⟨S16x1x2048x1, .f32⟩ : BufTy).Contents (Elt F) := broadcastInDim S16x1x2048x1 ![0, 2, 3] bcast_S16x2048x1_S16x1x2048x1_0_2_3 v125
  let v127 : (⟨S16x2x2048x1, .f32⟩ : BufTy).Contents (Elt F) := broadcastInDim S16x2x2048x1 ![0, 1, 2, 3] bcast_S16x1x2048x1_S16x2x2048x1_0_1_2_3 v126
  let v128 : (⟨S16x2x2048x1, .f32⟩ : BufTy).Contents (Elt F) := subf v124 v127
  let v129 : (⟨S16x2x2048x1, .f32⟩ : BufTy).Contents (Elt F) := Host.exp v128
  let cst_15 : (⟨S_, .f32⟩ : BufTy).Contents (Elt F) := (constant S_ .f32 0x00000000#32)
  let v130 : (⟨S16x2048x1, .f32⟩ : BufTy).Contents (Elt F) := Host.reduceAdd v129 cst_15 reducesTo_S16x2x2048x1_S16x2048x1_d1 h_S_
  let v131 : (⟨S16x1x2048x1, .f32⟩ : BufTy).Contents (Elt F) := broadcastInDim S16x1x2048x1 ![0, 2, 3] bcast_S16x2048x1_S16x1x2048x1_0_2_3 v130
  let v132 : (⟨S16x1x2048x1, .f32⟩ : BufTy).Contents (Elt F) := Host.log v131
  let v133 : (⟨S16x1x2048x1, .f32⟩ : BufTy).Contents (Elt F) := addf v126 v132
  let v134 : (⟨S16x2x2048x1, .f32⟩ : BufTy).Contents (Elt F) := broadcastInDim S16x2x2048x1 ![0, 1, 2, 3] bcast_S16x1x2048x1_S16x2x2048x1_0_1_2_3 v133
  let v135 : (⟨S16x2x2048x1, .f32⟩ : BufTy).Contents (Elt F) := subf v124 v134
  let v136 : (⟨S16x2x2048x1, .f32⟩ : BufTy).Contents (Elt F) := Host.exp v135
  let v137 : (⟨S16x2x2048x64, .f32⟩ : BufTy).Contents (Elt F) := broadcastInDim S16x2x2048x64 ![0, 1, 2, 3] bcast_S16x2x2048x1_S16x2x2048x64_0_1_2_3 v136
  let v138 : (⟨S16x2x2048x64, .f32⟩ : BufTy).Contents (Elt F) := mulf v122 v137
  let cst_16 : (⟨S_, .f32⟩ : BufTy).Contents (Elt F) := (constant S_ .f32 0x00000000#32)
  let v139 : (⟨S16x2048x64, .f32⟩ : BufTy).Contents (Elt F) := Host.reduceAdd v138 cst_16 reducesTo_S16x2x2048x64_S16x2048x64_d1 h_S_
  let v140 : (⟨S2048x16x64, .f32⟩ : BufTy).Contents (Elt F) := transpose S2048x16x64 [1, 0, 2] v139 transposes_S16x2048x64_S2048x16x64_1_0_2
  shapeCast _ v140 shapeCasts_S2048x16x64_S1x2048x1024

end Cert.Lsh

end
-- ==== Proof.RefRun.lean ====
/- The reference's operations as stretches, its run, and what each stretch leaves. -/
module

public import proofs.«01_k».proof.Proof.Gen.ReferenceIdeal
public import Idealize.ShloMosaic.Lib.StableHlo.Run
public import Idealize.ShloMosaic.Lib.Pipeline.Frame
public import proofs.«01_k».proof.Proof.Stages
@[expose] public section

set_option Elab.async false

noncomputable section

namespace Cert.Lsh.Ref

open Cert.Lsh Cert.ReferenceIdeal Cert.ReferenceIdeal.Gen Idealize.ShloMosaic Idealize.ShloMosaic.TcCoe Idealize.SL.Sem Idealize.ShloMosaic.StableHlo

variable {F : FTy → Type} [FloatOps F]

def opsA : List (HloOp τ sig (Elt F)) :=
  [ binary main_arg0 main_arg1 main_v0 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v0 main_v1 (rfl : (.f32 : EltTy) = .f32) shapeCasts_S1x2048x1024_S1x2048x16x64,
    binary main_arg0 main_arg2 main_v2 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    reshape main_v2 main_v3 (rfl : (.f32 : EltTy) = .f32) shapeCasts_S1x2048x1024_S1x2048x16x64 ]

def opsB : List (HloOp τ sig (Elt F)) :=
  [ nullary main_v4 (sitofp .f32 (iotaInDim S32 32 0)),
    nullary main_cst (constant S_ .f32 0x40000000#32),
    unary main_cst main_v5 (broadcastInDim S32 ![] bcast_S_S32 : (⟨S_, .f32⟩ : BufTy).Contents (Elt F) → (⟨S32, .f32⟩ : BufTy).Contents (Elt F)),
    binary main_v5 main_v4 main_v6 (mulf : (⟨S32, .f32⟩ : BufTy).Contents (Elt F) → (⟨S32, .f32⟩ : BufTy).Contents (Elt F) → (⟨S32, .f32⟩ : BufTy).Contents (Elt F)),
    nullary main_cst_0 (constant S_ .f32 0x00000000#32),
    unary main_cst_0 main_v7 (broadcastInDim S32 ![] bcast_S_S32 : (⟨S_, .f32⟩ : BufTy).Contents (Elt F) → (⟨S32, .f32⟩ : BufTy).Contents (Elt F)),
    binary main_v7 main_v6 main_v8 (addf : (⟨S32, .f32⟩ : BufTy).Contents (Elt F) → (⟨S32, .f32⟩ : BufTy).Contents (Elt F) → (⟨S32, .f32⟩ : BufTy).Contents (Elt F)),
    nullary main_cst_1 (constant S_ .f32 0x42800000#32),
    unary main_cst_1 main_v9 (broadcastInDim S32 ![] bcast_S_S32 : (⟨S_, .f32⟩ : BufTy).Contents (Elt F) → (⟨S32, .f32⟩ : BufTy).Contents (Elt F)),
    binary main_v8 main_v9 main_v10 (Host.divf : (⟨S32, .f32⟩ : BufTy).Contents (Elt F) → (⟨S32, .f32⟩ : BufTy).Contents (Elt F) → (⟨S32, .f32⟩ : BufTy).Contents (Elt F)),
    nullary main_cst_2 (constant S_ .f32 0x461C4000#32),
    unary main_cst_2 main_v11 (broadcastInDim S32 ![] bcast_S_S32 : (⟨S_, .f32⟩ : BufTy).Contents (Elt F) → (⟨S32, .f32⟩ : BufTy).Contents (Elt F)),
    binary main_v11 main_v10 main_v12 (Host.powf : (⟨S32, .f32⟩ : BufTy).Contents (Elt F) → (⟨S32, .f32⟩ : BufTy).Contents (Elt F) → (⟨S32, .f32⟩ : BufTy).Contents (Elt F)),
    nullary main_cst_3 (constant S_ .f32 0x3F800000#32),
    unary main_cst_3 main_v13 (broadcastInDim S32 ![] bcast_S_S32 : (⟨S_, .f32⟩ : BufTy).Contents (Elt F) → (⟨S32, .f32⟩ : BufTy).Contents (Elt F)),
    binary main_v13 main_v12 main_v14 (Host.divf : (⟨S32, .f32⟩ : BufTy).Contents (Elt F) → (⟨S32, .f32⟩ : BufTy).Contents (Elt F) → (⟨S32, .f32⟩ : BufTy).Contents (Elt F)),
    nullary main_v15 (sitofp .f32 (iotaInDim S2048 32 0)),
    unary main_v15 main_v16 (broadcastInDim S2048x1 ![0] bcast_S2048_S2048x1_0 : (⟨S2048, .f32⟩ : BufTy).Contents (Elt F) → (⟨S2048x1, .f32⟩ : BufTy).Contents (Elt F)),
    unary main_v14 main_v17 (broadcastInDim S1x32 ![1] bcast_S32_S1x32_1 : (⟨S32, .f32⟩ : BufTy).Contents (Elt F) → (⟨S1x32, .f32⟩ : BufTy).Contents (Elt F)),
    unary main_v16 main_v18 (broadcastInDim S2048x32 ![0, 1] bcast_S2048x1_S2048x32_0_1 : (⟨S2048x1, .f32⟩ : BufTy).Contents (Elt F) → (⟨S2048x32, .f32⟩ : BufTy).Contents (Elt F)),
    unary main_v17 main_v19 (broadcastInDim S2048x32 ![0, 1] bcast_S1x32_S2048x32_0_1 : (⟨S1x32, .f32⟩ : BufTy).Contents (Elt F) → (⟨S2048x32, .f32⟩ : BufTy).Contents (Elt F)),
    binary main_v18 main_v19 main_v20 (mulf : (⟨S2048x32, .f32⟩ : BufTy).Contents (Elt F) → (⟨S2048x32, .f32⟩ : BufTy).Contents (Elt F) → (⟨S2048x32, .f32⟩ : BufTy).Contents (Elt F)),
    unary main_v20 main_v21 (Host.sin : (⟨S2048x32, .f32⟩ : BufTy).Contents (Elt F) → (⟨S2048x32, .f32⟩ : BufTy).Contents (Elt F)),
    unary main_v21 main_v22 (broadcastInDim S2048x32x2 ![0, 1] bcast_S2048x32_S2048x32x2_0_1 : (⟨S2048x32, .f32⟩ : BufTy).Contents (Elt F) → (⟨S2048x32x2, .f32⟩ : BufTy).Contents (Elt F)),
    reshape main_v22 main_v23 (rfl : (.f32 : EltTy) = .f32) shapeCasts_S2048x32x2_S2048x64,
    unary main_v23 main_v24 (broadcastInDim S1x2048x1x64 ![1, 3] bcast_S2048x64_S1x2048x1x64_1_3 : (⟨S2048x64, .f32⟩ : BufTy).Contents (Elt F) → (⟨S1x2048x1x64, .f32⟩ : BufTy).Contents (Elt F)),
    unary main_v20 main_v25 (Host.cos : (⟨S2048x32, .f32⟩ : BufTy).Contents (Elt F) → (⟨S2048x32, .f32⟩ : BufTy).Contents (Elt F)),
    unary main_v25 main_v26 (broadcastInDim S2048x32x2 ![0, 1] bcast_S2048x32_S2048x32x2_0_1 : (⟨S2048x32, .f32⟩ : BufTy).Contents (Elt F) → (⟨S2048x32x2, .f32⟩ : BufTy).Contents (Elt F)),
    reshape main_v26 main_v27 (rfl : (.f32 : EltTy) = .f32) shapeCasts_S2048x32x2_S2048x64,
    unary main_v27 main_v28 (broadcastInDim S1x2048x1x64 ![1, 3] bcast_S2048x64_S1x2048x1x64_1_3 : (⟨S2048x64, .f32⟩ : BufTy).Contents (Elt F) → (⟨S1x2048x1x64, .f32⟩ : BufTy).Contents (Elt F)) ]

def opsC : List (HloOp τ sig (Elt F)) :=
  [ unary main_v1 main_v29 ((Host.slice S1x2048x16x32 ![0, 0, 0, 1] ![1, 1, 1, 2] · slicesBy_S1x2048x16x64_S1x2048x16x32_0s1_0s1_0s1_1s2) : (⟨S1x2048x16x64, .f32⟩ : BufTy).Contents (Elt F) → (⟨S1x2048x16x32, .f32⟩ : BufTy).Contents (Elt F)),
    unary main_v29 main_v30 (Host.negf : (⟨S1x2048x16x32, .f32⟩ : BufTy).Contents (Elt F) → (⟨S1x2048x16x32, .f32⟩ : BufTy).Contents (Elt F)),
    unary main_v1 main_v31 ((Host.slice S1x2048x16x32 ![0, 0, 0, 0] ![1, 1, 1, 2] · slicesBy_S1x2048x16x64_S1x2048x16x32_0s1_0s1_0s1_0s2) : (⟨S1x2048x16x64, .f32⟩ : BufTy).Contents (Elt F) → (⟨S1x2048x16x32, .f32⟩ : BufTy).Contents (Elt F)),
    unary main_v30 main_v32 (broadcastInDim S1x2048x16x32x1 ![0, 1, 2, 3] bcast_S1x2048x16x32_S1x2048x16x32x1_0_1_2_3 : (⟨S1x2048x16x32, .f32⟩ : BufTy).Contents (Elt F) → (⟨S1x2048x16x32x1, .f32⟩ : BufTy).Contents (Elt F)),
    unary main_v31 main_v33 (broadcastInDim S1x2048x16x32x1 ![0, 1, 2, 3] bcast_S1x2048x16x32_S1x2048x16x32x1_0_1_2_3 : (⟨S1x2048x16x32, .f32⟩ : BufTy).Contents (Elt F) → (⟨S1x2048x16x32x1, .f32⟩ : BufTy).Contents (Elt F)),
    binary main_v32 main_v33 main_v34 (cat_v34 (F := F)),
    reshape main_v34 main_v35 (rfl : (.f32 : EltTy) = .f32) shapeCasts_S1x2048x16x32x2_S1x2048x16x64,
    unary main_v28 main_v36 (broadcastInDim S1x2048x16x64 ![0, 1, 2, 3] bcast_S1x2048x1x64_S1x2048x16x64_0_1_2_3 : (⟨S1x2048x1x64, .f32⟩ : BufTy).Contents (Elt F) → (⟨S1x2048x16x64, .f32⟩ : BufTy).Contents (Elt F)),
    binary main_v1 main_v36 main_v37 (mulf : (⟨S1x2048x16x64, .f32⟩ : BufTy).Contents (Elt F) → (⟨S1x2048x16x64, .f32⟩ : BufTy).Contents (Elt F) → (⟨S1x2048x16x64, .f32⟩ : BufTy).Contents (Elt F)),
    unary main_v24 main_v38 (broadcastInDim S1x2048x16x64 ![0, 1, 2, 3] bcast_S1x2048x1x64_S1x2048x16x64_0_1_2_3 : (⟨S1x2048x1x64, .f32⟩ : BufTy).Contents (Elt F) → (⟨S1x2048x16x64, .f32⟩ : BufTy).Contents (Elt F)),
    binary main_v35 main_v38 main_v39 (mulf : (⟨S1x2048x16x64, .f32⟩ : BufTy).Contents (Elt F) → (⟨S1x2048x16x64, .f32⟩ : BufTy).Contents (Elt F) → (⟨S1x2048x16x64, .f32⟩ : BufTy).Contents (Elt F)),
    binary main_v37 main_v39 main_v40 (addf : (⟨S1x2048x16x64, .f32⟩ : BufTy).Contents (Elt F) → (⟨S1x2048x16x64, .f32⟩ : BufTy).Contents (Elt F) → (⟨S1x2048x16x64, .f32⟩ : BufTy).Contents (Elt F)),
    unary main_v40 main_v41 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)) ]

def opsD1 : List (HloOp τ sig (Elt F)) :=
  [ binary main_arg3 main_v41 main_v42 ((fun l r => Host.dotGeneral dot_S16x64x2x8_S1x16x2048x64_S16x2x8x1x2048_1_3_23_02_0_1 none l r) : (⟨S16x64x2x8, .f32⟩ : BufTy).Contents (Elt F) → (⟨S1x16x2048x64, .f32⟩ : BufTy).Contents (Elt F) → (⟨S16x2x8x1x2048, .f32⟩ : BufTy).Contents (Elt F)),
    unary main_v42 main_v43 ((transpose S1x16x2x2048x8 [3, 0, 1, 4, 2] · transposes_S16x2x8x1x2048_S1x16x2x2048x8_3_0_1_4_2) : (⟨S16x2x8x1x2048, .f32⟩ : BufTy).Contents (Elt F) → (⟨S1x16x2x2048x8, .f32⟩ : BufTy).Contents (Elt F)),
    unary main_v43 main_v44 (Host.negf : (⟨S1x16x2x2048x8, .f32⟩ : BufTy).Contents (Elt F) → (⟨S1x16x2x2048x8, .f32⟩ : BufTy).Contents (Elt F)),
    binary main_v43 main_v44 main_v45 (cat_v45 (F := F)) ]

def opsD2 : List (HloOp τ sig (Elt F)) :=
  [ TRef.nullary (TRef.of (T := ⟨S1x16x2x2048x16, .i32⟩) main_call0_v0) (iotaInDim S1x16x2x2048x16 32 4),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1x16x2x2048x16, .f32⟩) main_v45) (TRef.of (T := ⟨S1x16x2x2048x16, .i32⟩) main_call0_v0) (TRef.of (T := ⟨S_, .f32⟩) main_call0_cst) (TRef.of (T := ⟨S_, .i32⟩) main_call0_c) (TRef.of (T := ⟨S1x16x2x2048, .f32⟩) main_call0_v1_0) (fun x y u v j => (Host.argReduce reducer_argmax_f32_i32 x y u v reducesTo_S1x16x2x2048x16_S1x16x2x2048_d4 h_S_ j).1),
    TRef.quaternary (TRef.of (T := ⟨S1x16x2x2048x16, .f32⟩) main_v45) (TRef.of (T := ⟨S1x16x2x2048x16, .i32⟩) main_call0_v0) (TRef.of (T := ⟨S_, .f32⟩) main_call0_cst) (TRef.of (T := ⟨S_, .i32⟩) main_call0_c) (TRef.of (T := ⟨S1x16x2x2048, .i32⟩) main_v46) (fun x y u v j => (Host.argReduce reducer_argmax_f32_i32 x y u v reducesTo_S1x16x2x2048x16_S1x16x2x2048_d4 h_S_ j).2) ]

def opsD3 : List (HloOp τ sig (Elt F)) :=
  [ nullary main_v47 (iotaInDim S2 32 0),
    nullary main_c (constantI S_ 32 16#32),
    unary main_c main_v48 (broadcastInDim S2 ![] bcast_S_S2 : (⟨S_, .i32⟩ : BufTy).Contents (Elt F) → (⟨S2, .i32⟩ : BufTy).Contents (Elt F)),
    binary main_v47 main_v48 main_v49 (muli : (⟨S2, .i32⟩ : BufTy).Contents (Elt F) → (⟨S2, .i32⟩ : BufTy).Contents (Elt F) → (⟨S2, .i32⟩ : BufTy).Contents (Elt F)),
    reshape main_v49 main_v50 (rfl : (.i32 : EltTy) = .i32) shapeCasts_S2_S1x1x2x1,
    unary main_v50 main_v51 (broadcastInDim S1x16x2x2048 ![0, 1, 2, 3] bcast_S1x1x2x1_S1x16x2x2048_0_1_2_3 : (⟨S1x1x2x1, .i32⟩ : BufTy).Contents (Elt F) → (⟨S1x16x2x2048, .i32⟩ : BufTy).Contents (Elt F)),
    binary main_v46 main_v51 main_v52 (addi : (⟨S1x16x2x2048, .i32⟩ : BufTy).Contents (Elt F) → (⟨S1x16x2x2048, .i32⟩ : BufTy).Contents (Elt F) → (⟨S1x16x2x2048, .i32⟩ : BufTy).Contents (Elt F)),
    reshape main_v52 main_v53 (rfl : (.i32 : EltTy) = .i32) shapeCasts_S1x16x2x2048_S16x4096 ]

def opsE : List (HloOp τ sig (Elt F)) :=
  [ reshape main_v41 main_v54 (rfl : (.f32 : EltTy) = .f32) shapeCasts_S1x16x2048x64_S16x2048x64,
    reshape main_v3 main_v55 (rfl : (.f32 : EltTy) = .f32) shapeCasts_S1x2048x16x64_S2048x16x64,
    unary main_v55 main_v56 ((transpose S16x2048x64 [1, 0, 2] · transposes_S2048x16x64_S16x2048x64_1_0_2) : (⟨S2048x16x64, .f32⟩ : BufTy).Contents (Elt F) → (⟨S16x2048x64, .f32⟩ : BufTy).Contents (Elt F)),
    nullary main_c_4 (constantI S_ 32 4096#32),
    unary main_c_4 main_v57 (broadcastInDim S16x4096 ![] bcast_S_S16x4096 : (⟨S_, .i32⟩ : BufTy).Contents (Elt F) → (⟨S16x4096, .i32⟩ : BufTy).Contents (Elt F)),
    binary main_v57 main_v53 main_v58 (muli : (⟨S16x4096, .i32⟩ : BufTy).Contents (Elt F) → (⟨S16x4096, .i32⟩ : BufTy).Contents (Elt F) → (⟨S16x4096, .i32⟩ : BufTy).Contents (Elt F)),
    nullary main_v59 (iotaInDim S4096 32 0),
    unary main_v59 main_v60 (broadcastInDim S1x4096 ![1] bcast_S4096_S1x4096_1 : (⟨S4096, .i32⟩ : BufTy).Contents (Elt F) → (⟨S1x4096, .i32⟩ : BufTy).Contents (Elt F)),
    unary main_v60 main_v61 (broadcastInDim S16x4096 ![0, 1] bcast_S1x4096_S16x4096_0_1 : (⟨S1x4096, .i32⟩ : BufTy).Contents (Elt F) → (⟨S16x4096, .i32⟩ : BufTy).Contents (Elt F)),
    binary main_v58 main_v61 main_v62 (addi : (⟨S16x4096, .i32⟩ : BufTy).Contents (Elt F) → (⟨S16x4096, .i32⟩ : BufTy).Contents (Elt F) → (⟨S16x4096, .i32⟩ : BufTy).Contents (Elt F)) ]

def opsF : List (HloOp τ sig (Elt F)) :=
  [ TRef.nullary (TRef.of (T := ⟨S16x4096, .i32⟩) main_call1_v0) (iotaInDim S16x4096 32 1),
    TRef.binary (TRef.of (T := ⟨S16x4096, .i32⟩) main_v62) (TRef.of (T := ⟨S16x4096, .i32⟩) main_call1_v0) (TRef.of (T := ⟨S16x4096, .i32⟩) main_call1_v1_0) (fun x y => (Host.sort2 S16x4096 1 comparator_i32_i32_d1 x y).1),
    TRef.binary (TRef.of (T := ⟨S16x4096, .i32⟩) main_v62) (TRef.of (T := ⟨S16x4096, .i32⟩) main_call1_v0) (TRef.of (T := ⟨S16x4096, .i32⟩) main_v63) (fun x y => (Host.sort2 S16x4096 1 comparator_i32_i32_d1 x y).2) ]

def opsG : List (HloOp τ sig (Elt F)) :=
  [ TRef.nullary (TRef.of (T := ⟨S16x4096, .i32⟩) main_call2_v0) (iotaInDim S16x4096 32 1),
    TRef.binary (TRef.of (T := ⟨S16x4096, .i32⟩) main_v63) (TRef.of (T := ⟨S16x4096, .i32⟩) main_call2_v0) (TRef.of (T := ⟨S16x4096, .i32⟩) main_call2_v1_0) (fun x y => (Host.sort2 S16x4096 1 comparator_i32_i32_d1 x y).1),
    TRef.binary (TRef.of (T := ⟨S16x4096, .i32⟩) main_v63) (TRef.of (T := ⟨S16x4096, .i32⟩) main_call2_v0) (TRef.of (T := ⟨S16x4096, .i32⟩) main_v64) (fun x y => (Host.sort2 S16x4096 1 comparator_i32_i32_d1 x y).2) ]

def opsH : List (HloOp τ sig (Elt F)) :=
  [ nullary main_c_5 (constantI S_ 32 2048#32),
    TRef.unary (TRef.of (T := ⟨S_, .i32⟩) main_c_5) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary (TRef.of (T := ⟨S_, .i32⟩) main_call3_v2) (TRef.of (T := ⟨S16x4096, .i32⟩) main_call3_v3) (broadcastInDim S16x4096 ![] bcast_S_S16x4096),
    TRef.binary (TRef.of (T := ⟨S16x4096, .i32⟩) main_v63) (TRef.of (T := ⟨S16x4096, .i32⟩) main_call3_v3) (TRef.of (T := ⟨S16x4096, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S16x4096, .i32⟩) main_call3_v5) (broadcastInDim S16x4096 ![] bcast_S_S16x4096),
    TRef.binary (TRef.of (T := ⟨S16x4096, .i32⟩) main_call3_v4) (TRef.of (T := ⟨S16x4096, .i32⟩) main_call3_v5) (TRef.of (T := ⟨S16x4096, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S16x4096, .i32⟩) main_call3_v7) (broadcastInDim S16x4096 ![] bcast_S_S16x4096),
    TRef.binary (TRef.of (T := ⟨S16x4096, .i32⟩) main_call3_v4) (TRef.of (T := ⟨S16x4096, .i32⟩) main_call3_v7) (TRef.of (T := ⟨S16x4096, .i1⟩) main_call3_v8) (cmpi .slt),
    TRef.nullary (TRef.of (T := ⟨S_, .i32⟩) main_call3_c_3) (constantI S_ 32 0#32),
    TRef.binary (TRef.of (T := ⟨S_, .i32⟩) main_call3_v2) (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S16x4096, .i1⟩) main_call3_v10) (broadcastInDim S16x4096 ![] bcast_S_S16x4096),
    TRef.binary (TRef.of (T := ⟨S16x4096, .i1⟩) main_call3_v8) (TRef.of (T := ⟨S16x4096, .i1⟩) main_call3_v10) (TRef.of (T := ⟨S16x4096, .i1⟩) main_call3_v11) (cmpi .ne),
    TRef.binary (TRef.of (T := ⟨S16x4096, .i1⟩) main_call3_v11) (TRef.of (T := ⟨S16x4096, .i1⟩) main_call3_v6) (TRef.of (T := ⟨S16x4096, .i1⟩) main_call3_v12) andi,
    TRef.unary (TRef.of (T := ⟨S_, .i32⟩) main_call3_v2) (TRef.of (T := ⟨S16x4096, .i32⟩) main_call3_v13) (broadcastInDim S16x4096 ![] bcast_S_S16x4096),
    TRef.binary (TRef.of (T := ⟨S16x4096, .i32⟩) main_call3_v4) (TRef.of (T := ⟨S16x4096, .i32⟩) main_call3_v13) (TRef.of (T := ⟨S16x4096, .i32⟩) main_call3_v14) addi,
    TRef.ternary (TRef.of (T := ⟨S16x4096, .i1⟩) main_call3_v12) (TRef.of (T := ⟨S16x4096, .i32⟩) main_call3_v14) (TRef.of (T := ⟨S16x4096, .i32⟩) main_call3_v4) (TRef.of (T := ⟨S16x4096, .i32⟩) main_v65) select ]

def opsI : List (HloOp τ sig (Elt F)) :=
  [ unary main_v65 main_v66 (broadcastInDim S16x4096x1 ![0, 1] bcast_S16x4096_S16x4096x1_0_1 : (⟨S16x4096, .i32⟩ : BufTy).Contents (Elt F) → (⟨S16x4096x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16x4096x1, .i32⟩) main_call4_v0) (broadcastInDim S16x4096x1 ![] bcast_S_S16x4096x1),
    TRef.binary (TRef.of (T := ⟨S16x4096x1, .i32⟩) main_v66) (TRef.of (T := ⟨S16x4096x1, .i32⟩) main_call4_v0) (TRef.of (T := ⟨S16x4096x1, .i1⟩) main_call4_v1) (cmpi .slt),
    TRef.nullary (TRef.of (T := ⟨S_, .i32⟩) main_call4_c_0) (constantI S_ 32 2048#32),
    TRef.unary (TRef.of (T := ⟨S_, .i32⟩) main_call4_c_0) (TRef.of (T := ⟨S16x4096x1, .i32⟩) main_call4_v2) (broadcastInDim S16x4096x1 ![] bcast_S_S16x4096x1),
    TRef.binary (TRef.of (T := ⟨S16x4096x1, .i32⟩) main_v66) (TRef.of (T := ⟨S16x4096x1, .i32⟩) main_call4_v2) (TRef.of (T := ⟨S16x4096x1, .i32⟩) main_call4_v3) addi,
    TRef.ternary (TRef.of (T := ⟨S16x4096x1, .i1⟩) main_call4_v1) (TRef.of (T := ⟨S16x4096x1, .i32⟩) main_call4_v3) (TRef.of (T := ⟨S16x4096x1, .i32⟩) main_v66) (TRef.of (T := ⟨S16x4096x1, .i32⟩) main_call4_v4) select,
    TRef.nullary (TRef.of (T := ⟨S1, .i32⟩) main_call4_c_1) (constantI S1 32 2047#32),
    TRef.nullary (TRef.of (T := ⟨S_, .i32⟩) main_call4_c_2) (constantI S_ 32 0#32),
    TRef.unary (TRef.of (T := ⟨S_, .i32⟩) main_call4_c_2) (TRef.of (T := ⟨S16x4096x1, .i32⟩) main_call4_v5) (broadcastInDim S16x4096x1 ![] bcast_S_S16x4096x1),
    TRef.binary (TRef.of (T := ⟨S16x4096x1, .i32⟩) main_call4_v4) (TRef.of (T := ⟨S16x4096x1, .i32⟩) main_call4_v5) (TRef.of (T := ⟨S16x4096x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S16x4096x1, .i32⟩) main_call4_v8) (broadcastInDim S16x4096x1 ![0, 1, 2] bcast_S1x1x1_S16x4096x1_0_1_2),
    TRef.binary (TRef.of (T := ⟨S16x4096x1, .i32⟩) main_call4_v4) (TRef.of (T := ⟨S16x4096x1, .i32⟩) main_call4_v8) (TRef.of (T := ⟨S16x4096x1, .i1⟩) main_call4_v9) (cmpi .sle),
    TRef.binary (TRef.of (T := ⟨S16x4096x1, .i1⟩) main_call4_v6) (TRef.of (T := ⟨S16x4096x1, .i1⟩) main_call4_v9) (TRef.of (T := ⟨S16x4096x1, .i1⟩) main_call4_v10) andi,
    TRef.nullary (TRef.of (T := ⟨S_, .i1⟩) main_call4_c_3) (constantI S_ 1 1#1),
    TRef.binary (TRef.of (T := ⟨S16x4096x1, .i1⟩) main_call4_v10) (TRef.of (T := ⟨S_, .i1⟩) main_call4_c_3) (TRef.of (T := ⟨S16x4096, .i1⟩) main_call4_v11) (fun x v => Host.reduce IntOp.andi x v reducesTo_S16x4096x1_S16x4096_d2 h_S_),
    TRef.binary (TRef.of (T := ⟨S16x2048x64, .f32⟩) main_v54) (TRef.of (T := ⟨S16x4096x1, .i32⟩) main_call4_v4) (TRef.of (T := ⟨S16x4096x64, .f32⟩) main_call4_v12) (fun x i => Host.gather gather_S16x2048x64_S16x4096x1_S16x4096x64_2_1_0_0_1_2_1164 x i),
    TRef.unary (TRef.of (T := ⟨S16x4096, .i1⟩) main_call4_v11) (TRef.of (T := ⟨S16x4096x64, .i1⟩) main_call4_v13) (broadcastInDim S16x4096x64 ![0, 1] bcast_S16x4096_S16x4096x64_0_1),
    TRef.nullary (TRef.of (T := ⟨S_, .f32⟩) main_call4_cst) (constant S_ .f32 0x7FC00000#32),
    TRef.unary (TRef.of (T := ⟨S_, .f32⟩) main_call4_cst) (TRef.of (T := ⟨S16x4096x64, .f32⟩) main_call4_v14) (broadcastInDim S16x4096x64 ![] bcast_S_S16x4096x64),
    TRef.ternary (TRef.of (T := ⟨S16x4096x64, .i1⟩) main_call4_v13) (TRef.of (T := ⟨S16x4096x64, .f32⟩) main_call4_v12) (TRef.of (T := ⟨S16x4096x64, .f32⟩) main_call4_v14) (TRef.of (T := ⟨S16x4096x64, .f32⟩) main_v67) select,
    reshape main_v67 main_v68 (rfl : (.f32 : EltTy) = .f32) shapeCasts_S16x4096x64_S16x16x256x64 ]

def opsJ : List (HloOp τ sig (Elt F)) :=
  [ unary main_v65 main_v69 (broadcastInDim S16x4096x1 ![0, 1] bcast_S16x4096_S16x4096x1_0_1 : (⟨S16x4096, .i32⟩ : BufTy).Contents (Elt F) → (⟨S16x4096x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S16x4096x1, .i32⟩) main_call5_v0) (broadcastInDim S16x4096x1 ![] bcast_S_S16x4096x1),
    TRef.binary (TRef.of (T := ⟨S16x4096x1, .i32⟩) main_v69) (TRef.of (T := ⟨S16x4096x1, .i32⟩) main_call5_v0) (TRef.of (T := ⟨S16x4096x1, .i1⟩) main_call5_v1) (cmpi .slt),
    TRef.nullary (TRef.of (T := ⟨S_, .i32⟩) main_call5_c_0) (constantI S_ 32 2048#32),
    TRef.unary (TRef.of (T := ⟨S_, .i32⟩) main_call5_c_0) (TRef.of (T := ⟨S16x4096x1, .i32⟩) main_call5_v2) (broadcastInDim S16x4096x1 ![] bcast_S_S16x4096x1),
    TRef.binary (TRef.of (T := ⟨S16x4096x1, .i32⟩) main_v69) (TRef.of (T := ⟨S16x4096x1, .i32⟩) main_call5_v2) (TRef.of (T := ⟨S16x4096x1, .i32⟩) main_call5_v3) addi,
    TRef.ternary (TRef.of (T := ⟨S16x4096x1, .i1⟩) main_call5_v1) (TRef.of (T := ⟨S16x4096x1, .i32⟩) main_call5_v3) (TRef.of (T := ⟨S16x4096x1, .i32⟩) main_v69) (TRef.of (T := ⟨S16x4096x1, .i32⟩) main_call5_v4) select,
    TRef.nullary (TRef.of (T := ⟨S1, .i32⟩) main_call5_c_1) (constantI S1 32 2047#32),
    TRef.nullary (TRef.of (T := ⟨S_, .i32⟩) main_call5_c_2) (constantI S_ 32 0#32),
    TRef.unary (TRef.of (T := ⟨S_, .i32⟩) main_call5_c_2) (TRef.of (T := ⟨S16x4096x1, .i32⟩) main_call5_v5) (broadcastInDim S16x4096x1 ![] bcast_S_S16x4096x1),
    TRef.binary (TRef.of (T := ⟨S16x4096x1, .i32⟩) main_call5_v4) (TRef.of (T := ⟨S16x4096x1, .i32⟩) main_call5_v5) (TRef.of (T := ⟨S16x4096x1, .i1⟩) main_call5_v6) (cmpi .sge),
    TRef.unary (TRef.of (T := ⟨S1, .i32⟩) main_call5_c_1) (TRef.of (T := ⟨S1x1x1, .i32⟩) main_call5_v7) (broadcastInDim S1x1x1 ![2] bcast_S1_S1x1x1_2),
    TRef.unary (TRef.of (T := ⟨S1x1x1, .i32⟩) main_call5_v7) (TRef.of (T := ⟨S16x4096x1, .i32⟩) main_call5_v8) (broadcastInDim S16x4096x1 ![0, 1, 2] bcast_S1x1x1_S16x4096x1_0_1_2),
    TRef.binary (TRef.of (T := ⟨S16x4096x1, .i32⟩) main_call5_v4) (TRef.of (T := ⟨S16x4096x1, .i32⟩) main_call5_v8) (TRef.of (T := ⟨S16x4096x1, .i1⟩) main_call5_v9) (cmpi .sle),
    TRef.binary (TRef.of (T := ⟨S16x4096x1, .i1⟩) main_call5_v6) (TRef.of (T := ⟨S16x4096x1, .i1⟩) main_call5_v9) (TRef.of (T := ⟨S16x4096x1, .i1⟩) main_call5_v10) andi,
    TRef.nullary (TRef.of (T := ⟨S_, .i1⟩) main_call5_c_3) (constantI S_ 1 1#1),
    TRef.binary (TRef.of (T := ⟨S16x4096x1, .i1⟩) main_call5_v10) (TRef.of (T := ⟨S_, .i1⟩) main_call5_c_3) (TRef.of (T := ⟨S16x4096, .i1⟩) main_call5_v11) (fun x v => Host.reduce IntOp.andi x v reducesTo_S16x4096x1_S16x4096_d2 h_S_),
    TRef.binary (TRef.of (T := ⟨S16x2048x64, .f32⟩) main_v56) (TRef.of (T := ⟨S16x4096x1, .i32⟩) main_call5_v4) (TRef.of (T := ⟨S16x4096x64, .f32⟩) main_call5_v12) (fun x i => Host.gather gather_S16x2048x64_S16x4096x1_S16x4096x64_2_1_0_0_1_2_1164 x i),
    TRef.unary (TRef.of (T := ⟨S16x4096, .i1⟩) main_call5_v11) (TRef.of (T := ⟨S16x4096x64, .i1⟩) main_call5_v13) (broadcastInDim S16x4096x64 ![0, 1] bcast_S16x4096_S16x4096x64_0_1),
    TRef.nullary (TRef.of (T := ⟨S_, .f32⟩) main_call5_cst) (constant S_ .f32 0x7FC00000#32),
    TRef.unary (TRef.of (T := ⟨S_, .f32⟩) main_call5_cst) (TRef.of (T := ⟨S16x4096x64, .f32⟩) main_call5_v14) (broadcastInDim S16x4096x64 ![] bcast_S_S16x4096x64),
    TRef.ternary (TRef.of (T := ⟨S16x4096x64, .i1⟩) main_call5_v13) (TRef.of (T := ⟨S16x4096x64, .f32⟩) main_call5_v12) (TRef.of (T := ⟨S16x4096x64, .f32⟩) main_call5_v14) (TRef.of (T := ⟨S16x4096x64, .f32⟩) main_v70) select,
    reshape main_v70 main_v71 (rfl : (.f32 : EltTy) = .f32) shapeCasts_S16x4096x64_S16x16x256x64 ]

def opsK : List (HloOp τ sig (Elt F)) :=
  [ binary main_v68 main_v68 main_v72 (mulf : (⟨S16x16x256x64, .f32⟩ : BufTy).Contents (Elt F) → (⟨S16x16x256x64, .f32⟩ : BufTy).Contents (Elt F) → (⟨S16x16x256x64, .f32⟩ : BufTy).Contents (Elt F)),
    nullary main_cst_6 (constant S_ .f32 0x00000000#32),
    binary main_v72 main_cst_6 main_v73 ((fun x v => Host.reduceAdd x v reducesTo_S16x16x256x64_S16x16x256_d3 h_S_) : (⟨S16x16x256x64, .f32⟩ : BufTy).Contents (Elt F) → (⟨S_, .f32⟩ : BufTy).Contents (Elt F) → (⟨S16x16x256, .f32⟩ : BufTy).Contents (Elt F)),
    unary main_v73 main_v74 (broadcastInDim S16x16x256x1 ![0, 1, 2] bcast_S16x16x256_S16x16x256x1_0_1_2 : (⟨S16x16x256, .f32⟩ : BufTy).Contents (Elt F) → (⟨S16x16x256x1, .f32⟩ : BufTy).Contents (Elt F)),
    nullary main_cst_7 (constant S_ .f32 0x42800000#32),
    unary main_cst_7 main_v75 (broadcastInDim S16x16x256x1 ![] bcast_S_S16x16x256x1 : (⟨S_, .f32⟩ : BufTy).Contents (Elt F) → (⟨S16x16x256x1, .f32⟩ : BufTy).Contents (Elt F)),
    binary main_v74 main_v75 main_v76 (Host.divf : (⟨S16x16x256x1, .f32⟩ : BufTy).Contents (Elt F) → (⟨S16x16x256x1, .f32⟩ : BufTy).Contents (Elt F) → (⟨S16x16x256x1, .f32⟩ : BufTy).Contents (Elt F)),
    nullary main_cst_8 (constant S_ .f32 0x358637BD#32),
    unary main_cst_8 main_v77 (broadcastInDim S16x16x256x1 ![] bcast_S_S16x16x256x1 : (⟨S_, .f32⟩ : BufTy).Contents (Elt F) → (⟨S16x16x256x1, .f32⟩ : BufTy).Contents (Elt F)),
    binary main_v76 main_v77 main_v78 (addf : (⟨S16x16x256x1, .f32⟩ : BufTy).Contents (Elt F) → (⟨S16x16x256x1, .f32⟩ : BufTy).Contents (Elt F) → (⟨S16x16x256x1, .f32⟩ : BufTy).Contents (Elt F)),
    unary main_v78 main_v79 (Host.rsqrt : (⟨S16x16x256x1, .f32⟩ : BufTy).Contents (Elt F) → (⟨S16x16x256x1, .f32⟩ : BufTy).Contents (Elt F)),
    unary main_v79 main_v80 (broadcastInDim S16x16x256x64 ![0, 1, 2, 3] bcast_S16x16x256x1_S16x16x256x64_0_1_2_3 : (⟨S16x16x256x1, .f32⟩ : BufTy).Contents (Elt F) → (⟨S16x16x256x64, .f32⟩ : BufTy).Contents (Elt F)),
    binary main_v68 main_v80 main_v81 (mulf : (⟨S16x16x256x64, .f32⟩ : BufTy).Contents (Elt F) → (⟨S16x16x256x64, .f32⟩ : BufTy).Contents (Elt F) → (⟨S16x16x256x64, .f32⟩ : BufTy).Contents (Elt F)),
    nullary main_cst_9 (constant S_ .f32 0x3E000000#32),
    unary main_cst_9 main_v82 (broadcastInDim S16x16x256x64 ![] bcast_S_S16x16x256x64 : (⟨S_, .f32⟩ : BufTy).Contents (Elt F) → (⟨S16x16x256x64, .f32⟩ : BufTy).Contents (Elt F)),
    binary main_v81 main_v82 main_v83 (mulf : (⟨S16x16x256x64, .f32⟩ : BufTy).Contents (Elt F) → (⟨S16x16x256x64, .f32⟩ : BufTy).Contents (Elt F) → (⟨S16x16x256x64, .f32⟩ : BufTy).Contents (Elt F)) ]

def opsL : List (HloOp τ sig (Elt F)) :=
  [ TRef.unary (TRef.of (T := ⟨S16x16x256x64, .f32⟩) main_v83) (TRef.of (T := ⟨S16x1x256x64, .f32⟩) main_call6_v0) (extractStridedSlice S16x1x256x64 ![0, 15, 0, 0] · slices_S16x16x256x64_S16x1x256x64_0_15_0_0),
    TRef.unary (TRef.of (T := ⟨S16x16x256x64, .f32⟩) main_v83) (TRef.of (T := ⟨S16x15x256x64, .f32⟩) main_call6_v1) (extractStridedSlice S16x15x256x64 ![0, 0, 0, 0] · slices_S16x16x256x64_S16x15x256x64_0_0_0_0),
    TRef.binary (TRef.of (T := ⟨S16x1x256x64, .f32⟩) main_call6_v0) (TRef.of (T := ⟨S16x15x256x64, .f32⟩) main_call6_v1) (TRef.of (T := ⟨S16x16x256x64, .f32⟩) main_v84) (cat_v84 (F := F)),
    binary main_v84 main_v83 main_v85 (cat_v85 (F := F)),
    binary main_v68 main_v85 main_v86 ((fun l r => Host.dotGeneral dot_S16x16x256x64_S16x16x512x64_S16x16x256x512_3_3_2_2_01_01 none l r) : (⟨S16x16x256x64, .f32⟩ : BufTy).Contents (Elt F) → (⟨S16x16x512x64, .f32⟩ : BufTy).Contents (Elt F) → (⟨S16x16x256x512, .f32⟩ : BufTy).Contents (Elt F)) ]

def opsM : List (HloOp τ sig (Elt F)) :=
  [ reshape main_v65 main_v87 (rfl : (.i32 : EltTy) = .i32) shapeCasts_S16x4096_S16x16x256,
    TRef.unary (TRef.of (T := ⟨S16x16x256, .i32⟩) main_v87) (TRef.of (T := ⟨S16x1x256, .i32⟩) main_call7_v0) (extractStridedSlice S16x1x256 ![0, 15, 0] · slices_S16x16x256_S16x1x256_0_15_0),
    TRef.unary (TRef.of (T := ⟨S16x16x256, .i32⟩) main_v87) (TRef.of (T := ⟨S16x15x256, .i32⟩) main_call7_v1) (extractStridedSlice S16x15x256 ![0, 0, 0] · slices_S16x16x256_S16x15x256_0_0_0),
    TRef.binary (TRef.of (T := ⟨S16x1x256, .i32⟩) main_call7_v0) (TRef.of (T := ⟨S16x15x256, .i32⟩) main_call7_v1) (TRef.of (T := ⟨S16x16x256, .i32⟩) main_v88) (cat_v88 (F := F)),
    binary main_v88 main_v87 main_v89 (cat_v89 (F := F)),
    unary main_v87 main_v90 (broadcastInDim S16x16x256x1 ![0, 1, 2] bcast_S16x16x256_S16x16x256x1_0_1_2 : (⟨S16x16x256, .i32⟩ : BufTy).Contents (Elt F) → (⟨S16x16x256x1, .i32⟩ : BufTy).Contents (Elt F)),
    unary main_v89 main_v91 (broadcastInDim S16x16x1x512 ![0, 1, 3] bcast_S16x16x512_S16x16x1x512_0_1_3 : (⟨S16x16x512, .i32⟩ : BufTy).Contents (Elt F) → (⟨S16x16x1x512, .i32⟩ : BufTy).Contents (Elt F)),
    unary main_v90 main_v92 (broadcastInDim S16x16x256x512 ![0, 1, 2, 3] bcast_S16x16x256x1_S16x16x256x512_0_1_2_3 : (⟨S16x16x256x1, .i32⟩ : BufTy).Contents (Elt F) → (⟨S16x16x256x512, .i32⟩ : BufTy).Contents (Elt F)),
    unary main_v91 main_v93 (broadcastInDim S16x16x256x512 ![0, 1, 2, 3] bcast_S16x16x1x512_S16x16x256x512_0_1_2_3 : (⟨S16x16x1x512, .i32⟩ : BufTy).Contents (Elt F) → (⟨S16x16x256x512, .i32⟩ : BufTy).Contents (Elt F)),
    binary main_v92 main_v93 main_v94 (cmpi .sge : (⟨S16x16x256x512, .i32⟩ : BufTy).Contents (Elt F) → (⟨S16x16x256x512, .i32⟩ : BufTy).Contents (Elt F) → (⟨S16x16x256x512, .i1⟩ : BufTy).Contents (Elt F)),
    nullary main_cst_10 (constant S_ .f32 0xCE6E6B28#32),
    TRef.unary (TRef.of (T := ⟨S_, .f32⟩) main_cst_10) (TRef.of (T := ⟨S_, .f32⟩) main_call8_v0) id,
    TRef.unary (TRef.of (T := ⟨S_, .f32⟩) main_call8_v0) (TRef.of (T := ⟨S16x16x256x512, .f32⟩) main_call8_v1) (broadcastInDim S16x16x256x512 ![] bcast_S_S16x16x256x512),
    TRef.ternary (TRef.of (T := ⟨S16x16x256x512, .i1⟩) main_v94) (TRef.of (T := ⟨S16x16x256x512, .f32⟩) main_v86) (TRef.of (T := ⟨S16x16x256x512, .f32⟩) main_call8_v1) (TRef.of (T := ⟨S16x16x256x512, .f32⟩) main_v95) select,
    unary main_v87 main_v96 (broadcastInDim S16x16x256x1 ![0, 1, 2] bcast_S16x16x256_S16x16x256x1_0_1_2 : (⟨S16x16x256, .i32⟩ : BufTy).Contents (Elt F) → (⟨S16x16x256x1, .i32⟩ : BufTy).Contents (Elt F)),
    unary main_v89 main_v97 (broadcastInDim S16x16x1x512 ![0, 1, 3] bcast_S16x16x512_S16x16x1x512_0_1_3 : (⟨S16x16x512, .i32⟩ : BufTy).Contents (Elt F) → (⟨S16x16x1x512, .i32⟩ : BufTy).Contents (Elt F)),
    unary main_v96 main_v98 (broadcastInDim S16x16x256x512 ![0, 1, 2, 3] bcast_S16x16x256x1_S16x16x256x512_0_1_2_3 : (⟨S16x16x256x1, .i32⟩ : BufTy).Contents (Elt F) → (⟨S16x16x256x512, .i32⟩ : BufTy).Contents (Elt F)),
    unary main_v97 main_v99 (broadcastInDim S16x16x256x512 ![0, 1, 2, 3] bcast_S16x16x1x512_S16x16x256x512_0_1_2_3 : (⟨S16x16x1x512, .i32⟩ : BufTy).Contents (Elt F) → (⟨S16x16x256x512, .i32⟩ : BufTy).Contents (Elt F)),
    binary main_v98 main_v99 main_v100 (cmpi .ne : (⟨S16x16x256x512, .i32⟩ : BufTy).Contents (Elt F) → (⟨S16x16x256x512, .i32⟩ : BufTy).Contents (Elt F) → (⟨S16x16x256x512, .i1⟩ : BufTy).Contents (Elt F)),
    nullary main_cst_11 (constant S_ .f32 0xC7C35000#32),
    TRef.unary (TRef.of (T := ⟨S_, .f32⟩) main_cst_11) (TRef.of (T := ⟨S_, .f32⟩) main_call9_v0) id,
    TRef.unary (TRef.of (T := ⟨S_, .f32⟩) main_call9_v0) (TRef.of (T := ⟨S16x16x256x512, .f32⟩) main_call9_v1) (broadcastInDim S16x16x256x512 ![] bcast_S_S16x16x256x512),
    TRef.ternary (TRef.of (T := ⟨S16x16x256x512, .i1⟩) main_v100) (TRef.of (T := ⟨S16x16x256x512, .f32⟩) main_v95) (TRef.of (T := ⟨S16x16x256x512, .f32⟩) main_call9_v1) (TRef.of (T := ⟨S16x16x256x512, .f32⟩) main_v101) select ]

def opsN1 : List (HloOp τ sig (Elt F)) :=
  [ nullary main_cst_12 (constant S_ .f32 0xFF800000#32),
    binary main_v101 main_cst_12 main_v102 ((fun x v => Host.reduce FloatOps.maximumf x v reducesTo_S16x16x256x512_S16x16x256_d3 h_S_) : (⟨S16x16x256x512, .f32⟩ : BufTy).Contents (Elt F) → (⟨S_, .f32⟩ : BufTy).Contents (Elt F) → (⟨S16x16x256, .f32⟩ : BufTy).Contents (Elt F)),
    unary main_v102 main_v103 (broadcastInDim S16x16x256x1 ![0, 1, 2] bcast_S16x16x256_S16x16x256x1_0_1_2 : (⟨S16x16x256, .f32⟩ : BufTy).Contents (Elt F) → (⟨S16x16x256x1, .f32⟩ : BufTy).Contents (Elt F)),
    unary main_v103 main_v104 (broadcastInDim S16x16x256x512 ![0, 1, 2, 3] bcast_S16x16x256x1_S16x16x256x512_0_1_2_3 : (⟨S16x16x256x1, .f32⟩ : BufTy).Contents (Elt F) → (⟨S16x16x256x512, .f32⟩ : BufTy).Contents (Elt F)) ]

def opsN2 : List (HloOp τ sig (Elt F)) :=
  [ binary main_v101 main_v104 main_v105 (subf : (⟨S16x16x256x512, .f32⟩ : BufTy).Contents (Elt F) → (⟨S16x16x256x512, .f32⟩ : BufTy).Contents (Elt F) → (⟨S16x16x256x512, .f32⟩ : BufTy).Contents (Elt F)),
    unary main_v105 main_v106 (Host.exp : (⟨S16x16x256x512, .f32⟩ : BufTy).Contents (Elt F) → (⟨S16x16x256x512, .f32⟩ : BufTy).Contents (Elt F)),
    nullary main_cst_13 (constant S_ .f32 0x00000000#32),
    binary main_v106 main_cst_13 main_v107 ((fun x v => Host.reduceAdd x v reducesTo_S16x16x256x512_S16x16x256_d3 h_S_) : (⟨S16x16x256x512, .f32⟩ : BufTy).Contents (Elt F) → (⟨S_, .f32⟩ : BufTy).Contents (Elt F) → (⟨S16x16x256, .f32⟩ : BufTy).Contents (Elt F)),
    unary main_v107 main_v108 (broadcastInDim S16x16x256x1 ![0, 1, 2] bcast_S16x16x256_S16x16x256x1_0_1_2 : (⟨S16x16x256, .f32⟩ : BufTy).Contents (Elt F) → (⟨S16x16x256x1, .f32⟩ : BufTy).Contents (Elt F)),
    unary main_v108 main_v109 (Host.log : (⟨S16x16x256x1, .f32⟩ : BufTy).Contents (Elt F) → (⟨S16x16x256x1, .f32⟩ : BufTy).Contents (Elt F)),
    binary main_v103 main_v109 main_v110 (addf : (⟨S16x16x256x1, .f32⟩ : BufTy).Contents (Elt F) → (⟨S16x16x256x1, .f32⟩ : BufTy).Contents (Elt F) → (⟨S16x16x256x1, .f32⟩ : BufTy).Contents (Elt F)) ]

def opsO : List (HloOp τ sig (Elt F)) :=
  [ unary main_v110 main_v111 (broadcastInDim S16x16x256x512 ![0, 1, 2, 3] bcast_S16x16x256x1_S16x16x256x512_0_1_2_3 : (⟨S16x16x256x1, .f32⟩ : BufTy).Contents (Elt F) → (⟨S16x16x256x512, .f32⟩ : BufTy).Contents (Elt F)),
    binary main_v101 main_v111 main_v112 (subf : (⟨S16x16x256x512, .f32⟩ : BufTy).Contents (Elt F) → (⟨S16x16x256x512, .f32⟩ : BufTy).Contents (Elt F) → (⟨S16x16x256x512, .f32⟩ : BufTy).Contents (Elt F)),
    unary main_v112 main_v113 (Host.exp : (⟨S16x16x256x512, .f32⟩ : BufTy).Contents (Elt F) → (⟨S16x16x256x512, .f32⟩ : BufTy).Contents (Elt F)),
    TRef.unary (TRef.of (T := ⟨S16x16x256x64, .f32⟩) main_v71) (TRef.of (T := ⟨S16x1x256x64, .f32⟩) main_call10_v0) (extractStridedSlice S16x1x256x64 ![0, 15, 0, 0] · slices_S16x16x256x64_S16x1x256x64_0_15_0_0),
    TRef.unary (TRef.of (T := ⟨S16x16x256x64, .f32⟩) main_v71) (TRef.of (T := ⟨S16x15x256x64, .f32⟩) main_call10_v1) (extractStridedSlice S16x15x256x64 ![0, 0, 0, 0] · slices_S16x16x256x64_S16x15x256x64_0_0_0_0),
    TRef.binary (TRef.of (T := ⟨S16x1x256x64, .f32⟩) main_call10_v0) (TRef.of (T := ⟨S16x15x256x64, .f32⟩) main_call10_v1) (TRef.of (T := ⟨S16x16x256x64, .f32⟩) main_v114) (cat_v114 (F := F)),
    binary main_v114 main_v71 main_v115 (cat_v115 (F := F)),
    binary main_v113 main_v115 main_v116 ((fun l r => Host.dotGeneral dot_S16x16x256x512_S16x16x512x64_S16x16x256x64_3_2_2_3_01_01 none l r) : (⟨S16x16x256x512, .f32⟩ : BufTy).Contents (Elt F) → (⟨S16x16x512x64, .f32⟩ : BufTy).Contents (Elt F) → (⟨S16x16x256x64, .f32⟩ : BufTy).Contents (Elt F)) ]

def opsP : List (HloOp τ sig (Elt F)) :=
  [ reshape main_v116 main_v117 (rfl : (.f32 : EltTy) = .f32) shapeCasts_S16x16x256x64_S16x4096x64,
    unary main_v64 main_v118 (broadcastInDim S16x4096x1 ![0, 1] bcast_S16x4096_S16x4096x1_0_1 : (⟨S16x4096, .i32⟩ : BufTy).Contents (Elt F) → (⟨S16x4096x1, .i32⟩ : BufTy).Contents (Elt F)),
    TRef.nullary (TRef.of (T := ⟨S_, .i32⟩) main_call11_c) (constantI S_ 32 0#32),
    TRef.unary (TRef.of (T := ⟨S_, .i32⟩) main_call11_c) (TRef.of (T := ⟨S16x4096x1, .i32⟩) main_call11_v0) (broadcastInDim S16x4096x1 ![] bcast_S_S16x4096x1),
    TRef.binary (TRef.of (T := ⟨S16x4096x1, .i32⟩) main_v118) (TRef.of (T := ⟨S16x4096x1, .i32⟩) main_call11_v0) (TRef.of (T := ⟨S16x4096x1, .i1⟩) main_call11_v1) (cmpi .slt),
    TRef.nullary (TRef.of (T := ⟨S_, .i32⟩) main_call11_c_0) (constantI S_ 32 4096#32),
    TRef.unary (TRef.of (T := ⟨S_, .i32⟩) main_call11_c_0) (TRef.of (T := ⟨S16x4096x1, .i32⟩) main_call11_v2) (broadcastInDim S16x4096x1 ![] bcast_S_S16x4096x1),
    TRef.binary (TRef.of (T := ⟨S16x4096x1, .i32⟩) main_v118) (TRef.of (T := ⟨S16x4096x1, .i32⟩) main_call11_v2) (TRef.of (T := ⟨S16x4096x1, .i32⟩) main_call11_v3) addi,
    TRef.ternary (TRef.of (T := ⟨S16x4096x1, .i1⟩) main_call11_v1) (TRef.of (T := ⟨S16x4096x1, .i32⟩) main_call11_v3) (TRef.of (T := ⟨S16x4096x1, .i32⟩) main_v118) (TRef.of (T := ⟨S16x4096x1, .i32⟩) main_call11_v4) select,
    TRef.nullary (TRef.of (T := ⟨S1, .i32⟩) main_call11_c_1) (constantI S1 32 4095#32),
    TRef.nullary (TRef.of (T := ⟨S_, .i32⟩) main_call11_c_2) (constantI S_ 32 0#32),
    TRef.unary (TRef.of (T := ⟨S_, .i32⟩) main_call11_c_2) (TRef.of (T := ⟨S16x4096x1, .i32⟩) main_call11_v5) (broadcastInDim S16x4096x1 ![] bcast_S_S16x4096x1),
    TRef.binary (TRef.of (T := ⟨S16x4096x1, .i32⟩) main_call11_v4) (TRef.of (T := ⟨S16x4096x1, .i32⟩) main_call11_v5) (TRef.of (T := ⟨S16x4096x1, .i1⟩) main_call11_v6) (cmpi .sge),
    TRef.unary (TRef.of (T := ⟨S1, .i32⟩) main_call11_c_1) (TRef.of (T := ⟨S1x1x1, .i32⟩) main_call11_v7) (broadcastInDim S1x1x1 ![2] bcast_S1_S1x1x1_2),
    TRef.unary (TRef.of (T := ⟨S1x1x1, .i32⟩) main_call11_v7) (TRef.of (T := ⟨S16x4096x1, .i32⟩) main_call11_v8) (broadcastInDim S16x4096x1 ![0, 1, 2] bcast_S1x1x1_S16x4096x1_0_1_2),
    TRef.binary (TRef.of (T := ⟨S16x4096x1, .i32⟩) main_call11_v4) (TRef.of (T := ⟨S16x4096x1, .i32⟩) main_call11_v8) (TRef.of (T := ⟨S16x4096x1, .i1⟩) main_call11_v9) (cmpi .sle),
    TRef.binary (TRef.of (T := ⟨S16x4096x1, .i1⟩) main_call11_v6) (TRef.of (T := ⟨S16x4096x1, .i1⟩) main_call11_v9) (TRef.of (T := ⟨S16x4096x1, .i1⟩) main_call11_v10) andi,
    TRef.nullary (TRef.of (T := ⟨S_, .i1⟩) main_call11_c_3) (constantI S_ 1 1#1),
    TRef.binary (TRef.of (T := ⟨S16x4096x1, .i1⟩) main_call11_v10) (TRef.of (T := ⟨S_, .i1⟩) main_call11_c_3) (TRef.of (T := ⟨S16x4096, .i1⟩) main_call11_v11) (fun x v => Host.reduce IntOp.andi x v reducesTo_S16x4096x1_S16x4096_d2 h_S_),
    TRef.binary (TRef.of (T := ⟨S16x4096x64, .f32⟩) main_v117) (TRef.of (T := ⟨S16x4096x1, .i32⟩) main_call11_v4) (TRef.of (T := ⟨S16x4096x64, .f32⟩) main_call11_v12) (fun x i => Host.gather gather_S16x4096x64_S16x4096x1_S16x4096x64_2_1_0_0_1_2_1164 x i),
    TRef.unary (TRef.of (T := ⟨S16x4096, .i1⟩) main_call11_v11) (TRef.of (T := ⟨S16x4096x64, .i1⟩) main_call11_v13) (broadcastInDim S16x4096x64 ![0, 1] bcast_S16x4096_S16x4096x64_0_1),
    TRef.nullary (TRef.of (T := ⟨S_, .f32⟩) main_call11_cst) (constant S_ .f32 0x7FC00000#32),
    TRef.unary (TRef.of (T := ⟨S_, .f32⟩) main_call11_cst) (TRef.of (T := ⟨S16x4096x64, .f32⟩) main_call11_v14) (broadcastInDim S16x4096x64 ![] bcast_S_S16x4096x64),
    TRef.ternary (TRef.of (T := ⟨S16x4096x64, .i1⟩) main_call11_v13) (TRef.of (T := ⟨S16x4096x64, .f32⟩) main_call11_v12) (TRef.of (T := ⟨S16x4096x64, .f32⟩) main_call11_v14) (TRef.of (T := ⟨S16x4096x64, .f32⟩) main_v119) select ]

def opsQ : List (HloOp τ sig (Elt F)) :=
  [ reshape main_v110 main_v120 (rfl : (.f32 : EltTy) = .f32) shapeCasts_S16x16x256x1_S16x4096,
    TRef.nullary (TRef.of (T := ⟨S_, .i32⟩) main_call12_c) (constantI S_ 32 0#32),
    TRef.unary (TRef.of (T := ⟨S_, .i32⟩) main_call12_c) (TRef.of (T := ⟨S16x4096, .i32⟩) main_call12_v0) (broadcastInDim S16x4096 ![] bcast_S_S16x4096),
    TRef.binary (TRef.of (T := ⟨S16x4096, .i32⟩) main_v64) (TRef.of (T := ⟨S16x4096, .i32⟩) main_call12_v0) (TRef.of (T := ⟨S16x4096, .i1⟩) main_call12_v1) (cmpi .slt),
    TRef.nullary (TRef.of (T := ⟨S_, .i32⟩) main_call12_c_0) (constantI S_ 32 4096#32),
    TRef.unary (TRef.of (T := ⟨S_, .i32⟩) main_call12_c_0) (TRef.of (T := ⟨S16x4096, .i32⟩) main_call12_v2) (broadcastInDim S16x4096 ![] bcast_S_S16x4096),
    TRef.binary (TRef.of (T := ⟨S16x4096, .i32⟩) main_v64) (TRef.of (T := ⟨S16x4096, .i32⟩) main_call12_v2) (TRef.of (T := ⟨S16x4096, .i32⟩) main_call12_v3) addi,
    TRef.ternary (TRef.of (T := ⟨S16x4096, .i1⟩) main_call12_v1) (TRef.of (T := ⟨S16x4096, .i32⟩) main_call12_v3) (TRef.of (T := ⟨S16x4096, .i32⟩) main_v64) (TRef.of (T := ⟨S16x4096, .i32⟩) main_call12_v4) select,
    TRef.reshape (TRef.of (T := ⟨S16x4096, .i32⟩) main_call12_v4) (TRef.of (T := ⟨S16x4096x1, .i32⟩) main_call12_v5) (rfl : (.i32 : EltTy) = .i32) shapeCasts_S16x4096_S16x4096x1,
    TRef.nullary (TRef.of (T := ⟨S1, .i32⟩) main_call12_c_1) (constantI S1 32 4095#32),
    TRef.nullary (TRef.of (T := ⟨S_, .i32⟩) main_call12_c_2) (constantI S_ 32 0#32),
    TRef.unary (TRef.of (T := ⟨S_, .i32⟩) main_call12_c_2) (TRef.of (T := ⟨S16x4096x1, .i32⟩) main_call12_v6) (broadcastInDim S16x4096x1 ![] bcast_S_S16x4096x1),
    TRef.binary (TRef.of (T := ⟨S16x4096x1, .i32⟩) main_call12_v5) (TRef.of (T := ⟨S16x4096x1, .i32⟩) main_call12_v6) (TRef.of (T := ⟨S16x4096x1, .i1⟩) main_call12_v7) (cmpi .sge),
    TRef.unary (TRef.of (T := ⟨S1, .i32⟩) main_call12_c_1) (TRef.of (T := ⟨S1x1x1, .i32⟩) main_call12_v8) (broadcastInDim S1x1x1 ![2] bcast_S1_S1x1x1_2),
    TRef.unary (TRef.of (T := ⟨S1x1x1, .i32⟩) main_call12_v8) (TRef.of (T := ⟨S16x4096x1, .i32⟩) main_call12_v9) (broadcastInDim S16x4096x1 ![0, 1, 2] bcast_S1x1x1_S16x4096x1_0_1_2),
    TRef.binary (TRef.of (T := ⟨S16x4096x1, .i32⟩) main_call12_v5) (TRef.of (T := ⟨S16x4096x1, .i32⟩) main_call12_v9) (TRef.of (T := ⟨S16x4096x1, .i1⟩) main_call12_v10) (cmpi .sle),
    TRef.binary (TRef.of (T := ⟨S16x4096x1, .i1⟩) main_call12_v7) (TRef.of (T := ⟨S16x4096x1, .i1⟩) main_call12_v10) (TRef.of (T := ⟨S16x4096x1, .i1⟩) main_call12_v11) andi,
    TRef.nullary (TRef.of (T := ⟨S_, .i1⟩) main_call12_c_3) (constantI S_ 1 1#1),
    TRef.binary (TRef.of (T := ⟨S16x4096x1, .i1⟩) main_call12_v11) (TRef.of (T := ⟨S_, .i1⟩) main_call12_c_3) (TRef.of (T := ⟨S16x4096, .i1⟩) main_call12_v12) (fun x v => Host.reduce IntOp.andi x v reducesTo_S16x4096x1_S16x4096_d2 h_S_),
    TRef.binary (TRef.of (T := ⟨S16x4096, .f32⟩) main_v120) (TRef.of (T := ⟨S16x4096x1, .i32⟩) main_call12_v5) (TRef.of (T := ⟨S16x4096, .f32⟩) main_call12_v13) (fun x i => Host.gather gather_S16x4096_S16x4096x1_S16x4096_n_1_0_0_1_2_11 x i),
    TRef.nullary (TRef.of (T := ⟨S_, .f32⟩) main_call12_cst) (constant S_ .f32 0x7FC00000#32),
    TRef.unary (TRef.of (T := ⟨S_, .f32⟩) main_call12_cst) (TRef.of (T := ⟨S16x4096, .f32⟩) main_call12_v14) (broadcastInDim S16x4096 ![] bcast_S_S16x4096),
    TRef.ternary (TRef.of (T := ⟨S16x4096, .i1⟩) main_call12_v12) (TRef.of (T := ⟨S16x4096, .f32⟩) main_call12_v13) (TRef.of (T := ⟨S16x4096, .f32⟩) main_call12_v14) (TRef.of (T := ⟨S16x4096, .f32⟩) main_v121) select ]

def opsR : List (HloOp τ sig (Elt F)) :=
  [ reshape main_v119 main_v122 (rfl : (.f32 : EltTy) = .f32) shapeCasts_S16x4096x64_S16x2x2048x64,
    reshape main_v121 main_v123 (rfl : (.f32 : EltTy) = .f32) shapeCasts_S16x4096_S16x2x2048,
    unary main_v123 main_v124 (broadcastInDim S16x2x2048x1 ![0, 1, 2] bcast_S16x2x2048_S16x2x2048x1_0_1_2 : (⟨S16x2x2048, .f32⟩ : BufTy).Contents (Elt F) → (⟨S16x2x2048x1, .f32⟩ : BufTy).Contents (Elt F)),
    nullary main_cst_14 (constant S_ .f32 0xFF800000#32),
    binary main_v124 main_cst_14 main_v125 ((fun x v => Host.reduce FloatOps.maximumf x v reducesTo_S16x2x2048x1_S16x2048x1_d1 h_S_) : (⟨S16x2x2048x1, .f32⟩ : BufTy).Contents (Elt F) → (⟨S_, .f32⟩ : BufTy).Contents (Elt F) → (⟨S16x2048x1, .f32⟩ : BufTy).Contents (Elt F)),
    unary main_v125 main_v126 (broadcastInDim S16x1x2048x1 ![0, 2, 3] bcast_S16x2048x1_S16x1x2048x1_0_2_3 : (⟨S16x2048x1, .f32⟩ : BufTy).Contents (Elt F) → (⟨S16x1x2048x1, .f32⟩ : BufTy).Contents (Elt F)),
    unary main_v126 main_v127 (broadcastInDim S16x2x2048x1 ![0, 1, 2, 3] bcast_S16x1x2048x1_S16x2x2048x1_0_1_2_3 : (⟨S16x1x2048x1, .f32⟩ : BufTy).Contents (Elt F) → (⟨S16x2x2048x1, .f32⟩ : BufTy).Contents (Elt F)),
    binary main_v124 main_v127 main_v128 (subf : (⟨S16x2x2048x1, .f32⟩ : BufTy).Contents (Elt F) → (⟨S16x2x2048x1, .f32⟩ : BufTy).Contents (Elt F) → (⟨S16x2x2048x1, .f32⟩ : BufTy).Contents (Elt F)),
    unary main_v128 main_v129 (Host.exp : (⟨S16x2x2048x1, .f32⟩ : BufTy).Contents (Elt F) → (⟨S16x2x2048x1, .f32⟩ : BufTy).Contents (Elt F)),
    nullary main_cst_15 (constant S_ .f32 0x00000000#32),
    binary main_v129 main_cst_15 main_v130 ((fun x v => Host.reduceAdd x v reducesTo_S16x2x2048x1_S16x2048x1_d1 h_S_) : (⟨S16x2x2048x1, .f32⟩ : BufTy).Contents (Elt F) → (⟨S_, .f32⟩ : BufTy).Contents (Elt F) → (⟨S16x2048x1, .f32⟩ : BufTy).Contents (Elt F)),
    unary main_v130 main_v131 (broadcastInDim S16x1x2048x1 ![0, 2, 3] bcast_S16x2048x1_S16x1x2048x1_0_2_3 : (⟨S16x2048x1, .f32⟩ : BufTy).Contents (Elt F) → (⟨S16x1x2048x1, .f32⟩ : BufTy).Contents (Elt F)),
    unary main_v131 main_v132 (Host.log : (⟨S16x1x2048x1, .f32⟩ : BufTy).Contents (Elt F) → (⟨S16x1x2048x1, .f32⟩ : BufTy).Contents (Elt F)),
    binary main_v126 main_v132 main_v133 (addf : (⟨S16x1x2048x1, .f32⟩ : BufTy).Contents (Elt F) → (⟨S16x1x2048x1, .f32⟩ : BufTy).Contents (Elt F) → (⟨S16x1x2048x1, .f32⟩ : BufTy).Contents (Elt F)),
    unary main_v133 main_v134 (broadcastInDim S16x2x2048x1 ![0, 1, 2, 3] bcast_S16x1x2048x1_S16x2x2048x1_0_1_2_3 : (⟨S16x1x2048x1, .f32⟩ : BufTy).Contents (Elt F) → (⟨S16x2x2048x1, .f32⟩ : BufTy).Contents (Elt F)),
    binary main_v124 main_v134 main_v135 (subf : (⟨S16x2x2048x1, .f32⟩ : BufTy).Contents (Elt F) → (⟨S16x2x2048x1, .f32⟩ : BufTy).Contents (Elt F) → (⟨S16x2x2048x1, .f32⟩ : BufTy).Contents (Elt F)),
    unary main_v135 main_v136 (Host.exp : (⟨S16x2x2048x1, .f32⟩ : BufTy).Contents (Elt F) → (⟨S16x2x2048x1, .f32⟩ : BufTy).Contents (Elt F)),
    unary main_v136 main_v137 (broadcastInDim S16x2x2048x64 ![0, 1, 2, 3] bcast_S16x2x2048x1_S16x2x2048x64_0_1_2_3 : (⟨S16x2x2048x1, .f32⟩ : BufTy).Contents (Elt F) → (⟨S16x2x2048x64, .f32⟩ : BufTy).Contents (Elt F)),
    binary main_v122 main_v137 main_v138 (mulf : (⟨S16x2x2048x64, .f32⟩ : BufTy).Contents (Elt F) → (⟨S16x2x2048x64, .f32⟩ : BufTy).Contents (Elt F) → (⟨S16x2x2048x64, .f32⟩ : BufTy).Contents (Elt F)),
    nullary main_cst_16 (constant S_ .f32 0x00000000#32),
    binary main_v138 main_cst_16 main_v139 ((fun x v => Host.reduceAdd x v reducesTo_S16x2x2048x64_S16x2048x64_d1 h_S_) : (⟨S16x2x2048x64, .f32⟩ : BufTy).Contents (Elt F) → (⟨S_, .f32⟩ : BufTy).Contents (Elt F) → (⟨S16x2048x64, .f32⟩ : BufTy).Contents (Elt F)),
    unary main_v139 main_v140 ((transpose S2048x16x64 [1, 0, 2] · transposes_S16x2048x64_S2048x16x64_1_0_2) : (⟨S16x2048x64, .f32⟩ : BufTy).Contents (Elt F) → (⟨S2048x16x64, .f32⟩ : BufTy).Contents (Elt F)),
    reshape main_v140 main_v141 (rfl : (.f32 : EltTy) = .f32) shapeCasts_S2048x16x64_S1x2048x1024 ]

def ops_part0 : List (HloOp τ sig (Elt F)) := opsA ++ (opsB ++ (opsC ++ (opsD1 ++ (opsD2 ++ (opsD3)))))

def ops_part1 : List (HloOp τ sig (Elt F)) := opsE ++ (opsF ++ (opsG ++ (opsH ++ (opsI ++ (opsJ ++ (opsK ++ (opsL ++ (opsM ++ (opsN1)))))))))

def ops_part2 : List (HloOp τ sig (Elt F)) := opsN2 ++ (opsO ++ (opsP ++ (opsQ ++ (opsR))))

abbrev ops : List (HloOp τ sig (Elt F)) := ops_part0 ++ (ops_part1 ++ ops_part2)

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_none : (Finset.univ.filter fun b : Ref sig .tc => b.isScoped) = ∅ := by decide
theorem scopedSems_none : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨binary_bufs_sub .., reshape_bufs_sub .., binary_bufs_sub .., reshape_bufs_sub ..⟩
set_option maxRecDepth 8192 in
theorem opsA_fresh : (opsA : List (HloOp τ sig (Elt F))).Forall fun op => op.fresh = ∅ :=
  ⟨rfl, rfl, rfl, rfl⟩
set_option maxRecDepth 8192 in
theorem opsB_sub : (opsB : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., unary_bufs_sub .., unary_bufs_sub .., reshape_bufs_sub .., unary_bufs_sub .., unary_bufs_sub .., unary_bufs_sub .., reshape_bufs_sub .., unary_bufs_sub ..⟩
set_option maxRecDepth 8192 in
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem opsC_sub : (opsC : List (HloOp τ sig (Elt F))).Forall fun op => op.bufs ⊆ tcRefs τ sig :=
  ⟨unary_bufs_sub .., unary_bufs_sub .., unary_bufs_sub .., unary_bufs_sub .., unary_bufs_sub .., binary_bufs_sub .., reshape_bufs_sub .., unary_bufs_sub .., binary_bufs_sub .., unary_bufs_sub .., binary_bufs_sub .., binary_bufs_sub .., unary_bufs_sub ..⟩
set_option maxRecDepth 8192 in
theorem opsC_fresh : (opsC : List (HloOp τ sig (Elt F))).Forall fun op => op.fresh = ∅ :=
  ⟨rfl, rfl, rfl, rfl, rfl, rfl, rfl, rfl, rfl, rfl, rfl, rfl, rfl⟩
set_option maxRecDepth 8192 in
theorem opsD1_sub : (opsD1 : List (HloOp τ sig (Elt F))).Forall fun op => op.bufs ⊆ tcRefs τ sig :=
  ⟨binary_bufs_sub .., unary_bufs_sub .., unary_bufs_sub .., binary_bufs_sub ..⟩
set_option maxRecDepth 8192 in
theorem opsD1_fresh : (opsD1 : List (HloOp τ sig (Elt F))).Forall fun op => op.fresh = ∅ :=
  ⟨rfl, rfl, rfl, rfl⟩
set_option maxRecDepth 8192 in
theorem opsD2_sub : (opsD2 : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 8192 in
theorem opsD2_fresh : (opsD2 : List (HloOp τ sig (Elt F))).Forall fun op => op.fresh = ∅ :=
  ⟨rfl, rfl, rfl, rfl, rfl⟩
set_option maxRecDepth 8192 in
theorem opsD3_sub : (opsD3 : List (HloOp τ sig (Elt F))).Forall fun op => op.bufs ⊆ tcRefs τ sig :=
  ⟨nullary_bufs_sub .., nullary_bufs_sub .., unary_bufs_sub .., binary_bufs_sub .., reshape_bufs_sub .., unary_bufs_sub .., binary_bufs_sub .., reshape_bufs_sub ..⟩
set_option maxRecDepth 8192 in
theorem opsD3_fresh : (opsD3 : List (HloOp τ sig (Elt F))).Forall fun op => op.fresh = ∅ :=
  ⟨rfl, rfl, rfl, rfl, rfl, rfl, rfl, rfl⟩
set_option maxRecDepth 8192 in
theorem opsE_sub : (opsE : List (HloOp τ sig (Elt F))).Forall fun op => op.bufs ⊆ tcRefs τ sig :=
  ⟨reshape_bufs_sub .., reshape_bufs_sub .., unary_bufs_sub .., nullary_bufs_sub .., unary_bufs_sub .., binary_bufs_sub .., nullary_bufs_sub .., unary_bufs_sub .., unary_bufs_sub .., binary_bufs_sub ..⟩
set_option maxRecDepth 8192 in
theorem opsE_fresh : (opsE : List (HloOp τ sig (Elt F))).Forall fun op => op.fresh = ∅ :=
  ⟨rfl, rfl, rfl, rfl, rfl, rfl, rfl, rfl, rfl, rfl⟩
set_option maxRecDepth 8192 in
theorem opsF_sub : (opsF : List (HloOp τ sig (Elt F))).Forall fun op => op.bufs ⊆ tcRefs τ sig :=
  ⟨nullary_bufs_sub .., binary_bufs_sub .., binary_bufs_sub ..⟩
set_option maxRecDepth 8192 in
theorem opsF_fresh : (opsF : List (HloOp τ sig (Elt F))).Forall fun op => op.fresh = ∅ :=
  ⟨rfl, rfl, rfl⟩
set_option maxRecDepth 8192 in
theorem opsG_sub : (opsG : List (HloOp τ sig (Elt F))).Forall fun op => op.bufs ⊆ tcRefs τ sig :=
  ⟨nullary_bufs_sub .., binary_bufs_sub .., binary_bufs_sub ..⟩
set_option maxRecDepth 8192 in
theorem opsG_fresh : (opsG : List (HloOp τ sig (Elt F))).Forall fun op => op.fresh = ∅ :=
  ⟨rfl, rfl, rfl⟩
set_option maxRecDepth 8192 in
theorem opsH_sub : (opsH : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
set_option maxRecDepth 8192 in
theorem opsI_sub : (opsI : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩
set_option maxRecDepth 8192 in
theorem opsI_fresh : (opsI : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem opsJ_sub : (opsJ : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩
set_option maxRecDepth 8192 in
theorem opsJ_fresh : (opsJ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem opsK_sub : (opsK : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub ..⟩
set_option maxRecDepth 8192 in
theorem opsK_fresh : (opsK : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem opsL_sub : (opsL : List (HloOp τ sig (Elt F))).Forall fun op => op.bufs ⊆ tcRefs τ sig :=
  ⟨unary_bufs_sub .., unary_bufs_sub .., binary_bufs_sub .., binary_bufs_sub .., binary_bufs_sub ..⟩
set_option maxRecDepth 8192 in
theorem opsL_fresh : (opsL : List (HloOp τ sig (Elt F))).Forall fun op => op.fresh = ∅ :=
  ⟨rfl, rfl, rfl, rfl, rfl⟩
set_option maxRecDepth 8192 in
theorem opsM_sub : (opsM : List (HloOp τ sig (Elt F))).Forall fun op => op.bufs ⊆ tcRefs τ sig :=
  ⟨reshape_bufs_sub .., unary_bufs_sub .., unary_bufs_sub .., binary_bufs_sub .., binary_bufs_sub .., unary_bufs_sub .., unary_bufs_sub .., unary_bufs_sub .., unary_bufs_sub .., binary_bufs_sub .., nullary_bufs_sub .., unary_bufs_sub .., unary_bufs_sub .., ternary_bufs_sub .., unary_bufs_sub .., unary_bufs_sub .., unary_bufs_sub .., unary_bufs_sub .., binary_bufs_sub .., nullary_bufs_sub .., unary_bufs_sub .., unary_bufs_sub .., ternary_bufs_sub ..⟩
set_option maxRecDepth 8192 in
theorem opsM_fresh : (opsM : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
theorem opsN1_sub : (opsN1 : List (HloOp τ sig (Elt F))).Forall fun op => op.bufs ⊆ tcRefs τ sig :=
  ⟨nullary_bufs_sub .., binary_bufs_sub .., unary_bufs_sub .., unary_bufs_sub ..⟩
set_option maxRecDepth 8192 in
theorem opsN1_fresh : (opsN1 : List (HloOp τ sig (Elt F))).Forall fun op => op.fresh = ∅ :=
  ⟨rfl, rfl, rfl, rfl⟩
set_option maxRecDepth 8192 in
theorem opsN2_sub : (opsN2 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub ..⟩
set_option maxRecDepth 8192 in
theorem opsN2_fresh : (opsN2 : List (HloOp τ sig (Elt F))).Forall fun op => op.fresh = ∅ :=
  ⟨rfl, rfl, rfl, rfl, rfl, rfl, rfl⟩
set_option maxRecDepth 8192 in
theorem opsO_sub : (opsO : List (HloOp τ sig (Elt F))).Forall fun op => op.bufs ⊆ tcRefs τ sig :=
  ⟨unary_bufs_sub .., binary_bufs_sub .., unary_bufs_sub .., unary_bufs_sub .., unary_bufs_sub .., binary_bufs_sub .., binary_bufs_sub .., binary_bufs_sub ..⟩
set_option maxRecDepth 8192 in
theorem opsO_fresh : (opsO : List (HloOp τ sig (Elt F))).Forall fun op => op.fresh = ∅ :=
  ⟨rfl, rfl, rfl, rfl, rfl, rfl, rfl, rfl⟩
set_option maxRecDepth 8192 in
theorem opsP_sub : (opsP : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem opsP_fresh : (opsP : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
set_option maxRecDepth 8192 in
theorem opsQ_sub : (opsQ : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
set_option maxRecDepth 8192 in
theorem opsQ_fresh : (opsQ : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
theorem opsR_sub : (opsR : List (HloOp τ sig (Elt F))).Forall fun op => op.bufs ⊆ tcRefs τ sig :=
  ⟨reshape_bufs_sub .., reshape_bufs_sub .., unary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., unary_bufs_sub .., reshape_bufs_sub ..⟩
set_option maxRecDepth 8192 in
theorem opsR_fresh : (opsR : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h | h | h | h | h | h | h | h | h | h | h | h
    exacts [List.forall_iff_forall_mem.mp opsA_sub op h, List.forall_iff_forall_mem.mp opsB_sub op h, List.forall_iff_forall_mem.mp opsC_sub op h, List.forall_iff_forall_mem.mp opsD1_sub op h, List.forall_iff_forall_mem.mp opsD2_sub op h, List.forall_iff_forall_mem.mp opsD3_sub op h, List.forall_iff_forall_mem.mp opsE_sub op h, List.forall_iff_forall_mem.mp opsF_sub op h, List.forall_iff_forall_mem.mp opsG_sub op h, List.forall_iff_forall_mem.mp opsH_sub op h, List.forall_iff_forall_mem.mp opsI_sub op h, List.forall_iff_forall_mem.mp opsJ_sub op h, List.forall_iff_forall_mem.mp opsK_sub op h, List.forall_iff_forall_mem.mp opsL_sub op h, List.forall_iff_forall_mem.mp opsM_sub op h, List.forall_iff_forall_mem.mp opsN1_sub op h, List.forall_iff_forall_mem.mp opsN2_sub op h, List.forall_iff_forall_mem.mp opsO_sub op h, List.forall_iff_forall_mem.mp opsP_sub op h, List.forall_iff_forall_mem.mp opsQ_sub op h, List.forall_iff_forall_mem.mp opsR_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h | h | h | h | h | h | h | h | h | h | h | h
    exacts [List.forall_iff_forall_mem.mp opsA_fresh op h, List.forall_iff_forall_mem.mp opsB_fresh op h, List.forall_iff_forall_mem.mp opsC_fresh op h, List.forall_iff_forall_mem.mp opsD1_fresh op h, List.forall_iff_forall_mem.mp opsD2_fresh op h, List.forall_iff_forall_mem.mp opsD3_fresh op h, List.forall_iff_forall_mem.mp opsE_fresh op h, List.forall_iff_forall_mem.mp opsF_fresh op h, List.forall_iff_forall_mem.mp opsG_fresh op h, List.forall_iff_forall_mem.mp opsH_fresh op h, List.forall_iff_forall_mem.mp opsI_fresh op h, List.forall_iff_forall_mem.mp opsJ_fresh op h, List.forall_iff_forall_mem.mp opsK_fresh op h, List.forall_iff_forall_mem.mp opsL_fresh op h, List.forall_iff_forall_mem.mp opsM_fresh op h, List.forall_iff_forall_mem.mp opsN1_fresh op h, List.forall_iff_forall_mem.mp opsN2_fresh op h, List.forall_iff_forall_mem.mp opsO_fresh op h, List.forall_iff_forall_mem.mp opsP_fresh op h, List.forall_iff_forall_mem.mp opsQ_fresh op h, List.forall_iff_forall_mem.mp opsR_fresh op h]

/-- The buffers stretch A writes. -/
abbrev WA : List (Ref sig .tc) := [main_v0, main_v1, main_v2, main_v3]
set_option maxRecDepth 8192 in
theorem opsA_writes : (opsA : List (HloOp τ sig (Elt F))).Forall fun op => op.writes ⊆ (WA.map (Proc.devRef (τ := τ) .tc)).toFinset := by
  simp only [opsA, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_⟩ <;> exact List.mem_map_of_mem (by decide)
/-- A buffer stretch A does not write keeps its contents through it. -/
theorem keepA (V : Valuation τ sig (Elt F)) (r : Ref sig .tc) (h : r ∉ WA) : after opsA V (no_index (Proc.devRef .tc r)) = V (Proc.devRef .tc r) :=
  after_of_writes_sub opsA _ opsA_writes h
/-- The buffers stretch B writes. -/
abbrev WB : List (Ref sig .tc) := [main_v4, main_cst, main_v5, main_v6, main_cst_0, main_v7, main_v8, main_cst_1, main_v9, main_v10, main_cst_2, main_v11, main_v12, main_cst_3, main_v13, main_v14, main_v15, main_v16, main_v17, main_v18, main_v19, main_v20, main_v21, main_v22, main_v23, main_v24, main_v25, main_v26, main_v27, main_v28]
set_option maxRecDepth 8192 in
theorem opsB_writes : (opsB : List (HloOp τ sig (Elt F))).Forall fun op => op.writes ⊆ (WB.map (Proc.devRef (τ := τ) .tc)).toFinset := by
  simp only [opsB, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch B does not write keeps its contents through it. -/
theorem keepB (V : Valuation τ sig (Elt F)) (r : Ref sig .tc) (h : r ∉ WB) : after opsB V (no_index (Proc.devRef .tc r)) = V (Proc.devRef .tc r) :=
  after_of_writes_sub opsB _ opsB_writes h
/-- The buffers stretch C writes. -/
abbrev WC : List (Ref sig .tc) := [main_v29, main_v30, main_v31, main_v32, main_v33, main_v34, main_v35, main_v36, main_v37, main_v38, main_v39, main_v40, main_v41]
set_option maxRecDepth 8192 in
theorem opsC_writes : (opsC : List (HloOp τ sig (Elt F))).Forall fun op => op.writes ⊆ (WC.map (Proc.devRef (τ := τ) .tc)).toFinset := by
  simp only [opsC, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_⟩ <;> exact List.mem_map_of_mem (by decide)
/-- A buffer stretch C does not write keeps its contents through it. -/
theorem keepC (V : Valuation τ sig (Elt F)) (r : Ref sig .tc) (h : r ∉ WC) : after opsC V (no_index (Proc.devRef .tc r)) = V (Proc.devRef .tc r) :=
  after_of_writes_sub opsC _ opsC_writes h
/-- The buffers stretch D1 writes. -/
abbrev WD1 : List (Ref sig .tc) := [main_v42, main_v43, main_v44, main_v45]
set_option maxRecDepth 8192 in
theorem opsD1_writes : (opsD1 : List (HloOp τ sig (Elt F))).Forall fun op => op.writes ⊆ (WD1.map (Proc.devRef (τ := τ) .tc)).toFinset := by
  simp only [opsD1, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_⟩ <;> exact List.mem_map_of_mem (by decide)
/-- A buffer stretch D1 does not write keeps its contents through it. -/
theorem keepD1 (V : Valuation τ sig (Elt F)) (r : Ref sig .tc) (h : r ∉ WD1) : after opsD1 V (no_index (Proc.devRef .tc r)) = V (Proc.devRef .tc r) :=
  after_of_writes_sub opsD1 _ opsD1_writes h
/-- The buffers stretch D2 writes. -/
abbrev WD2 : List (Ref sig .tc) := [main_call0_v0, main_call0_cst, main_call0_c, main_call0_v1_0, main_v46]
set_option maxRecDepth 8192 in
theorem opsD2_writes : (opsD2 : List (HloOp τ sig (Elt F))).Forall fun op => op.writes ⊆ (WD2.map (Proc.devRef (τ := τ) .tc)).toFinset := by
  simp only [opsD2, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_⟩ <;> exact List.mem_map_of_mem (by decide)
/-- A buffer stretch D2 does not write keeps its contents through it. -/
theorem keepD2 (V : Valuation τ sig (Elt F)) (r : Ref sig .tc) (h : r ∉ WD2) : after opsD2 V (no_index (Proc.devRef .tc r)) = V (Proc.devRef .tc r) :=
  after_of_writes_sub opsD2 _ opsD2_writes h
/-- The buffers stretch D3 writes. -/
abbrev WD3 : List (Ref sig .tc) := [main_v47, main_c, main_v48, main_v49, main_v50, main_v51, main_v52, main_v53]
set_option maxRecDepth 8192 in
theorem opsD3_writes : (opsD3 : List (HloOp τ sig (Elt F))).Forall fun op => op.writes ⊆ (WD3.map (Proc.devRef (τ := τ) .tc)).toFinset := by
  simp only [opsD3, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_⟩ <;> exact List.mem_map_of_mem (by decide)
/-- A buffer stretch D3 does not write keeps its contents through it. -/
theorem keepD3 (V : Valuation τ sig (Elt F)) (r : Ref sig .tc) (h : r ∉ WD3) : after opsD3 V (no_index (Proc.devRef .tc r)) = V (Proc.devRef .tc r) :=
  after_of_writes_sub opsD3 _ opsD3_writes h
/-- The buffers stretch E writes. -/
abbrev WE : List (Ref sig .tc) := [main_v54, main_v55, main_v56, main_c_4, main_v57, main_v58, main_v59, main_v60, main_v61, main_v62]
set_option maxRecDepth 8192 in
theorem opsE_writes : (opsE : List (HloOp τ sig (Elt F))).Forall fun op => op.writes ⊆ (WE.map (Proc.devRef (τ := τ) .tc)).toFinset := by
  simp only [opsE, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_⟩ <;> exact List.mem_map_of_mem (by decide)
/-- A buffer stretch E does not write keeps its contents through it. -/
theorem keepE (V : Valuation τ sig (Elt F)) (r : Ref sig .tc) (h : r ∉ WE) : after opsE V (no_index (Proc.devRef .tc r)) = V (Proc.devRef .tc r) :=
  after_of_writes_sub opsE _ opsE_writes h
/-- The buffers stretch F writes. -/
abbrev WF : List (Ref sig .tc) := [main_call1_v0, main_call1_v1_0, main_v63]
set_option maxRecDepth 8192 in
theorem opsF_writes : (opsF : List (HloOp τ sig (Elt F))).Forall fun op => op.writes ⊆ (WF.map (Proc.devRef (τ := τ) .tc)).toFinset := by
  simp only [opsF, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_⟩ <;> exact List.mem_map_of_mem (by decide)
/-- A buffer stretch F does not write keeps its contents through it. -/
theorem keepF (V : Valuation τ sig (Elt F)) (r : Ref sig .tc) (h : r ∉ WF) : after opsF V (no_index (Proc.devRef .tc r)) = V (Proc.devRef .tc r) :=
  after_of_writes_sub opsF _ opsF_writes h
/-- The buffers stretch G writes. -/
abbrev WG : List (Ref sig .tc) := [main_call2_v0, main_call2_v1_0, main_v64]
set_option maxRecDepth 8192 in
theorem opsG_writes : (opsG : List (HloOp τ sig (Elt F))).Forall fun op => op.writes ⊆ (WG.map (Proc.devRef (τ := τ) .tc)).toFinset := by
  simp only [opsG, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_⟩ <;> exact List.mem_map_of_mem (by decide)
/-- A buffer stretch G does not write keeps its contents through it. -/
theorem keepG (V : Valuation τ sig (Elt F)) (r : Ref sig .tc) (h : r ∉ WG) : after opsG V (no_index (Proc.devRef .tc r)) = V (Proc.devRef .tc r) :=
  after_of_writes_sub opsG _ opsG_writes h
/-- The buffers stretch H writes. -/
abbrev WH : List (Ref sig .tc) := [main_c_5, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v65]
set_option maxRecDepth 8192 in
theorem opsH_writes : (opsH : List (HloOp τ sig (Elt F))).Forall fun op => op.writes ⊆ (WH.map (Proc.devRef (τ := τ) .tc)).toFinset := by
  simp only [opsH, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_⟩ <;> exact List.mem_map_of_mem (by decide)
/-- A buffer stretch H does not write keeps its contents through it. -/
theorem keepH (V : Valuation τ sig (Elt F)) (r : Ref sig .tc) (h : r ∉ WH) : after opsH V (no_index (Proc.devRef .tc r)) = V (Proc.devRef .tc r) :=
  after_of_writes_sub opsH _ opsH_writes h
/-- The buffers stretch I writes. -/
abbrev WI : List (Ref sig .tc) := [main_v66, main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v67, main_v68]
set_option maxRecDepth 8192 in
theorem opsI_writes : (opsI : List (HloOp τ sig (Elt F))).Forall fun op => op.writes ⊆ (WI.map (Proc.devRef (τ := τ) .tc)).toFinset := by
  simp only [opsI, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch I does not write keeps its contents through it. -/
theorem keepI (V : Valuation τ sig (Elt F)) (r : Ref sig .tc) (h : r ∉ WI) : after opsI V (no_index (Proc.devRef .tc r)) = V (Proc.devRef .tc r) :=
  after_of_writes_sub opsI _ opsI_writes h
/-- The buffers stretch J writes. -/
abbrev WJ : List (Ref sig .tc) := [main_v69, main_call5_c, main_call5_v0, main_call5_v1, main_call5_c_0, main_call5_v2, main_call5_v3, main_call5_v4, main_call5_c_1, main_call5_c_2, main_call5_v5, main_call5_v6, main_call5_v7, main_call5_v8, main_call5_v9, main_call5_v10, main_call5_c_3, main_call5_v11, main_call5_v12, main_call5_v13, main_call5_cst, main_call5_v14, main_v70, main_v71]
set_option maxRecDepth 8192 in
theorem opsJ_writes : (opsJ : List (HloOp τ sig (Elt F))).Forall fun op => op.writes ⊆ (WJ.map (Proc.devRef (τ := τ) .tc)).toFinset := by
  simp only [opsJ, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch J does not write keeps its contents through it. -/
theorem keepJ (V : Valuation τ sig (Elt F)) (r : Ref sig .tc) (h : r ∉ WJ) : after opsJ V (no_index (Proc.devRef .tc r)) = V (Proc.devRef .tc r) :=
  after_of_writes_sub opsJ _ opsJ_writes h
/-- The buffers stretch K writes. -/
abbrev WK : List (Ref sig .tc) := [main_v72, main_cst_6, main_v73, main_v74, main_cst_7, main_v75, main_v76, main_cst_8, main_v77, main_v78, main_v79, main_v80, main_v81, main_cst_9, main_v82, main_v83]
set_option maxRecDepth 8192 in
theorem opsK_writes : (opsK : List (HloOp τ sig (Elt F))).Forall fun op => op.writes ⊆ (WK.map (Proc.devRef (τ := τ) .tc)).toFinset := by
  simp only [opsK, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_⟩ <;> exact List.mem_map_of_mem (by decide)
/-- A buffer stretch K does not write keeps its contents through it. -/
theorem keepK (V : Valuation τ sig (Elt F)) (r : Ref sig .tc) (h : r ∉ WK) : after opsK V (no_index (Proc.devRef .tc r)) = V (Proc.devRef .tc r) :=
  after_of_writes_sub opsK _ opsK_writes h
/-- The buffers stretch L writes. -/
abbrev WL : List (Ref sig .tc) := [main_call6_v0, main_call6_v1, main_v84, main_v85, main_v86]
set_option maxRecDepth 8192 in
theorem opsL_writes : (opsL : List (HloOp τ sig (Elt F))).Forall fun op => op.writes ⊆ (WL.map (Proc.devRef (τ := τ) .tc)).toFinset := by
  simp only [opsL, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_⟩ <;> exact List.mem_map_of_mem (by decide)
/-- A buffer stretch L does not write keeps its contents through it. -/
theorem keepL (V : Valuation τ sig (Elt F)) (r : Ref sig .tc) (h : r ∉ WL) : after opsL V (no_index (Proc.devRef .tc r)) = V (Proc.devRef .tc r) :=
  after_of_writes_sub opsL _ opsL_writes h
/-- The buffers stretch M writes. -/
abbrev WM : List (Ref sig .tc) := [main_v87, main_call7_v0, main_call7_v1, main_v88, main_v89, main_v90, main_v91, main_v92, main_v93, main_v94, main_cst_10, main_call8_v0, main_call8_v1, main_v95, main_v96, main_v97, main_v98, main_v99, main_v100, main_cst_11, main_call9_v0, main_call9_v1, main_v101]
set_option maxRecDepth 8192 in
theorem opsM_writes : (opsM : List (HloOp τ sig (Elt F))).Forall fun op => op.writes ⊆ (WM.map (Proc.devRef (τ := τ) .tc)).toFinset := by
  simp only [opsM, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch M does not write keeps its contents through it. -/
theorem keepM (V : Valuation τ sig (Elt F)) (r : Ref sig .tc) (h : r ∉ WM) : after opsM V (no_index (Proc.devRef .tc r)) = V (Proc.devRef .tc r) :=
  after_of_writes_sub opsM _ opsM_writes h
/-- The buffers stretch N1 writes. -/
abbrev WN1 : List (Ref sig .tc) := [main_cst_12, main_v102, main_v103, main_v104]
set_option maxRecDepth 8192 in
theorem opsN1_writes : (opsN1 : List (HloOp τ sig (Elt F))).Forall fun op => op.writes ⊆ (WN1.map (Proc.devRef (τ := τ) .tc)).toFinset := by
  simp only [opsN1, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_⟩ <;> exact List.mem_map_of_mem (by decide)
/-- A buffer stretch N1 does not write keeps its contents through it. -/
theorem keepN1 (V : Valuation τ sig (Elt F)) (r : Ref sig .tc) (h : r ∉ WN1) : after opsN1 V (no_index (Proc.devRef .tc r)) = V (Proc.devRef .tc r) :=
  after_of_writes_sub opsN1 _ opsN1_writes h
/-- The buffers stretch N2 writes. -/
abbrev WN2 : List (Ref sig .tc) := [main_v105, main_v106, main_cst_13, main_v107, main_v108, main_v109, main_v110]
set_option maxRecDepth 8192 in
theorem opsN2_writes : (opsN2 : List (HloOp τ sig (Elt F))).Forall fun op => op.writes ⊆ (WN2.map (Proc.devRef (τ := τ) .tc)).toFinset := by
  simp only [opsN2, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_⟩ <;> exact List.mem_map_of_mem (by decide)
/-- A buffer stretch N2 does not write keeps its contents through it. -/
theorem keepN2 (V : Valuation τ sig (Elt F)) (r : Ref sig .tc) (h : r ∉ WN2) : after opsN2 V (no_index (Proc.devRef .tc r)) = V (Proc.devRef .tc r) :=
  after_of_writes_sub opsN2 _ opsN2_writes h
/-- The buffers stretch O writes. -/
abbrev WO : List (Ref sig .tc) := [main_v111, main_v112, main_v113, main_call10_v0, main_call10_v1, main_v114, main_v115, main_v116]
set_option maxRecDepth 8192 in
theorem opsO_writes : (opsO : List (HloOp τ sig (Elt F))).Forall fun op => op.writes ⊆ (WO.map (Proc.devRef (τ := τ) .tc)).toFinset := by
  simp only [opsO, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_⟩ <;> exact List.mem_map_of_mem (by decide)
/-- A buffer stretch O does not write keeps its contents through it. -/
theorem keepO (V : Valuation τ sig (Elt F)) (r : Ref sig .tc) (h : r ∉ WO) : after opsO V (no_index (Proc.devRef .tc r)) = V (Proc.devRef .tc r) :=
  after_of_writes_sub opsO _ opsO_writes h
/-- The buffers stretch P writes. -/
abbrev WP : List (Ref sig .tc) := [main_v117, main_v118, main_call11_c, main_call11_v0, main_call11_v1, main_call11_c_0, main_call11_v2, main_call11_v3, main_call11_v4, main_call11_c_1, main_call11_c_2, main_call11_v5, main_call11_v6, main_call11_v7, main_call11_v8, main_call11_v9, main_call11_v10, main_call11_c_3, main_call11_v11, main_call11_v12, main_call11_v13, main_call11_cst, main_call11_v14, main_v119]
set_option maxRecDepth 8192 in
theorem opsP_writes : (opsP : List (HloOp τ sig (Elt F))).Forall fun op => op.writes ⊆ (WP.map (Proc.devRef (τ := τ) .tc)).toFinset := by
  simp only [opsP, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch P does not write keeps its contents through it. -/
theorem keepP (V : Valuation τ sig (Elt F)) (r : Ref sig .tc) (h : r ∉ WP) : after opsP V (no_index (Proc.devRef .tc r)) = V (Proc.devRef .tc r) :=
  after_of_writes_sub opsP _ opsP_writes h
/-- The buffers stretch Q writes. -/
abbrev WQ : List (Ref sig .tc) := [main_v120, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_cst, main_call12_v14, main_v121]
set_option maxRecDepth 8192 in
theorem opsQ_writes : (opsQ : List (HloOp τ sig (Elt F))).Forall fun op => op.writes ⊆ (WQ.map (Proc.devRef (τ := τ) .tc)).toFinset := by
  simp only [opsQ, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch Q does not write keeps its contents through it. -/
theorem keepQ (V : Valuation τ sig (Elt F)) (r : Ref sig .tc) (h : r ∉ WQ) : after opsQ V (no_index (Proc.devRef .tc r)) = V (Proc.devRef .tc r) :=
  after_of_writes_sub opsQ _ opsQ_writes h
/-- The buffers stretch R writes. -/
abbrev WR : List (Ref sig .tc) := [main_v122, main_v123, main_v124, main_cst_14, main_v125, main_v126, main_v127, main_v128, main_v129, main_cst_15, main_v130, main_v131, main_v132, main_v133, main_v134, main_v135, main_v136, main_v137, main_v138, main_cst_16, main_v139, main_v140, main_v141]
set_option maxRecDepth 8192 in
theorem opsR_writes : (opsR : List (HloOp τ sig (Elt F))).Forall fun op => op.writes ⊆ (WR.map (Proc.devRef (τ := τ) .tc)).toFinset := by
  simp only [opsR, List.Forall, TRef.nullary, TRef.unary, TRef.binary, TRef.ternary, TRef.quaternary, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩ <;> exact List.mem_map_of_mem (by decide)
/-- A buffer stretch R does not write keeps its contents through it. -/
theorem keepR (V : Valuation τ sig (Elt F)) (r : Ref sig .tc) (h : r ∉ WR) : after opsR V (no_index (Proc.devRef .tc r)) = V (Proc.devRef .tc r) :=
  after_of_writes_sub opsR _ opsR_writes h
set_option maxRecDepth 8192 in
set_option maxHeartbeats 4000000 in
theorem rd_v1 (V : Valuation τ sig (Elt F)) : after opsA V (no_index (Proc.devRef .tc main_v1)) = s_v1 (F := F) (V (Proc.devRef .tc main_arg0)) (V (Proc.devRef .tc main_arg1)) := by
  simp only [opsA, TRef.nullary, TRef.unary, TRef.binary, TRef.ternary, TRef.quaternary, TRef.toBuf, TRef.ofBuf, cast_eq]
  after_results_simp
  rfl
set_option maxRecDepth 8192 in
set_option maxHeartbeats 4000000 in
theorem rd_v3 (V : Valuation τ sig (Elt F)) : after opsA V (no_index (Proc.devRef .tc main_v3)) = s_v3 (F := F) (V (Proc.devRef .tc main_arg0)) (V (Proc.devRef .tc main_arg2)) := by
  simp only [opsA, TRef.nullary, TRef.unary, TRef.binary, TRef.ternary, TRef.quaternary, TRef.toBuf, TRef.ofBuf, cast_eq]
  after_results_simp
  rfl
set_option maxRecDepth 8192 in
set_option maxHeartbeats 4000000 in
theorem rd_v23 (V : Valuation τ sig (Elt F)) : after opsB V (no_index (Proc.devRef .tc main_v23)) = s_v23 (F := F)  := by
  simp only [opsB, TRef.nullary, TRef.unary, TRef.binary, TRef.ternary, TRef.quaternary, TRef.toBuf, TRef.ofBuf, cast_eq]
  after_results_simp
  rfl
set_option maxRecDepth 8192 in
set_option maxHeartbeats 4000000 in
theorem rd_v27 (V : Valuation τ sig (Elt F)) : after opsB V (no_index (Proc.devRef .tc main_v27)) = s_v27 (F := F)  := by
  simp only [opsB, TRef.nullary, TRef.unary, TRef.binary, TRef.ternary, TRef.quaternary, TRef.toBuf, TRef.ofBuf, cast_eq]
  after_results_simp
  rfl
set_option maxRecDepth 8192 in
set_option maxHeartbeats 4000000 in
theorem rd_v24 (V : Valuation τ sig (Elt F)) : after opsB V (no_index (Proc.devRef .tc main_v24)) = s_v24 (F := F)  := by
  simp only [opsB, TRef.nullary, TRef.unary, TRef.binary, TRef.ternary, TRef.quaternary, TRef.toBuf, TRef.ofBuf, cast_eq]
  after_results_simp
  rfl
set_option maxRecDepth 8192 in
set_option maxHeartbeats 4000000 in
theorem rd_v28 (V : Valuation τ sig (Elt F)) : after opsB V (no_index (Proc.devRef .tc main_v28)) = s_v28 (F := F)  := by
  simp only [opsB, TRef.nullary, TRef.unary, TRef.binary, TRef.ternary, TRef.quaternary, TRef.toBuf, TRef.ofBuf, cast_eq]
  after_results_simp
  rfl
set_option maxRecDepth 8192 in
set_option maxHeartbeats 4000000 in
theorem rd_v41 (V : Valuation τ sig (Elt F)) : after opsC V (no_index (Proc.devRef .tc main_v41)) = s_v41 (F := F) (V (Proc.devRef .tc main_v1)) (V (Proc.devRef .tc main_v28)) (V (Proc.devRef .tc main_v24)) := by
  simp only [opsC, TRef.nullary, TRef.unary, TRef.binary, TRef.ternary, TRef.quaternary, TRef.toBuf, TRef.ofBuf, cast_eq]
  after_results_simp
  rfl
set_option maxRecDepth 8192 in
set_option maxHeartbeats 4000000 in
theorem rd_v45 (V : Valuation τ sig (Elt F)) : after opsD1 V (no_index (Proc.devRef .tc main_v45)) = s_v45 (F := F) (V (Proc.devRef .tc main_arg3)) (V (Proc.devRef .tc main_v41)) := by
  simp only [opsD1, TRef.nullary, TRef.unary, TRef.binary, TRef.ternary, TRef.quaternary, TRef.toBuf, TRef.ofBuf, cast_eq]
  after_results_simp
  rfl
set_option maxRecDepth 8192 in
set_option maxHeartbeats 4000000 in
theorem rd_v46 (V : Valuation τ sig (Elt F)) : after opsD2 V (no_index (Proc.devRef .tc main_v46)) = s_v46 (F := F) (V (Proc.devRef .tc main_v45)) := by
  simp only [opsD2, TRef.nullary, TRef.unary, TRef.binary, TRef.ternary, TRef.quaternary, TRef.toBuf, TRef.ofBuf, cast_eq]
  after_results_simp
  rfl
set_option maxRecDepth 8192 in
set_option maxHeartbeats 4000000 in
theorem rd_v53 (V : Valuation τ sig (Elt F)) : after opsD3 V (no_index (Proc.devRef .tc main_v53)) = s_v53 (F := F) (V (Proc.devRef .tc main_v46)) := by
  simp only [opsD3, TRef.nullary, TRef.unary, TRef.binary, TRef.ternary, TRef.quaternary, TRef.toBuf, TRef.ofBuf, cast_eq]
  after_results_simp
  rfl
set_option maxRecDepth 8192 in
set_option maxHeartbeats 4000000 in
theorem rd_v54 (V : Valuation τ sig (Elt F)) : after opsE V (no_index (Proc.devRef .tc main_v54)) = s_v54 (F := F) (V (Proc.devRef .tc main_v41)) := by
  simp only [opsE, TRef.nullary, TRef.unary, TRef.binary, TRef.ternary, TRef.quaternary, TRef.toBuf, TRef.ofBuf, cast_eq]
  after_results_simp
  rfl
set_option maxRecDepth 8192 in
set_option maxHeartbeats 4000000 in
theorem rd_v56 (V : Valuation τ sig (Elt F)) : after opsE V (no_index (Proc.devRef .tc main_v56)) = s_v56 (F := F) (V (Proc.devRef .tc main_v3)) := by
  simp only [opsE, TRef.nullary, TRef.unary, TRef.binary, TRef.ternary, TRef.quaternary, TRef.toBuf, TRef.ofBuf, cast_eq]
  after_results_simp
  rfl
set_option maxRecDepth 8192 in
set_option maxHeartbeats 4000000 in
theorem rd_v62 (V : Valuation τ sig (Elt F)) : after opsE V (no_index (Proc.devRef .tc main_v62)) = s_v62 (F := F) (V (Proc.devRef .tc main_v53)) := by
  simp only [opsE, TRef.nullary, TRef.unary, TRef.binary, TRef.ternary, TRef.quaternary, TRef.toBuf, TRef.ofBuf, cast_eq]
  after_results_simp
  rfl
set_option maxRecDepth 8192 in
set_option maxHeartbeats 4000000 in
theorem rd_v63 (V : Valuation τ sig (Elt F)) : after opsF V (no_index (Proc.devRef .tc main_v63)) = s_v63 (F := F) (V (Proc.devRef .tc main_v62)) := by
  simp only [opsF, TRef.nullary, TRef.unary, TRef.binary, TRef.ternary, TRef.quaternary, TRef.toBuf, TRef.ofBuf, cast_eq]
  after_results_simp
  rfl
set_option maxRecDepth 8192 in
set_option maxHeartbeats 4000000 in
theorem rd_v64 (V : Valuation τ sig (Elt F)) : after opsG V (no_index (Proc.devRef .tc main_v64)) = s_v64 (F := F) (V (Proc.devRef .tc main_v63)) := by
  simp only [opsG, TRef.nullary, TRef.unary, TRef.binary, TRef.ternary, TRef.quaternary, TRef.toBuf, TRef.ofBuf, cast_eq]
  after_results_simp
  rfl
set_option maxRecDepth 8192 in
set_option maxHeartbeats 4000000 in
theorem rd_v65 (V : Valuation τ sig (Elt F)) : after opsH V (no_index (Proc.devRef .tc main_v65)) = s_v65 (F := F) (V (Proc.devRef .tc main_v63)) := by
  simp only [opsH, TRef.nullary, TRef.unary, TRef.binary, TRef.ternary, TRef.quaternary, TRef.toBuf, TRef.ofBuf, cast_eq]
  after_results_simp
  rfl
set_option maxRecDepth 8192 in
set_option maxHeartbeats 4000000 in
theorem rd_v67 (V : Valuation τ sig (Elt F)) : after opsI V (no_index (Proc.devRef .tc main_v67)) = s_v67 (F := F) (V (Proc.devRef .tc main_v65)) (V (Proc.devRef .tc main_v54)) := by
  simp only [opsI, TRef.nullary, TRef.unary, TRef.binary, TRef.ternary, TRef.quaternary, TRef.toBuf, TRef.ofBuf, cast_eq]
  after_results_simp
  rfl
set_option maxRecDepth 8192 in
set_option maxHeartbeats 4000000 in
theorem rd_v68 (V : Valuation τ sig (Elt F)) : after opsI V (no_index (Proc.devRef .tc main_v68)) = s_v68 (F := F) (V (Proc.devRef .tc main_v65)) (V (Proc.devRef .tc main_v54)) := by
  simp only [opsI, TRef.nullary, TRef.unary, TRef.binary, TRef.ternary, TRef.quaternary, TRef.toBuf, TRef.ofBuf, cast_eq]
  after_results_simp
  rfl
set_option maxRecDepth 8192 in
set_option maxHeartbeats 4000000 in
theorem rd_v70 (V : Valuation τ sig (Elt F)) : after opsJ V (no_index (Proc.devRef .tc main_v70)) = s_v70 (F := F) (V (Proc.devRef .tc main_v65)) (V (Proc.devRef .tc main_v56)) := by
  simp only [opsJ, TRef.nullary, TRef.unary, TRef.binary, TRef.ternary, TRef.quaternary, TRef.toBuf, TRef.ofBuf, cast_eq]
  after_results_simp
  rfl
set_option maxRecDepth 8192 in
set_option maxHeartbeats 4000000 in
theorem rd_v71 (V : Valuation τ sig (Elt F)) : after opsJ V (no_index (Proc.devRef .tc main_v71)) = s_v71 (F := F) (V (Proc.devRef .tc main_v65)) (V (Proc.devRef .tc main_v56)) := by
  simp only [opsJ, TRef.nullary, TRef.unary, TRef.binary, TRef.ternary, TRef.quaternary, TRef.toBuf, TRef.ofBuf, cast_eq]
  after_results_simp
  rfl
set_option maxRecDepth 8192 in
set_option maxHeartbeats 4000000 in
theorem rd_v83 (V : Valuation τ sig (Elt F)) : after opsK V (no_index (Proc.devRef .tc main_v83)) = s_v83 (F := F) (V (Proc.devRef .tc main_v68)) := by
  simp only [opsK, TRef.nullary, TRef.unary, TRef.binary, TRef.ternary, TRef.quaternary, TRef.toBuf, TRef.ofBuf, cast_eq]
  after_results_simp
  rfl
set_option maxRecDepth 8192 in
set_option maxHeartbeats 4000000 in
theorem rd_v85 (V : Valuation τ sig (Elt F)) : after opsL V (no_index (Proc.devRef .tc main_v85)) = s_v85 (F := F) (V (Proc.devRef .tc main_v83)) := by
  simp only [opsL, TRef.nullary, TRef.unary, TRef.binary, TRef.ternary, TRef.quaternary, TRef.toBuf, TRef.ofBuf, cast_eq]
  after_results_simp
  rfl
set_option maxRecDepth 8192 in
set_option maxHeartbeats 4000000 in
theorem rd_v86 (V : Valuation τ sig (Elt F)) : after opsL V (no_index (Proc.devRef .tc main_v86)) = s_v86 (F := F) (V (Proc.devRef .tc main_v68)) (V (Proc.devRef .tc main_v83)) := by
  simp only [opsL, TRef.nullary, TRef.unary, TRef.binary, TRef.ternary, TRef.quaternary, TRef.toBuf, TRef.ofBuf, cast_eq]
  after_results_simp
  rfl
set_option maxRecDepth 8192 in
set_option maxHeartbeats 4000000 in
theorem rd_v87 (V : Valuation τ sig (Elt F)) : after opsM V (no_index (Proc.devRef .tc main_v87)) = s_v87 (F := F) (V (Proc.devRef .tc main_v65)) := by
  simp only [opsM, TRef.nullary, TRef.unary, TRef.binary, TRef.ternary, TRef.quaternary, TRef.toBuf, TRef.ofBuf, cast_eq]
  after_results_simp
  rfl
set_option maxRecDepth 8192 in
set_option maxHeartbeats 4000000 in
theorem rd_v89 (V : Valuation τ sig (Elt F)) : after opsM V (no_index (Proc.devRef .tc main_v89)) = s_v89 (F := F) (V (Proc.devRef .tc main_v65)) := by
  simp only [opsM, TRef.nullary, TRef.unary, TRef.binary, TRef.ternary, TRef.quaternary, TRef.toBuf, TRef.ofBuf, cast_eq]
  after_results_simp
  rfl
set_option maxRecDepth 8192 in
set_option maxHeartbeats 4000000 in
theorem rd_v101 (V : Valuation τ sig (Elt F)) : after opsM V (no_index (Proc.devRef .tc main_v101)) = s_v101 (F := F) (V (Proc.devRef .tc main_v65)) (V (Proc.devRef .tc main_v86)) := by
  simp only [opsM, TRef.nullary, TRef.unary, TRef.binary, TRef.ternary, TRef.quaternary, TRef.toBuf, TRef.ofBuf, cast_eq]
  after_results_simp
  rfl
set_option maxRecDepth 8192 in
set_option maxHeartbeats 4000000 in
theorem rd_v103 (V : Valuation τ sig (Elt F)) : after opsN1 V (no_index (Proc.devRef .tc main_v103)) = s_v103 (F := F) (V (Proc.devRef .tc main_v101)) := by
  simp only [opsN1, TRef.nullary, TRef.unary, TRef.binary, TRef.ternary, TRef.quaternary, TRef.toBuf, TRef.ofBuf, cast_eq]
  after_results_simp
  rfl
set_option maxRecDepth 8192 in
set_option maxHeartbeats 4000000 in
theorem rd_v104 (V : Valuation τ sig (Elt F)) : after opsN1 V (no_index (Proc.devRef .tc main_v104)) = s_v104 (F := F) (V (Proc.devRef .tc main_v101)) := by
  simp only [opsN1, TRef.nullary, TRef.unary, TRef.binary, TRef.ternary, TRef.quaternary, TRef.toBuf, TRef.ofBuf, cast_eq]
  after_results_simp
  rfl
set_option maxRecDepth 8192 in
set_option maxHeartbeats 4000000 in
theorem rd_v110 (V : Valuation τ sig (Elt F)) : after opsN2 V (no_index (Proc.devRef .tc main_v110)) = s_v110 (F := F) (V (Proc.devRef .tc main_v103)) (V (Proc.devRef .tc main_v101)) (V (Proc.devRef .tc main_v104)) := by
  simp only [opsN2, TRef.nullary, TRef.unary, TRef.binary, TRef.ternary, TRef.quaternary, TRef.toBuf, TRef.ofBuf, cast_eq]
  after_results_simp
  rfl
set_option maxRecDepth 8192 in
set_option maxHeartbeats 4000000 in
theorem rd_v113 (V : Valuation τ sig (Elt F)) : after opsO V (no_index (Proc.devRef .tc main_v113)) = s_v113 (F := F) (V (Proc.devRef .tc main_v101)) (V (Proc.devRef .tc main_v110)) := by
  simp only [opsO, TRef.nullary, TRef.unary, TRef.binary, TRef.ternary, TRef.quaternary, TRef.toBuf, TRef.ofBuf, cast_eq]
  after_results_simp
  rfl
set_option maxRecDepth 8192 in
set_option maxHeartbeats 4000000 in
theorem rd_v115 (V : Valuation τ sig (Elt F)) : after opsO V (no_index (Proc.devRef .tc main_v115)) = s_v115 (F := F) (V (Proc.devRef .tc main_v71)) := by
  simp only [opsO, TRef.nullary, TRef.unary, TRef.binary, TRef.ternary, TRef.quaternary, TRef.toBuf, TRef.ofBuf, cast_eq]
  after_results_simp
  rfl
set_option maxRecDepth 8192 in
set_option maxHeartbeats 4000000 in
theorem rd_v116 (V : Valuation τ sig (Elt F)) : after opsO V (no_index (Proc.devRef .tc main_v116)) = s_v116 (F := F) (V (Proc.devRef .tc main_v101)) (V (Proc.devRef .tc main_v110)) (V (Proc.devRef .tc main_v71)) := by
  simp only [opsO, TRef.nullary, TRef.unary, TRef.binary, TRef.ternary, TRef.quaternary, TRef.toBuf, TRef.ofBuf, cast_eq]
  after_results_simp
  rfl
set_option maxRecDepth 8192 in
set_option maxHeartbeats 4000000 in
theorem rd_v119 (V : Valuation τ sig (Elt F)) : after opsP V (no_index (Proc.devRef .tc main_v119)) = s_v119 (F := F) (V (Proc.devRef .tc main_v64)) (V (Proc.devRef .tc main_v116)) := by
  simp only [opsP, TRef.nullary, TRef.unary, TRef.binary, TRef.ternary, TRef.quaternary, TRef.toBuf, TRef.ofBuf, cast_eq]
  after_results_simp
  rfl
set_option maxRecDepth 8192 in
set_option maxHeartbeats 4000000 in
theorem rd_v121 (V : Valuation τ sig (Elt F)) : after opsQ V (no_index (Proc.devRef .tc main_v121)) = s_v121 (F := F) (V (Proc.devRef .tc main_v64)) (V (Proc.devRef .tc main_v110)) := by
  simp only [opsQ, TRef.nullary, TRef.unary, TRef.binary, TRef.ternary, TRef.quaternary, TRef.toBuf, TRef.ofBuf, cast_eq]
  after_results_simp
  rfl
set_option maxRecDepth 8192 in
set_option maxHeartbeats 4000000 in
theorem rd_v141 (V : Valuation τ sig (Elt F)) : after opsR V (no_index (Proc.devRef .tc main_v141)) = s_v141 (F := F) (V (Proc.devRef .tc main_v119)) (V (Proc.devRef .tc main_v121)) := by
  simp only [opsR, TRef.nullary, TRef.unary, TRef.binary, TRef.ternary, TRef.quaternary, TRef.toBuf, TRef.ofBuf, cast_eq]
  after_results_simp
  rfl

end Cert.Lsh.Ref

end
-- ==== Proof.RefOut.lean ====
/- The whole reference as one function of its arguments, and its run at that value. -/
module

public import proofs.«01_k».proof.Proof.RefRun
public import Idealize.ShloMosaic.Lib.Quiescent

@[expose] public section

set_option Elab.async false

noncomputable section

namespace Cert.Lsh

open Cert.ReferenceIdeal Cert.ReferenceIdeal.Gen Idealize.ShloMosaic Idealize.ShloMosaic.TcCoe Idealize.SL.Sem Idealize.ShloMosaic.StableHlo

variable {F : FTy → Type} [FloatOps F]

section Chain

variable (a0 : (⟨S1x2048x1024, .f32⟩ : BufTy).Contents (Elt F)) (a1 a2 : (⟨S1024x1024, .f32⟩ : BufTy).Contents (Elt F))
  (a3 : (⟨S16x64x2x8, .f32⟩ : BufTy).Contents (Elt F))

/-- The rotary embedding of the shared queries and keys. -/
def r41 : (⟨S1x16x2048x64, .f32⟩ : BufTy).Contents (Elt F) := s_v41 (s_v1 a0 a1) s_v28 s_v24
/-- The sorting keys. -/
def r62 : (⟨S16x4096, .i32⟩ : BufTy).Contents (Elt F) := s_v62 (F := F) (s_v53 (F := F) (s_v46 (s_v45 a3 (r41 a0 a1))))
/-- The positions in sorted order. -/
def r63 : (⟨S16x4096, .i32⟩ : BufTy).Contents (Elt F) := s_v63 (F := F) (r62 a0 a1 a3)
/-- Where each position went. -/
def r64 : (⟨S16x4096, .i32⟩ : BufTy).Contents (Elt F) := s_v64 (F := F) (r63 a0 a1 a3)
/-- The sorted positions within the sequence. -/
def r65 : (⟨S16x4096, .i32⟩ : BufTy).Contents (Elt F) := s_v65 (F := F) (r63 a0 a1 a3)
/-- The queries, chunk by chunk. -/
def r68 : (⟨S16x16x256x64, .f32⟩ : BufTy).Contents (Elt F) := s_v68 (r65 a0 a1 a3) (s_v54 (r41 a0 a1))
/-- The values, chunk by chunk. -/
def r71 : (⟨S16x16x256x64, .f32⟩ : BufTy).Contents (Elt F) := s_v71 (r65 a0 a1 a3) (s_v56 (s_v3 a0 a2))
/-- The masked dot products. -/
def r101 : (⟨S16x16x256x512, .f32⟩ : BufTy).Contents (Elt F) := s_v101 (r65 a0 a1 a3) (s_v86 (r68 a0 a1 a3) (s_v83 (r68 a0 a1 a3)))
/-- The logits. -/
def r110 : (⟨S16x16x256x1, .f32⟩ : BufTy).Contents (Elt F) := s_v110 (s_v103 (r101 a0 a1 a3)) (r101 a0 a1 a3) (s_v104 (r101 a0 a1 a3))
/-- The attention output. -/
def r116 : (⟨S16x16x256x64, .f32⟩ : BufTy).Contents (Elt F) := s_v116 (r101 a0 a1 a3) (r110 a0 a1 a3) (r71 a0 a1 a2 a3)
/-- The result. -/
def r141 : (⟨S1x2048x1024, .f32⟩ : BufTy).Contents (Elt F) :=
  s_v141 (s_v119 (r64 a0 a1 a3) (r116 a0 a1 a2 a3)) (s_v121 (r64 a0 a1 a3) (r110 a0 a1 a3))

end Chain

namespace Ref

theorem after_arg (V : Valuation τ sig (Elt F)) (r : Ref sig .tc)
    (h : r ∈ [main_arg0, main_arg1, main_arg2, main_arg3]) : after ops V (Proc.devRef .tc r) = V (Proc.devRef .tc r) := by
  simp only [List.mem_cons, List.not_mem_nil, or_false] at h
  rcases h with rfl | rfl | rfl | rfl <;>
  simp (disch := decide) only [ops, ops_part0, ops_part1, ops_part2, after_append, keepA, keepB, keepC, keepD1, keepD2, keepD3, keepE, keepF, keepG, keepH, keepI, keepJ, keepK, keepL, keepM, keepN1, keepN2, keepO, keepP, keepQ, keepR]

set_option maxHeartbeats 2000000 in
theorem after_out (V : Valuation τ sig (Elt F)) : after ops V (Proc.devRef .tc main_v141) =
    r141 (V (Proc.devRef .tc main_arg0)) (V (Proc.devRef .tc main_arg1)) (V (Proc.devRef .tc main_arg2)) (V (Proc.devRef .tc main_arg3)) := by
  simp (disch := decide) only [ops, ops_part0, ops_part1, ops_part2, after_append, rd_v1, rd_v3, rd_v23, rd_v27, rd_v24, rd_v28, rd_v41, rd_v45, rd_v46, rd_v53, rd_v54, rd_v56, rd_v62, rd_v63, rd_v64, rd_v65, rd_v67, rd_v68, rd_v70, rd_v71, rd_v83, rd_v85, rd_v86, rd_v87, rd_v89, rd_v101, rd_v103, rd_v104, rd_v110, rd_v113, rd_v115, rd_v116, rd_v119, rd_v121, rd_v141, keepA, keepB, keepC, keepD1, keepD2, keepD3, keepE, keepF, keepG, keepH, keepI, keepJ, keepK, keepL, keepM, keepN1, keepN2, keepO, keepP, keepQ, keepR]
  rfl

theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v141) = r141 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨(h c main_v141).trans (after_out (launchContents m c)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide))⟩,
      sem_eq_zero_of_no_sems (by decide) r.2⟩)
    (run_seq scopedRefs_none scopedSems_none defs main (fun _ => ops) main_eq (fun _ => ops_sub) m ρ fun _ => ops_fresh)

end Ref

end Cert.Lsh

end
-- ==== Proof.KRun.lean ====
/- The kernel's run: the launch of its frame, also reading the result buffer. -/
module

public import proofs.«01_k».proof.Proof.Gen.KernelIdeal.Frame

@[expose] public section

set_option maxRecDepth 16384

noncomputable section

namespace Cert.Lsh.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result buffer at the last boundary's contents and the arguments as launched. -/
theorem run : θ_run defs (onTc (τ := τ) (main (F := F))) ⟨m, fun _ => 0, ρ⟩ (fun r => (∀ c : Dev nD,
      r.2.mem ((c.tc : Thread nD τ).loc main_v123) = W19 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => ⟨(fun c =>
      ⟨h c _ (mem_uc main_v123 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c)⟩), funext fun g => hz g (.inr (no_unscoped g.2))⟩)

end Cert.Lsh.Ker

end
-- ==== Proof.KVal0.lean ====
/- What the first grid leaves: the rotated queries and the values, head by head. -/
module

public import proofs.«01_k».proof.Proof.Gen.KernelIdeal.Frame
public import proofs.«01_k».proof.Proof.Stages
public import Idealize.ShloMosaic.Lib.Pointwise
public import Idealize.ShloMosaic.Lib.Pipeline.ValueKit

@[expose] public section

set_option maxRecDepth 16384
set_option Elab.async false

noncomputable section

namespace Cert.Lsh.Ker

open Cert.KernelIdeal Cert.KernelIdeal.Gen
open Idealize.ShloMosaic Idealize.ShloMosaic.TcCoe Idealize.SL.Sem
open Idealize.ShloMosaic.Pipeline (Dat)

/-- One head's projection of one row. -/
def proj (A0 : FVec Ideal S2048x1024 .f32) (A1 : FVec Ideal S16x1024x64 .f32) (h : Fin 16) (i : Fin 2048) (d : Fin 64) : EReal :=
  ∑ k : Fin 1024, A0 (ix2 i k) * A1 (ix3 h k d)

/-- The pairwise quarter turn of a head's coordinates. -/
def turn (P : Fin 64 → EReal) (d : Fin 64) : EReal :=
  if d.val % 2 < 1 then -(P ⟨1 + 2 * (d.val / 2), by omega⟩) else P ⟨2 * (d.val / 2), by omega⟩

/-- The rotated queries, head by head. -/
def rotated (A0 : FVec Ideal S2048x1024 .f32) (A1 : FVec Ideal S16x1024x64 .f32) (C S : FVec Ideal S2048x64 .f32) :
    FVec Ideal S16x2048x64 .f32 := fun y =>
  proj A0 A1 (y 0) (y 1) (y 2) * C (ix2 (y 1) (y 2)) + turn (proj A0 A1 (y 0) (y 1)) (y 2) * S (ix2 (y 1) (y 2))

/-- The values, head by head. -/
def projected (A0 : FVec Ideal S2048x1024 .f32) (A1 : FVec Ideal S16x1024x64 .f32) : FVec Ideal S16x2048x64 .f32 := fun y =>
  proj A0 A1 (y 0) (y 1) (y 2)

theorem odd_at : ∀ d : Fin 64, IntOp.cmpi CmpIPredicate.eq
        (Scalar.select
          (IntOp.andi
            (IntOp.xori
              (IntOp.cmpi CmpIPredicate.slt
                (IntOp.remsi ArithUnit.vector (BitVec.ofNat 32 d.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (IntOp.cmpi CmpIPredicate.ne
              (IntOp.remsi ArithUnit.vector (BitVec.ofNat 32 d.val)
                (Scalar.select (Scalar.cmpi CmpIPredicate.eq 2#32 0#32) 1#32 2#32))
              0#32))
          (IntOp.addi
            (IntOp.remsi ArithUnit.vector (BitVec.ofNat 32 d.val)
              (Scalar.select (Scalar.cmpi CmpIPredicate.eq 2#32 0#32) 1#32 2#32))
            (Scalar.select (Scalar.cmpi CmpIPredicate.eq 2#32 0#32) 1#32 2#32))
          (IntOp.remsi ArithUnit.vector (BitVec.ofNat 32 d.val)
            (Scalar.select (Scalar.cmpi CmpIPredicate.eq 2#32 0#32) 1#32 2#32)))
        1#32 = if d.val % 2 < 1 then 0#1 else 1#1 := by decide +kernel

theorem select_bit0 {α : Type} (x y : α) : Scalar.select 0#1 x y = y := by simp [Scalar.select]

theorem select_bit1 {α : Type} (x y : α) : Scalar.select 1#1 x y = x := by simp [Scalar.select]

theorem pay6_at (x0 : FVec Ideal S2048x1024 .f32) (x1 : FVec Ideal S1x1024x64 .f32) (s : Fin 2048) (d : Fin 64) :
    k0_pay6 (F := Ideal) x0 x1 (ix2 s d) = turn (fun d' => k0_pay4 (F := Ideal) x0 x1 (ix2 s d')) d := by
  pointwise [k0_pay6]
  rw [odd_at d]
  unfold turn
  have hd := d.isLt
  by_cases h : d.val % 2 < 1
  · rw [if_pos h, if_pos h, select_bit0, zero_sub, dif_pos (show d.val < 63 by omega)]
    rw [show (⟨1 + d.val, by omega⟩ : Fin 64) = ⟨1 + 2 * (d.val / 2), by omega⟩ from Fin.ext (by show 1 + d.val = 1 + 2 * (d.val / 2); omega)]
  · rw [if_neg h, if_neg h, select_bit1, dif_neg (show ¬ d.val < 1 by omega)]
    rw [show (⟨d.val - 1, by omega⟩ : Fin 64) = ⟨2 * (d.val / 2), by omega⟩ from Fin.ext (by show d.val - 1 = 2 * (d.val / 2); omega)]

theorem pay4_at (x0 : FVec Ideal S2048x1024 .f32) (x1 : FVec Ideal S1x1024x64 .f32) (s : Fin 2048) (d : Fin 64) :
    k0_pay4 (F := Ideal) x0 x1 (ix2 s d) = ∑ k : Fin 1024, x0 (ix2 s k) * x1 (ix3 0 k d) := by
  pointwise [k0_pay4, k0_pay3]

theorem pay5_at (x0 : FVec Ideal S2048x1024 .f32) (x1 : FVec Ideal S1x1024x64 .f32) (s : Fin 2048) (d : Fin 64) :
    k0_pay5 (F := Ideal) x0 x1 (ix2 s d) = ∑ k : Fin 1024, x0 (ix2 s k) * x1 (ix3 0 k d) := by
  pointwise [k0_pay5, k0_pay3]

theorem pay1_at (x0 : FVec Ideal S2048x1024 .f32) (x1 : FVec Ideal S1x1024x64 .f32) (x3 x4 : FVec Ideal S2048x64 .f32)
    (s : Fin 2048) (d : Fin 64) :
    k0_pay1 (F := Ideal) (k0_pay4 x0 x1) (k0_pay6 x0 x1) x3 x4 (ix3 0 s d)
      = (∑ k : Fin 1024, x0 (ix2 s k) * x1 (ix3 0 k d)) * x3 (ix2 s d)
        + turn (fun d' => ∑ k : Fin 1024, x0 (ix2 s k) * x1 (ix3 0 k d')) d * x4 (ix2 s d) := by
  pointwise [k0_pay1]
  rw [pay6_at, pay4_at]
  simp only [pay4_at]

theorem pay2_at (x0 : FVec Ideal S2048x1024 .f32) (x1 : FVec Ideal S1x1024x64 .f32) (s : Fin 2048) (d : Fin 64) :
    k0_pay2 (F := Ideal) (k0_pay5 x0 x1) (ix3 0 s d) = ∑ k : Fin 1024, x0 (ix2 s k) * x1 (ix3 0 k d) := by
  pointwise [k0_pay2]
  rw [pay5_at]

theorem idx0 : ∀ t : Fin cfg0.N, win0_0.index t = ![0, 0] ∧ win0_1.index t = ![t.val, 0, 0] ∧ win0_2.index t = ![t.val, 0, 0]
    ∧ win0_3.index t = ![0, 0] ∧ win0_4.index t = ![0, 0] ∧ win0_5.index t = ![t.val, 0, 0] ∧ win0_6.index t = ![t.val, 0, 0] :=
  (by decide +kernel : ∀ t : Fin grid0.N, _)

section Region

variable (V : (c : Dev nD) → (b : Ref sig .tc) → Buf (Elt Ideal) ((c : Thread nD τ).loc b)) (c : Dev nD)

theorem blk0 (t : Fin cfg0.N) (s : Fin 2048) (k : Fin 1024) :
    (show FVec Ideal S2048x1024 .f32 from iblk0 V c 0 t) (ix2 s k) = (show FVec Ideal S2048x1024 .f32 from V c main_v0) (ix2 s k) := by
  blk_ext [iblk0, idx0 t]

theorem blk1 (t : Fin cfg0.N) (k : Fin 1024) (d : Fin 64) :
    (show FVec Ideal S1x1024x64 .f32 from iblk0 V c 1 t) (ix3 0 k d)
      = (show FVec Ideal S16x1024x64 .f32 from V c main_v2) (ix3 ⟨t.val, t.isLt⟩ k d) := by
  blk_ext [iblk0, idx0 t]

theorem blk2 (t : Fin cfg0.N) (k : Fin 1024) (d : Fin 64) :
    (show FVec Ideal S1x1024x64 .f32 from iblk0 V c 2 t) (ix3 0 k d)
      = (show FVec Ideal S16x1024x64 .f32 from V c main_v4) (ix3 ⟨t.val, t.isLt⟩ k d) := by
  blk_ext [iblk0, idx0 t]

theorem blk3 (t : Fin cfg0.N) (s : Fin 2048) (d : Fin 64) :
    (show FVec Ideal S2048x64 .f32 from iblk0 V c 3 t) (ix2 s d) = (show FVec Ideal S2048x64 .f32 from V c main_v27) (ix2 s d) := by
  blk_ext [iblk0, idx0 t]

theorem blk4 (t : Fin cfg0.N) (s : Fin 2048) (d : Fin 64) :
    (show FVec Ideal S2048x64 .f32 from iblk0 V c 4 t) (ix2 s d) = (show FVec Ideal S2048x64 .f32 from V c main_v24) (ix2 s d) := by
  blk_ext [iblk0, idx0 t]

theorem emb5 (t : Fin cfg0.N) (s : Fin 2048) (d : Fin 64) :
    (((cfg0.win 5).blk t).view.emb (ix3 0 s d) : S16x2048x64.Idx) = ix3 ⟨t.val, t.isLt⟩ s d := by
  blk_ext [idx0 t]

theorem emb6 (t : Fin cfg0.N) (s : Fin 2048) (d : Fin 64) :
    (((cfg0.win 6).blk t).view.emb (ix3 0 s d) : S16x2048x64.Idx) = ix3 ⟨t.val, t.isLt⟩ s d := by
  blk_ext [idx0 t]

theorem point5 (t : Fin cfg0.N) (y : S1x2048x64.Idx) :
    k0_pay1 (F := Ideal) (k0_pay4 (iblk0 V c 0 t) (iblk0 V c 1 t)) (k0_pay6 (iblk0 V c 0 t) (iblk0 V c 1 t)) (iblk0 V c 3 t) (iblk0 V c 4 t) y
      = rotated (V c main_v0) (V c main_v2) (V c main_v27) (V c main_v24) (((cfg0.win 5).blk t).view.emb y) := by
  obtain ⟨s, d, rfl⟩ : ∃ s d, y = ix3 0 s d := ⟨y 1, y 2, (eq_ix3 y).trans (congrArg (fun k => ix3 k (y 1) (y 2)) (Subsingleton.elim _ _))⟩
  rw [emb5]
  refine (pay1_at _ _ _ _ s d).trans ?_
  simp only [blk0 V c t, blk1 V c t, blk3 V c t, blk4 V c t]
  rfl

theorem point6 (t : Fin cfg0.N) (y : S1x2048x64.Idx) :
    k0_pay2 (F := Ideal) (k0_pay5 (iblk0 V c 0 t) (iblk0 V c 2 t)) y
      = projected (V c main_v0) (V c main_v4) (((cfg0.win 6).blk t).view.emb y) := by
  obtain ⟨s, d, rfl⟩ : ∃ s d, y = ix3 0 s d := ⟨y 1, y 2, (eq_ix3 y).trans (congrArg (fun k => ix3 k (y 1) (y 2)) (Subsingleton.elim _ _))⟩
  rw [emb6]
  refine (pay2_at _ _ s d).trans ?_
  simp only [blk0 V c t, blk2 V c t]
  rfl

theorem out5 : (dat0 V c).arrAt 5 cfg0.N = rotated (V c main_v0) (V c main_v2) (V c main_v27) (V c main_v24) := by
  refine (dat0 V c).arrAt_eq_of_covers 5 _ (by decide +kernel) fun t _ y => ?_
  blk_simp
  rw [after0_5]; frame_out
  exact point5 V c t y

theorem out6 : (dat0 V c).arrAt 6 cfg0.N = projected (V c main_v0) (V c main_v4) := by
  refine (dat0 V c).arrAt_eq_of_covers 6 _ (by decide +kernel) fun t _ y => ?_
  blk_simp
  rw [after0_6]; frame_out
  exact point6 V c t y

end Region

/-- The rotated queries are the reference's. -/
theorem rotated_eq (a0 : FVec Ideal S1x2048x1024 .f32) (a1 : FVec Ideal S1024x1024 .f32) (h0 h1 h2) :
    rotated (shapeCast S2048x1024 a0 h0) (transpose S16x1024x64 [1, 0, 2] (shapeCast S1024x16x64 a1 h1) h2) (s_v27 (F := Ideal)) (s_v23 (F := Ideal))
      = s_v54 (F := Ideal) (s_v41 (F := Ideal) (s_v1 (F := Ideal) a0 a1) (s_v28 (F := Ideal)) (s_v24 (F := Ideal))) := by
  funext y
  obtain ⟨h, i, d, rfl⟩ : ∃ h i d, y = ix3 h i d := ⟨_, _, _, eq_ix3 y⟩
  unfold rotated proj turn
  pointwise [s_v54, s_v41, cat_v34, s_v1, s_v28, s_v24]
  by_cases hd : d.val % 2 < 1
  · simp only [if_pos hd, dif_pos hd]
  · simp only [if_neg hd, dif_neg hd]

theorem projected_eq (a0 : FVec Ideal S1x2048x1024 .f32) (a2 : FVec Ideal S1024x1024 .f32) (h0 h1 h2) :
    projected (shapeCast S2048x1024 a0 h0) (transpose S16x1024x64 [1, 0, 2] (shapeCast S1024x16x64 a2 h1) h2)
      = s_v56 (F := Ideal) (s_v3 (F := Ideal) a0 a2) := by
  funext y
  obtain ⟨h, i, d, rfl⟩ : ∃ h i d, y = ix3 h i d := ⟨_, _, _, eq_ix3 y⟩
  unfold projected proj
  pointwise [s_v56, s_v3]

end Cert.Lsh.Ker
end
-- ==== Proof.Gather.lean ====
/- Rows taken at sorted positions, read at an index; and the range of the sorted positions. -/
module

public import proofs.«01_k».proof.Proof.Stages
public import Idealize.ShloMosaic.Lib.Pointwise

@[expose] public section

set_option maxRecDepth 16384
set_option Elab.async false

noncomputable section

namespace Cert.Lsh

open Idealize.ShloMosaic

section Gather

variable {α : Type} {w : Nat}

/-- Row gathers batched over the leading axis. -/
abbrev rowDims (B N C D : Nat)
    (wf : GatherDims.WF ⟨3, ![B, N, D]⟩ ⟨3, ![B, C, 1]⟩ ⟨3, ![B, C, D]⟩ [2] [1] [0] [1] [0] 2 ![1, 1, D]) :
    GatherDims ⟨3, ![B, N, D]⟩ ⟨3, ![B, C, 1]⟩ ⟨3, ![B, C, D]⟩ where
  offsetDims := [2]
  collapsedSliceDims := [1]
  operandBatchingDims := [0]
  startIndicesBatchingDims := [0]
  startIndexMap := [1]
  indexVectorDim := 2
  sliceSizes := ![1, 1, D]
  wf := wf

/-- Element gathers batched over the leading axis. -/
abbrev eltDims (B N C : Nat)
    (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

/-- The clamped row an index names. -/
def rowAt (N : Nat) [NeZero N] (i : BitVec w) : Fin N :=
  ⟨min i.toInt.toNat (N - 1), by have := NeZero.pos N; omega⟩

theorem gather_rows {B N C D : Nat} [NeZero N] (wf) (x : (⟨3, ![B, N, D]⟩ : Shape).Idx → α) (idx : IVec ⟨3, ![B, C, 1]⟩ w)
    (a : Fin B) (c : Fin C) (d : Fin D) :
    Host.gather (rowDims B N C D wf) x idx (ix3 a c d) = x (ix3 a (rowAt N (idx (ix3 a c 0))) d) := by
  unfold Host.gather
  refine congrArg x (funext fun k => Fin.ext ?_)
  show (rowDims B N C D wf).start (ix3 a c d) idx k + (rowDims B N C D wf).batchCoord (ix3 a c d) k
    + (rowDims B N C D wf).offCoord (ix3 a c d) k = _
  match k with
  | ⟨0, _⟩ =>
    rw [GatherDims.offCoord_eq_zero _ _ _ (fun h => ((GatherDims.mem_sKept _ _).mp h).2 (List.mem_singleton.mpr rfl)),
      GatherDims.start_batching _ _ _ _ (List.mem_singleton.mpr rfl)]
    simp only [Nat.add_zero, Nat.zero_add]
    show (rowDims B N C D wf).batchCoord (ix3 a c d) (0 : Fin 3) = _
    unfold GatherDims.batchCoord
    rw [dif_pos (show (0 : Fin 3) ∈ (rowDims B N C D wf).operandBatchingDims from List.mem_singleton.mpr rfl)]
    rfl
  | ⟨1, _⟩ =>
    rw [GatherDims.offCoord_eq_zero _ _ _ (fun h => ((GatherDims.mem_sKept _ _).mp h).1 (List.mem_singleton.mpr rfl)),
      GatherDims.batchCoord_eq_zero _ _ _ (by decide : (1 : Fin 3) ∉ [(0 : Fin 3)])]
    simp only [Nat.add_zero]
    show (rowDims B N C D wf).start (ix3 a c d) idx (1 : Fin 3) = _
    unfold GatherDims.start
    rw [dif_pos (show (1 : Fin 3) ∈ (rowDims B N C D wf).startIndexMap from List.mem_singleton.mpr rfl)]
    have hsi : (rowDims B N C D wf).siIdx (ix3 a c d) ⟨List.idxOf (1 : Fin 3) (rowDims B N C D wf).startIndexMap,
        List.idxOf_lt_length_iff.2 (List.mem_singleton.mpr rfl)⟩ = ix3 a c 0 := by
      funext b; refine Fin.ext ?_
      match b with
      | ⟨0, _⟩ => rfl
      | ⟨1, _⟩ => rfl
      | ⟨2, _⟩ => rfl
    rw [hsi]
    rfl
  | ⟨2, _⟩ =>
    rw [GatherDims.batchCoord_eq_zero _ _ _ (by decide : (2 : Fin 3) ∉ [(0 : Fin 3)])]
    show (rowDims B N C D wf).start (ix3 a c d) idx (2 : Fin 3) + 0 + (rowDims B N C D wf).offCoord (ix3 a c d) (2 : Fin 3) = _
    unfold GatherDims.start GatherDims.offCoord
    rw [dif_neg (by decide : (2 : Fin 3) ∉ [(1 : Fin 3)]), dif_pos ((GatherDims.mem_sKept _ _).mpr
      ⟨(by decide : (2 : Fin 3) ∉ [(1 : Fin 3)]), (by decide : (2 : Fin 3) ∉ [(0 : Fin 3)])⟩)]
    simp only [Nat.add_zero, Nat.zero_add]
    rfl

theorem gather_elts {B N C : Nat} [NeZero N] (wf) (x : (⟨2, ![B, N]⟩ : Shape).Idx → α) (idx : IVec ⟨3, ![B, C, 1]⟩ w)
    (a : Fin B) (c : Fin C) :
    Host.gather (eltDims B N C wf) x idx (ix2 a c) = x (ix2 a (rowAt N (idx (ix3 a c 0)))) := by
  unfold Host.gather
  refine congrArg x (funext fun k => Fin.ext ?_)
  show (eltDims B N C wf).start (ix2 a c) idx k + (eltDims B N C wf).batchCoord (ix2 a c) k
    + (eltDims B N C wf).offCoord (ix2 a c) k = _
  match k with
  | ⟨0, _⟩ =>
    rw [GatherDims.offCoord_eq_zero _ _ _ (fun h => ((GatherDims.mem_sKept _ _).mp h).2 (List.mem_singleton.mpr rfl)),
      GatherDims.start_batching _ _ _ _ (List.mem_singleton.mpr rfl)]
    simp only [Nat.add_zero, Nat.zero_add]
    show (eltDims B N C wf).batchCoord (ix2 a c) (0 : Fin 2) = _
    unfold GatherDims.batchCoord
    rw [dif_pos (show (0 : Fin 2) ∈ (eltDims B N C wf).operandBatchingDims from List.mem_singleton.mpr rfl)]
    rfl
  | ⟨1, _⟩ =>
    rw [GatherDims.offCoord_eq_zero _ _ _ (fun h => ((GatherDims.mem_sKept _ _).mp h).1 (List.mem_singleton.mpr rfl)),
      GatherDims.batchCoord_eq_zero _ _ _ (by decide : (1 : Fin 2) ∉ [(0 : Fin 2)])]
    simp only [Nat.add_zero]
    show (eltDims B N C wf).start (ix2 a c) idx (1 : Fin 2) = _
    unfold GatherDims.start
    rw [dif_pos (show (1 : Fin 2) ∈ (eltDims B N C wf).startIndexMap from List.mem_singleton.mpr rfl)]
    have hsi : (eltDims B N C wf).siIdx (ix2 a c) ⟨List.idxOf (1 : Fin 2) (eltDims B N C wf).startIndexMap,
        List.idxOf_lt_length_iff.2 (List.mem_singleton.mpr rfl)⟩ = ix3 a c 0 := by
      funext b; refine Fin.ext ?_
      match b with
      | ⟨0, _⟩ => rfl
      | ⟨1, _⟩ => rfl
      | ⟨2, _⟩ => rfl
    rw [hsi]
    rfl

end Gather

open Cert.ReferenceIdeal Cert.ReferenceIdeal.Gen

theorem g_v67 (x : FVec Ideal S16x2048x64 .f32) (idx : IVec S16x4096x1 32) (a : Fin 16) (c : Fin 4096) (d : Fin 64) :
    Host.gather gather_S16x2048x64_S16x4096x1_S16x4096x64_2_1_0_0_1_2_1164 x idx (ix3 a c d)
      = x (ix3 a (rowAt 2048 (idx (ix3 a c 0))) d) := gather_rows _ x idx a c d

theorem g_v119 (x : FVec Ideal S16x4096x64 .f32) (idx : IVec S16x4096x1 32) (a : Fin 16) (c : Fin 4096) (d : Fin 64) :
    Host.gather gather_S16x4096x64_S16x4096x1_S16x4096x64_2_1_0_0_1_2_1164 x idx (ix3 a c d)
      = x (ix3 a (rowAt 4096 (idx (ix3 a c 0))) d) := gather_rows _ x idx a c d

theorem g_v121 (x : FVec Ideal S16x4096 .f32) (idx : IVec S16x4096x1 32) (a : Fin 16) (c : Fin 4096) :
    Host.gather gather_S16x4096_S16x4096x1_S16x4096_n_1_0_0_1_2_11 x idx (ix2 a c)
      = x (ix2 a (rowAt 4096 (idx (ix3 a c 0)))) := gather_elts _ x idx a c

/-- A position below `n`, as a 32-bit word. -/
def InRange (n : Nat) (i : BitVec 32) : Prop := ∃ k : Fin n, i = BitVec.ofNat 32 k.val

theorem range_iota (i : S16x4096.Idx) : InRange 4096 (iotaInDim S16x4096 32 1 i) := ⟨i 1, rfl⟩

theorem range_v63 (x : IVec S16x4096 32) (i) : InRange 4096 (s_v63 (F := Ideal) x i) := by
  unfold s_v63 Host.sort2
  rw [dif_pos (by decide)]
  exact range_iota _

theorem range_v64 (x : IVec S16x4096 32) (i) : InRange 4096 (s_v64 (F := Ideal) x i) := range_v63 x i

theorem toInt_pos (n : ℕ) (h : n < 4096) : (BitVec.ofNat 32 n).toInt = n := by
  rw [BitVec.toInt_ofNat']; unfold Int.bmod; norm_num; omega

theorem mod_range (k : Fin 4096) : (BitVec.ofNat 32 k.val).srem 2048#32 = BitVec.ofNat 32 (k.val % 2048) := by
  apply BitVec.eq_of_toInt_eq
  rw [BitVec.toInt_srem, toInt_pos _ k.isLt, toInt_pos _ (by omega)]
  rw [toInt_pos _ (by omega)]
  exact (Int.ofNat_tmod _ _).symm

theorem slt_zero (n : ℕ) (h : n < 4096) : IntOp.cmpi CmpIPredicate.slt (BitVec.ofNat 32 n) 0#32 = 0#1 := by
  have : ¬ (BitVec.ofNat 32 n).toInt < 0 := by rw [toInt_pos n h]; omega
  simp [IntOp.cmpi, BitVec.slt, this]

theorem sge_zero (n : ℕ) (h : n < 4096) : IntOp.cmpi CmpIPredicate.sge (BitVec.ofNat 32 n) 0#32 = 1#1 := by
  have := toInt_pos n h
  simp [IntOp.cmpi, BitVec.sle, this]

theorem sle_top (n m : ℕ) (h : n < 4096) (hm : m < 4096) (hn : n ≤ m) :
    IntOp.cmpi CmpIPredicate.sle (BitVec.ofNat 32 n) (BitVec.ofNat 32 m) = 1#1 := by
  have h1 := toInt_pos n h
  have h2 := toInt_pos m hm
  simp [IntOp.cmpi, BitVec.sle, h1, h2, hn]

theorem range_v65 (x : IVec S16x4096 32) (h : ∀ i, InRange 4096 (x i)) (a : Fin 16) (c : Fin 4096) :
    InRange 2048 (s_v65 (F := Ideal) x (ix2 a c)) := by
  obtain ⟨k, hk⟩ := h (ix2 a c)
  pointwise [s_v65]
  rw [hk]
  have e : IntOp.remsi ArithUnit.host (BitVec.ofNat 32 k.val) 2048#32 = BitVec.ofNat 32 (k.val % 2048) := by
    unfold IntOp.remsi
    rw [if_neg (by rintro (h | ⟨_, h⟩) <;> exact absurd h (by decide)), mod_range]
  have c0 : (id (constantI S_ 32 2048#32) : IVec S_ 32) ix0 = 2048#32 := rfl
  have c1 : Scalar.select (IntOp.cmpi CmpIPredicate.eq 2048#32 0#32) 1#32 2048#32 = 2048#32 := by decide
  have c2 : IntOp.cmpi CmpIPredicate.slt 2048#32 0#32 = 0#1 := by decide
  have c3 : IntOp.cmpi CmpIPredicate.ne 0#1 0#1 = 0#1 := by decide
  have c4 : ∀ b : BitVec 1, IntOp.andi 0#1 b = 0#1 := by decide
  rw [c0, c1, c2, e, slt_zero _ (by omega), c3, c4]
  exact ⟨⟨k.val % 2048, by omega⟩, by simp [Scalar.select]⟩

theorem rowAt_ofNat (N : ℕ) [NeZero N] (hN : N ≤ 4096) (k : Fin N) : rowAt N (BitVec.ofNat 32 k.val) = k := by
  apply Fin.ext
  show min (BitVec.ofNat 32 k.val).toInt.toNat (N - 1) = k.val
  rw [toInt_pos _ (by omega)]
  omega

theorem fold_one {n : ℕ} (hn : n = 1) (f : Fin n → BitVec 1) (b : BitVec 1) (h : ∀ i, f i = 1#1) :
    Finset.fold IntOp.andi 1#1 f Finset.univ = 1#1 := by
  subst hn
  simp [h, IntOp.andi]

theorem wrap_at (n m : ℕ) (h : n < 4096) : Scalar.select (IntOp.cmpi CmpIPredicate.slt (BitVec.ofNat 32 n) 0#32)
    (IntOp.addi (BitVec.ofNat 32 n) (BitVec.ofNat 32 m)) (BitVec.ofNat 32 n) = BitVec.ofNat 32 n := by
  rw [slt_zero n h]; simp [Scalar.select]

theorem in_range (n m : ℕ) (h : n ≤ m) (hm : m < 4096) :
    IntOp.andi (IntOp.cmpi CmpIPredicate.sge (BitVec.ofNat 32 n) 0#32)
      (IntOp.cmpi CmpIPredicate.sle (BitVec.ofNat 32 n) (BitVec.ofNat 32 m)) = 1#1 := by
  rw [sge_zero n (by omega), sle_top n m (by omega) hm h]; rfl

theorem select_one {α : Type} (x y : α) : Scalar.select 1#1 x y = x := by simp [Scalar.select]

/-- A row gathered at a position in range is that row. -/
theorem v67_at (i : IVec S16x4096 32) (x : FVec Ideal S16x2048x64 .f32) (a : Fin 16) (c : Fin 4096) (d : Fin 64)
    (k : Fin 2048) (hk : i (ix2 a c) = BitVec.ofNat 32 k.val) : s_v67 (F := Ideal) i x (ix3 a c d) = x (ix3 a k d) := by
  pointwise [s_v67, g_v67]
  rw [hk, wrap_at _ 2048 (by omega), in_range _ 2047 (by omega) (by omega), fold_one rfl _ 1#1 (fun _ => rfl), select_one,
    rowAt_ofNat 2048 (by omega)]

theorem v119_at (i : IVec S16x4096 32) (x : FVec Ideal S16x16x256x64 .f32) (a : Fin 16) (c : Fin 4096) (d : Fin 64)
    (k : Fin 4096) (hk : i (ix2 a c) = BitVec.ofNat 32 k.val) :
    s_v119 (F := Ideal) i x (ix3 a c d) = x (ix4 a ⟨k.val / 256, by omega⟩ ⟨k.val % 256, by omega⟩ d) := by
  pointwise [s_v119, g_v119]
  simp only [hk, wrap_at _ 4096 k.isLt, in_range _ 4095 (Nat.le_of_lt_succ k.isLt) (by omega), select_one,
    rowAt_ofNat 4096 (by omega)]
  rw [fold_one rfl _ 1#1 (fun _ => rfl), select_one]

theorem v121_at (i : IVec S16x4096 32) (x : FVec Ideal S16x16x256x1 .f32) (a : Fin 16) (c : Fin 4096)
    (k : Fin 4096) (hk : i (ix2 a c) = BitVec.ofNat 32 k.val) :
    s_v121 (F := Ideal) i x (ix2 a c) = x (ix4 a ⟨k.val / 256, by omega⟩ ⟨k.val % 256, by omega⟩ 0) := by
  pointwise [s_v121, g_v121]
  simp only [hk, wrap_at _ 4096 k.isLt, in_range _ 4095 (Nat.le_of_lt_succ k.isLt) (by omega), select_one,
    rowAt_ofNat 4096 (by omega)]
  rw [fold_one rfl _ 1#1 (fun _ => rfl), select_one]

end Cert.Lsh
end
-- ==== Proof.RealNum.lean ====
/- Real values among the extended reals, and the softmax identity on them. -/
module

public import Idealize.ShloMosaic.PureOps.Ideal
public import Idealize.ShloMosaic.Lib.Pointwise

@[expose] public section

set_option Elab.async false

noncomputable section

namespace Cert.Lsh

open Idealize.ShloMosaic

/-- A value that is a real number. -/
def IsR (x : EReal) : Prop := ∃ r : ℝ, x = (r : EReal)

theorem isR_iff (x : EReal) : IsR x ↔ x ≠ ⊥ ∧ x ≠ ⊤ :=
  ⟨by rintro ⟨r, rfl⟩; exact ⟨EReal.coe_ne_bot r, EReal.coe_ne_top r⟩, fun h => ⟨x.toReal, (EReal.coe_toReal h.2 h.1).symm⟩⟩

theorem IsR.add {x y : EReal} : IsR x → IsR y → IsR (x + y) := by
  rintro ⟨r, rfl⟩ ⟨s, rfl⟩; exact ⟨r + s, (EReal.coe_add r s).symm⟩
theorem IsR.sub {x y : EReal} : IsR x → IsR y → IsR (x - y) := by
  rintro ⟨r, rfl⟩ ⟨s, rfl⟩; exact ⟨r - s, (EReal.coe_sub r s).symm⟩
theorem IsR.mul {x y : EReal} : IsR x → IsR y → IsR (x * y) := by
  rintro ⟨r, rfl⟩ ⟨s, rfl⟩; exact ⟨r * s, (EReal.coe_mul r s).symm⟩
theorem IsR.neg {x : EReal} : IsR x → IsR (-x) := by
  rintro ⟨r, rfl⟩; exact ⟨-r, (EReal.coe_neg r).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem IsR.sum {ι : Type} (s : Finset ι) {f : ι → EReal} (h : ∀ i, IsR (f i)) : IsR (∑ i ∈ s, f i) := by
  choose g hg using h
  exact ⟨∑ i ∈ s, g i, by rw [← coe_sum]; exact Finset.sum_congr rfl fun i _ => hg i⟩

theorem IsR.select {c : BitVec 1} {x y : EReal} (hx : IsR x) (hy : IsR y) : IsR (Scalar.select c x y) := by
  unfold Scalar.select; split <;> assumption

/-- The greatest of finitely many reals is a real. -/
theorem fold_max_real {n : ℕ} [NeZero n] (f : Fin n → ℝ) :
    ∃ r : ℝ, Finset.fold max ⊥ (fun k => (f k : EReal)) Finset.univ = r := by
  have h : IsR (Finset.fold max ⊥ (fun k => (f k : EReal)) Finset.univ) := by
    refine (isR_iff _).2 ⟨?_, ?_⟩
    · refine ne_of_gt (lt_of_lt_of_le (EReal.bot_lt_coe (f 0)) ?_)
      exact Finset.le_fold_max _ |>.2 (.inr ⟨0, Finset.mem_univ _, le_rfl⟩)
    · exact ne_of_lt (Finset.fold_max_lt _ |>.2 ⟨bot_lt_top, fun k _ => EReal.coe_lt_top _⟩)
  exact h

/-- The sum of the exponentials about a real point. -/
theorem sum_exp {n : ℕ} (f : Fin n → ℝ) (m : ℝ) :
    (∑ k, Ideal.exp ((f k : EReal) - (m : EReal))) = ((∑ k, Real.exp (f k - m) : ℝ) : EReal) := by
  rw [← coe_sum]
  exact Finset.sum_congr rfl fun k _ => by rw [← EReal.coe_sub, Ideal.exp_coe]

theorem sum_exp_pos {n : ℕ} [NeZero n] (f : Fin n → ℝ) (m : ℝ) : 0 < ∑ k, Real.exp (f k - m) :=
  Finset.sum_pos (fun k _ => Real.exp_pos _) ⟨0, Finset.mem_univ _⟩

/-- The logarithm of the sum of exponentials of reals is a real. -/
theorem logits_real {n : ℕ} [NeZero n] (g : Fin n → EReal) (hg : ∀ k, IsR (g k)) :
    IsR (Finset.fold max ⊥ g Finset.univ + Ideal.log (∑ k, Ideal.exp (g k - Finset.fold max ⊥ g Finset.univ))) := by
  choose f hf using hg
  obtain rfl : g = fun k => (f k : EReal) := funext hf
  obtain ⟨m, hm⟩ := fold_max_real f
  rw [hm, sum_exp, Ideal.log_coe, if_neg (not_le.2 (sum_exp_pos f m))]
  exact ⟨_, (EReal.coe_add _ _).symm⟩

/-- Dividing an exponential by the sum is taking the exponential below the logarithm of the sum. -/
theorem softmax_eq {n : ℕ} [NeZero n] (g : Fin n → EReal) (hg : ∀ k, IsR (g k)) (k : Fin n) :
    Ideal.div (Ideal.exp (g k - Finset.fold max ⊥ g Finset.univ)) (∑ j, Ideal.exp (g j - Finset.fold max ⊥ g Finset.univ))
      = Ideal.exp (g k - (Finset.fold max ⊥ g Finset.univ
          + Ideal.log (∑ j, Ideal.exp (g j - Finset.fold max ⊥ g Finset.univ)))) := by
  choose f hf using hg
  obtain rfl : g = fun k => (f k : EReal) := funext hf
  obtain ⟨m, hm⟩ := fold_max_real f
  have hp := sum_exp_pos f m
  rw [hm, sum_exp, Ideal.log_coe, if_neg (not_le.2 hp), ← EReal.coe_sub, ← EReal.coe_add, ← EReal.coe_sub, Ideal.exp_coe, Ideal.exp_coe,
    Ideal.div_coe (ne_of_gt hp), ← EReal.coe_mul]
  congr 1
  have hx := Real.exp_sub (f k - m) (Real.log (∑ j, Real.exp (f j - m)))
  rw [Real.exp_log hp] at hx
  rw [show f k - (m + Real.log (∑ j, Real.exp (f j - m))) = (f k - m) - Real.log (∑ j, Real.exp (f j - m)) by ring, hx]
  ring

theorem bits_bot : Ideal.ofBits .f32 0xFF800000#32 = (⊥ : EReal) := by
  simp [Ideal.ofBits, Ideal.ieee]

theorem bits_top : Ideal.ofBits .f32 0x7F800000#32 = (⊤ : EReal) := by
  simp [Ideal.ofBits, Ideal.ieee]

theorem real_neg9 : IsR (Ideal.ofBits .f32 0xCE6E6B28#32) := by
  exact ⟨_, by simp [Ideal.ofBits, Ideal.ieee, -EReal.coe_mul]; rfl⟩
theorem real_neg5 : IsR (Ideal.ofBits .f32 0xC7C35000#32) := by
  exact ⟨_, by simp [Ideal.ofBits, Ideal.ieee, -EReal.coe_mul]; rfl⟩
theorem real_eighth : IsR (Ideal.ofBits .f32 0x3E000000#32) := by
  exact ⟨_, by simp [Ideal.ofBits, Ideal.ieee, -EReal.coe_mul]; rfl⟩
theorem bits_64 : Ideal.ofBits .f32 0x42800000#32 = ((64 : ℝ) : EReal) := by
  simp [Ideal.ofBits, Ideal.ieee, -EReal.coe_mul]; norm_num
theorem bits_eps : ∃ e : ℝ, 0 < e ∧ Ideal.ofBits .f32 0x358637BD#32 = ((e : ℝ) : EReal) := by
  refine ⟨_, ?_, by simp [Ideal.ofBits, Ideal.ieee, -EReal.coe_mul]; rfl⟩
  positivity
theorem bits_2 : Ideal.ofBits .f32 0x40000000#32 = ((2 : ℝ) : EReal) := by
  simp [Ideal.ofBits, Ideal.ieee, -EReal.coe_mul]; norm_num
theorem bits_1e4 : Ideal.ofBits .f32 0x461C4000#32 = ((10000 : ℝ) : EReal) := by
  simp [Ideal.ofBits, Ideal.ieee, -EReal.coe_mul]; norm_num

/-- A unit-mean-square scaling of reals is real. -/
theorem scale_real {n : ℕ} (f : Fin n → EReal) (hf : ∀ k, IsR (f k)) : IsR (Ideal.rsqrt
    (Ideal.div (∑ x, f x * f x) (Ideal.ofBits .f32 0x42800000#32) + Ideal.ofBits .f32 0x358637BD#32)) := by
  choose g hg using hf
  obtain rfl : f = fun k => (g k : EReal) := funext hg
  obtain ⟨e, he, hb⟩ := bits_eps
  have hs : (∑ x, (g x : EReal) * (g x : EReal)) = ((∑ x, g x * g x : ℝ) : EReal) := by
    rw [← coe_sum]; exact Finset.sum_congr rfl fun k _ => (EReal.coe_mul _ _).symm
  have h0 : 0 ≤ ∑ x, g x * g x := Finset.sum_nonneg fun k _ => mul_self_nonneg _
  rw [hs, hb, bits_64, Ideal.div_coe (by norm_num), ← EReal.coe_mul, ← EReal.coe_add, Ideal.rsqrt_coe]
  have : 0 < (∑ x, g x * g x) * (1 / 64) + e := by positivity
  rw [if_neg (not_lt.2 this.le), if_neg (ne_of_gt this)]
  exact ⟨_, rfl⟩

end Cert.Lsh
end
-- ==== Proof.KVal1.lean ====
/- What the second grid computes at one point, as the reference's stages. -/
module

public import proofs.«01_k».proof.Proof.Gen.KernelIdeal.Frame
public import proofs.«01_k».proof.Proof.Gather
public import proofs.«01_k».proof.Proof.RealNum
public import Idealize.ShloMosaic.Lib.Pointwise
public import Idealize.ShloMosaic.Lib.Pipeline.ValueKit

@[expose] public section

set_option maxRecDepth 16384
set_option Elab.async false

noncomputable section

namespace Cert.Lsh

open Idealize.ShloMosaic Idealize.ShloMosaic.TcCoe Idealize.SL.Sem
open Cert.ReferenceIdeal

/-- The chunk before, around the end. -/
def prev (c : Fin 16) : Fin 16 := ⟨(c.val + 15) % 16, by omega⟩

theorem prev_zero (c : Fin 16) (h : c.val < 1) (h' : 15 + c.val < 16) : (⟨15 + c.val, h'⟩ : Fin 16) = prev c :=
  Fin.ext (by show 15 + c.val = (c.val + 15) % 16; omega)

theorem prev_pos (c : Fin 16) (h : ¬ c.val < 1) (h' : c.val - 1 < 16) : (⟨c.val - 1, h'⟩ : Fin 16) = prev c :=
  Fin.ext (by show c.val - 1 = (c.val + 15) % 16; have := c.isLt; omega)

/-- The scores of one head before the softmax. -/
def scores (I : IVec S16x4096 32) (Q : FVec Ideal S16x16x256x64 .f32) : FVec Ideal S16x16x256x512 .f32 :=
  s_v101 (F := Ideal) I (s_v86 (F := Ideal) Q (s_v83 (F := Ideal) Q))

/-- The logarithm of the softmax's denominator. -/
def denom (M : FVec Ideal S16x16x256x512 .f32) : FVec Ideal S16x16x256x1 .f32 :=
  s_v110 (F := Ideal) (s_v103 (F := Ideal) M) M (s_v104 (F := Ideal) M)

/-- A query's scaled copy. -/
def unit64 (f : Fin 64 → EReal) (d : Fin 64) : EReal :=
  f d * Ideal.rsqrt (Ideal.div (∑ x, f x * f x) (Ideal.ofBits .f32 0x42800000#32) + Ideal.ofBits .f32 0x358637BD#32)
    * Ideal.ofBits .f32 0x3E000000#32

theorem v83_at (Q : FVec Ideal S16x16x256x64 .f32) (h c : Fin 16) (i : Fin 256) (d : Fin 64) :
    s_v83 (F := Ideal) Q (ix4 h c i d) = unit64 (fun d => Q (ix4 h c i d)) d := by
  unfold unit64
  pointwise [s_v83]

theorem v86_at (Q K : FVec Ideal S16x16x256x64 .f32) (h c : Fin 16) (i : Fin 256) (j : Fin 512) :
    s_v86 (F := Ideal) Q K (ix4 h c i j) = ∑ x : Fin 64, Q (ix4 h c i x) *
      (if hj : j.val < 256 then K (ix4 h (prev c) ⟨j.val, hj⟩ x) else K (ix4 h c ⟨j.val - 256, by omega⟩ x)) := by
  pointwise [s_v86, s_v85, cat_v84, cat_v85]
  refine Finset.sum_congr rfl fun x _ => ?_
  by_cases hj : j.val < 256
  · by_cases hc : c.val < 1
    · simp only [dif_pos hj, dif_pos hc, prev_zero c hc]
    · simp only [dif_pos hj, dif_neg hc, prev_pos c hc]
  · simp only [dif_neg hj]

theorem v101_at (I : IVec S16x4096 32) (D : FVec Ideal S16x16x256x512 .f32) (h c : Fin 16) (i : Fin 256) (j : Fin 512) :
    s_v101 (F := Ideal) I D (ix4 h c i j)
      = Scalar.select (IntOp.cmpi .ne (I (ix2 h ⟨c.val * 256 + i.val, by omega⟩)) (s_v89 (F := Ideal) I (ix3 h c j)))
          (Scalar.select (IntOp.cmpi .sge (I (ix2 h ⟨c.val * 256 + i.val, by omega⟩)) (s_v89 (F := Ideal) I (ix3 h c j)))
            (D (ix4 h c i j)) (Ideal.ofBits .f32 0xCE6E6B28#32)) (Ideal.ofBits .f32 0xC7C35000#32) := by
  pointwise [s_v101, s_v87]
  rfl

theorem v103_at (M : FVec Ideal S16x16x256x512 .f32) (h c : Fin 16) (i : Fin 256) :
    s_v103 (F := Ideal) M (ix4 h c i 0) = Finset.fold max ⊥ (fun k : Fin 512 => M (ix4 h c i k)) Finset.univ := by
  have e : s_v103 (F := Ideal) M (ix4 h c i 0)
      = Finset.fold max (Ideal.ofBits .f32 0xFF800000#32) (fun k : Fin 512 => M (ix4 h c i k)) Finset.univ := by
    pointwise [s_v103]
  rw [e, bits_bot]

theorem v104_at (M : FVec Ideal S16x16x256x512 .f32) (h c : Fin 16) (i : Fin 256) (k : Fin 512) :
    s_v104 (F := Ideal) M (ix4 h c i k) = s_v103 (F := Ideal) M (ix4 h c i 0) := by
  pointwise [s_v104]

theorem v110_at (X : FVec Ideal S16x16x256x1 .f32) (Y W : FVec Ideal S16x16x256x512 .f32) (h c : Fin 16) (i : Fin 256) :
    s_v110 (F := Ideal) X Y W (ix4 h c i 0)
      = X (ix4 h c i 0) + Ideal.log (∑ k : Fin 512, Ideal.exp (Y (ix4 h c i k) - W (ix4 h c i k))) := by
  pointwise [s_v110]

theorem denom_at (M : FVec Ideal S16x16x256x512 .f32) (h c : Fin 16) (i : Fin 256) :
    denom M (ix4 h c i 0) = Finset.fold max ⊥ (fun k : Fin 512 => M (ix4 h c i k)) Finset.univ
      + Ideal.log (∑ k : Fin 512, Ideal.exp (M (ix4 h c i k) - Finset.fold max ⊥ (fun k : Fin 512 => M (ix4 h c i k)) Finset.univ)) := by
  unfold denom
  rw [v110_at]
  simp only [v104_at, v103_at]

theorem v115_at (Z : FVec Ideal S16x16x256x64 .f32) (h c : Fin 16) (k : Fin 512) (d : Fin 64) :
    s_v115 (F := Ideal) Z (ix4 h c k d)
      = if hj : k.val < 256 then Z (ix4 h (prev c) ⟨k.val, hj⟩ d) else Z (ix4 h c ⟨k.val - 256, by omega⟩ d) := by
  pointwise [s_v115, cat_v114, cat_v115]
  by_cases hj : k.val < 256
  · by_cases hc : c.val < 1
    · simp only [dif_pos hj, dif_pos hc, prev_zero c hc]
    · simp only [dif_pos hj, dif_neg hc, prev_pos c hc]
  · simp only [dif_neg hj]

theorem v116_at (M : FVec Ideal S16x16x256x512 .f32) (L : FVec Ideal S16x16x256x1 .f32) (Z : FVec Ideal S16x16x256x64 .f32)
    (h c : Fin 16) (i : Fin 256) (d : Fin 64) :
    s_v116 (F := Ideal) M L Z (ix4 h c i d)
      = ∑ k : Fin 512, Ideal.exp (M (ix4 h c i k) - L (ix4 h c i 0)) * s_v115 (F := Ideal) Z (ix4 h c k d) := by
  pointwise [s_v116, s_v113]

end Cert.Lsh

namespace Cert.Lsh.Ker

open Cert.KernelIdeal Cert.KernelIdeal.Gen
open Idealize.ShloMosaic Idealize.ShloMosaic.TcCoe Idealize.SL.Sem
open Idealize.ShloMosaic.Pipeline (Dat)

theorem k2_at (x0 x1 : FVec Ideal S1x1x256x64 .f32) (j : Fin 512) (d : Fin 64) :
    k1_pay2 (F := Ideal) x0 x1 (ix2 j d) = if hj : j.val < 256 then unit64 (fun d => x1 (ix4 0 0 ⟨j.val, hj⟩ d)) d
      else unit64 (fun d => x0 (ix4 0 0 ⟨j.val - 256, by omega⟩ d)) d := by
  unfold unit64
  pointwise [k1_pay2, k1_pay1]

theorem k1_at (x0 : FVec Ideal S1x1x256x64 .f32) (i : Fin 256) (d : Fin 64) :
    k1_pay1 (F := Ideal) x0 (ix2 i d) = x0 (ix4 0 0 i d) := by
  pointwise [k1_pay1]

theorem k3_at (x0 x1 : FVec Ideal S1x1x256x64 .f32) (j : Fin 512) (d : Fin 64) :
    k1_pay3 (F := Ideal) x0 x1 (ix2 j d) = if hj : j.val < 256 then x0 (ix4 0 0 ⟨j.val, hj⟩ d)
      else x1 (ix4 0 0 ⟨j.val - 256, by omega⟩ d) := by
  pointwise [k1_pay3]

theorem k4_at (q : FVec Ideal S256x64 .f32) (k : FVec Ideal S512x64 .f32) (a : IVec S1x1x256x1 32) (b : IVec S1x1x1x512 32) (i : Fin 256) (j : Fin 512) :
    k1_pay4 (F := Ideal) q k a b (ix2 i j) = Scalar.select (IntOp.cmpi .ne (a (ix4 0 0 i 0)) (b (ix4 0 0 0 j)))
          (Scalar.select (IntOp.cmpi .sge (a (ix4 0 0 i 0)) (b (ix4 0 0 0 j)))
            (∑ x : Fin 64, q (ix2 i x) * k (ix2 j x)) (Ideal.ofBits .f32 0xCE6E6B28#32)) (Ideal.ofBits .f32 0xC7C35000#32) := by
  pointwise [k1_pay4]

theorem k5_at (q : FVec Ideal S256x64 .f32) (k : FVec Ideal S512x64 .f32) (a : IVec S1x1x256x1 32) (b : IVec S1x1x1x512 32) (i : Fin 256) :
    k1_pay5 (F := Ideal) q k a b (ix2 i 0) = Finset.fold max ⊥ (fun j : Fin 512 => k1_pay4 (F := Ideal) q k a b (ix2 i j)) Finset.univ := by
  have e : k1_pay5 (F := Ideal) q k a b (ix2 i 0)
      = Finset.fold max (Ideal.ofBits .f32 0xFF800000#32) (fun j : Fin 512 => k1_pay4 (F := Ideal) q k a b (ix2 i j)) Finset.univ := by
    pointwise [k1_pay5]
  rw [e, bits_bot]

theorem k8_at (q : FVec Ideal S256x64 .f32) (k : FVec Ideal S512x64 .f32) (a : IVec S1x1x256x1 32) (b : IVec S1x1x1x512 32) (i : Fin 256) :
    k1_pay8 (F := Ideal) q k a b (ix4 0 0 i 0) = k1_pay5 (F := Ideal) q k a b (ix2 i 0)
      + Ideal.log (∑ j : Fin 512, Ideal.exp (k1_pay4 (F := Ideal) q k a b (ix2 i j) - k1_pay5 (F := Ideal) q k a b (ix2 i 0))) := by
  pointwise [k1_pay8, k1_pay7, k1_pay6]

theorem k9_at (q : FVec Ideal S256x64 .f32) (k v : FVec Ideal S512x64 .f32) (a : IVec S1x1x256x1 32) (b : IVec S1x1x1x512 32) (i : Fin 256) (d : Fin 64) :
    k1_pay9 (F := Ideal) q k v a b (ix4 0 0 i d) = ∑ x : Fin 512, Ideal.div
      (Ideal.exp (k1_pay4 (F := Ideal) q k a b (ix2 i x) - k1_pay5 (F := Ideal) q k a b (ix2 i 0)))
      (∑ j : Fin 512, Ideal.exp (k1_pay4 (F := Ideal) q k a b (ix2 i j) - k1_pay5 (F := Ideal) q k a b (ix2 i 0))) * v (ix2 x d) := by
  pointwise [k1_pay9, k1_pay7, k1_pay6]

section Point

variable (Q Z : FVec Ideal S16x16x256x64 .f32) (I : IVec S16x4096 32) (h c : Fin 16)
  (q0 q1 z0 z1 : FVec Ideal S1x1x256x64 .f32) (a : IVec S1x1x256x1 32) (b : IVec S1x1x1x512 32)
  (hq0 : ∀ i d, q0 (ix4 0 0 i d) = Q (ix4 h c i d)) (hq1 : ∀ i d, q1 (ix4 0 0 i d) = Q (ix4 h (prev c) i d))
  (hz0 : ∀ i d, z0 (ix4 0 0 i d) = Z (ix4 h c i d)) (hz1 : ∀ i d, z1 (ix4 0 0 i d) = Z (ix4 h (prev c) i d))
  (ha : ∀ i : Fin 256, a (ix4 0 0 i 0) = I (ix2 h ⟨c.val * 256 + i.val, by omega⟩))
  (hb : ∀ j, b (ix4 0 0 0 j) = s_v89 (F := Ideal) I (ix3 h c j))

include hq0 hq1 ha hb

theorem pay4_eq (i : Fin 256) (j : Fin 512) :
    k1_pay4 (F := Ideal) (k1_pay1 (F := Ideal) q0) (k1_pay2 (F := Ideal) q0 q1) a b (ix2 i j) = scores I Q (ix4 h c i j) := by
  unfold scores
  rw [k4_at, v101_at, v86_at, ha, hb]
  simp only [k1_at, k2_at, v83_at, hq0, hq1]

theorem pay5_eq (i : Fin 256) :
    k1_pay5 (F := Ideal) (k1_pay1 (F := Ideal) q0) (k1_pay2 (F := Ideal) q0 q1) a b (ix2 i 0)
      = Finset.fold max ⊥ (fun j : Fin 512 => scores I Q (ix4 h c i j)) Finset.univ := by
  rw [k5_at]
  simp only [pay4_eq Q I h c q0 q1 a b hq0 hq1 ha hb]

theorem pay8_eq (i : Fin 256) :
    k1_pay8 (F := Ideal) (k1_pay1 (F := Ideal) q0) (k1_pay2 (F := Ideal) q0 q1) a b (ix4 0 0 i 0)
      = denom (scores I Q) (ix4 h c i 0) := by
  rw [k8_at, denom_at, pay5_eq Q I h c q0 q1 a b hq0 hq1 ha hb]
  simp only [pay4_eq Q I h c q0 q1 a b hq0 hq1 ha hb]

include hz0 hz1 in
theorem pay9_eq (hr : ∀ y, IsR (scores I Q y)) (i : Fin 256) (d : Fin 64) :
    k1_pay9 (F := Ideal) (k1_pay1 (F := Ideal) q0) (k1_pay2 (F := Ideal) q0 q1) (k1_pay3 (F := Ideal) z1 z0) a b (ix4 0 0 i d)
      = s_v116 (F := Ideal) (scores I Q) (denom (scores I Q)) Z (ix4 h c i d) := by
  rw [k9_at, v116_at, denom_at, pay5_eq Q I h c q0 q1 a b hq0 hq1 ha hb]
  simp only [pay4_eq Q I h c q0 q1 a b hq0 hq1 ha hb]
  refine Finset.sum_congr rfl fun k _ => ?_
  rw [softmax_eq (fun k => scores I Q (ix4 h c i k)) (fun k => hr _) k, k3_at, v115_at]
  simp only [hz0, hz1]

end Point

end Cert.Lsh.Ker
end
-- ==== Proof.KOut1.lean ====
/- What the second grid leaves: the attention of every chunk, and the logarithms of its denominators. -/
module

public import proofs.«01_k».proof.Proof.KVal1

@[expose] public section

set_option maxRecDepth 16384
set_option Elab.async false

noncomputable section

namespace Cert.Lsh.Ker

open Cert.KernelIdeal Cert.KernelIdeal.Gen
open Idealize.ShloMosaic Idealize.ShloMosaic.TcCoe Idealize.SL.Sem
open Idealize.ShloMosaic.Pipeline (Dat)

theorem idx1 : ∀ t : Fin cfg1.N, win1_0.index t = ![t.val / 16, t.val % 16, 0, 0]
    ∧ win1_1.index t = ![t.val / 16, (t.val % 16 + 15) % 16, 0, 0]
    ∧ win1_2.index t = ![t.val / 16, t.val % 16, 0, 0] ∧ win1_3.index t = ![t.val / 16, t.val % 16, 0, 0]
    ∧ win1_4.index t = ![t.val / 16, t.val % 16, 0, 0] ∧ win1_5.index t = ![t.val / 16, t.val % 16, 0, 0] :=
  (by decide +kernel : ∀ t : Fin grid1.N, _)

/-- The head of a grid point. -/
def headOf (t : Fin cfg1.N) : Fin 16 := ⟨t.val / 16, by have h : t.val < 256 := t.isLt; omega⟩

/-- The chunk of a grid point. -/
def chunkOf (t : Fin cfg1.N) : Fin 16 := ⟨t.val % 16, by omega⟩

theorem ld_lo (X : FVec Ideal S1x1x256x128 .f32) (i : Fin 256) (d : Fin 64) :
    (View.ld (Val := Elt Ideal) (e' := .f32) X r1_0 : FVec Ideal S1x1x256x64 .f32) (ix4 0 0 i d) = X (ix4 0 0 i ⟨d.val, by omega⟩) := by
  pointwise

theorem ld_hi (X : FVec Ideal S1x1x256x128 .f32) (i : Fin 256) (d : Fin 64) :
    (View.ld (Val := Elt Ideal) (e' := .f32) X r1_1 : FVec Ideal S1x1x256x64 .f32) (ix4 0 0 i d) = X (ix4 0 0 i ⟨64 + d.val, by omega⟩) := by
  pointwise

/-- A query's coordinate in a joined row. -/
abbrev lo (d : Fin 64) : Fin 128 := ⟨d.val, by omega⟩

/-- A value's coordinate in a joined row. -/
abbrev hi (d : Fin 64) : Fin 128 := ⟨64 + d.val, by omega⟩

/-- The place in the sorted order of a chunk's entry. -/
abbrev place (c : Fin 16) (i : Fin 256) : Fin 4096 := ⟨c.val * 256 + i.val, by omega⟩

section Region

variable (V : (c : Dev nD) → (b : Ref sig .tc) → Buf (Elt Ideal) ((c : Thread nD τ).loc b)) (c : Dev nD)

theorem blk10 (t : Fin cfg1.N) (i : Fin 256) (d : Fin 128) :
    (show FVec Ideal S1x1x256x128 .f32 from iblk1 V c 0 t) (ix4 0 0 i d)
      = (show FVec Ideal S16x16x256x128 .f32 from V c main_v93) (ix4 (headOf t) (chunkOf t) i d) := by
  unfold headOf chunkOf
  blk_ext [iblk1, idx1 t]

theorem blk11 (t : Fin cfg1.N) (i : Fin 256) (d : Fin 128) :
    (show FVec Ideal S1x1x256x128 .f32 from iblk1 V c 1 t) (ix4 0 0 i d)
      = (show FVec Ideal S16x16x256x128 .f32 from V c main_v93) (ix4 (headOf t) (prev (chunkOf t)) i d) := by
  unfold headOf chunkOf prev
  blk_ext [iblk1, idx1 t]

theorem ld2 (t : Fin cfg1.N) (i : Fin 256) :
    (show IVec S1x1x256x1 32 from iblk1 V c 2 t) (ix4 0 0 i 0)
      = (show IVec S16x16x256x1 32 from V c main_v95) (ix4 (headOf t) (chunkOf t) i 0) := by
  unfold headOf chunkOf
  blk_ext [iblk1, idx1 t]

theorem ld3 (t : Fin cfg1.N) (j : Fin 512) :
    (show IVec S1x1x1x512 32 from iblk1 V c 3 t) (ix4 0 0 0 j)
      = (show IVec S16x16x1x512 32 from V c main_v98) (ix4 (headOf t) (chunkOf t) 0 j) := by
  unfold headOf chunkOf
  blk_ext [iblk1, idx1 t]

theorem emb14 (t : Fin cfg1.N) (i : Fin 256) (d : Fin 64) :
    (((cfg1.win 4).blk t).view.emb (ix4 0 0 i d) : S16x16x256x64.Idx) = ix4 (headOf t) (chunkOf t) i d := by
  unfold headOf chunkOf
  blk_ext [idx1 t]

theorem emb15 (t : Fin cfg1.N) (i : Fin 256) :
    (((cfg1.win 5).blk t).view.emb (ix4 0 0 i 0) : S16x16x256x1.Idx) = ix4 (headOf t) (chunkOf t) i 0 := by
  unfold headOf chunkOf
  blk_ext [idx1 t]

variable (Q Z : FVec Ideal S16x16x256x64 .f32) (I : IVec S16x4096 32)
  (hQ : ∀ h c' i (d : Fin 64), (show FVec Ideal S16x16x256x128 .f32 from V c main_v93) (ix4 h c' i (lo d)) = Q (ix4 h c' i d))
  (hZ : ∀ h c' i (d : Fin 64), (show FVec Ideal S16x16x256x128 .f32 from V c main_v93) (ix4 h c' i (hi d)) = Z (ix4 h c' i d))
  (hA : ∀ h (c' : Fin 16) (i : Fin 256), (show IVec S16x16x256x1 32 from V c main_v95) (ix4 h c' i 0) = I (ix2 h (place c' i)))
  (hB : ∀ h c' j, (show IVec S16x16x1x512 32 from V c main_v98) (ix4 h c' 0 j) = s_v89 (F := Ideal) I (ix3 h c' j))

include hQ hA hB

include hZ in
theorem point14 (hr : ∀ y, IsR (scores I Q y)) (t : Fin cfg1.N) (y : S1x1x256x64.Idx) :
    k1_pay9 (F := Ideal) (k1_pay1 (View.ld (iblk1 V c 0 t) r1_0)) (k1_pay2 (View.ld (iblk1 V c 0 t) r1_0) (View.ld (iblk1 V c 1 t) r1_0))
        (k1_pay3 (View.ld (iblk1 V c 1 t) r1_1) (View.ld (iblk1 V c 0 t) r1_1)) (iblk1 V c 2 t) (iblk1 V c 3 t) y
      = s_v116 (F := Ideal) (scores I Q) (denom (scores I Q)) Z (((cfg1.win 4).blk t).view.emb y) := by
  obtain ⟨i, d, rfl⟩ : ∃ i d, y = ix4 0 0 i d := ⟨y 2, y 3, (eq_ix4 y).trans
    (congrArg₂ (fun a b : Fin 1 => (ix4 a b (y 2) (y 3) : S1x1x256x64.Idx)) (Subsingleton.elim _ _) (Subsingleton.elim _ _))⟩
  rw [emb14]
  exact pay9_eq Q Z I (headOf t) (chunkOf t) _ _ _ _ _ _
    (fun i d => ((ld_lo _ i d).trans (blk10 V c t i _)).trans (hQ _ _ _ _)) (fun i d => ((ld_lo _ i d).trans (blk11 V c t i _)).trans (hQ _ _ _ _))
    (fun i d => ((ld_hi _ i d).trans (blk10 V c t i _)).trans (hZ _ _ _ _)) (fun i d => ((ld_hi _ i d).trans (blk11 V c t i _)).trans (hZ _ _ _ _))
    (fun i => (ld2 V c t i).trans (hA _ _ _)) (fun j => (ld3 V c t j).trans (hB _ _ _)) hr i d

theorem point15 (t : Fin cfg1.N) (y : S1x1x256x1.Idx) :
    k1_pay8 (F := Ideal) (k1_pay1 (View.ld (iblk1 V c 0 t) r1_0)) (k1_pay2 (View.ld (iblk1 V c 0 t) r1_0) (View.ld (iblk1 V c 1 t) r1_0))
        (iblk1 V c 2 t) (iblk1 V c 3 t) y
      = denom (scores I Q) (((cfg1.win 5).blk t).view.emb y) := by
  obtain ⟨i, rfl⟩ : ∃ i, y = ix4 0 0 i 0 := ⟨y 2, ((eq_ix4 y).trans
    (congrArg₂ (fun a b : Fin 1 => (ix4 a b (y 2) (y 3) : S1x1x256x1.Idx)) (Subsingleton.elim _ _) (Subsingleton.elim _ _))).trans
    (congrArg (fun a : Fin 1 => (ix4 0 0 (y 2) a : S1x1x256x1.Idx)) (Subsingleton.elim _ _))⟩
  rw [emb15]
  exact pay8_eq Q I (headOf t) (chunkOf t) _ _ _ _
    (fun i d => ((ld_lo _ i d).trans (blk10 V c t i _)).trans (hQ _ _ _ _)) (fun i d => ((ld_lo _ i d).trans (blk11 V c t i _)).trans (hQ _ _ _ _))
    (fun i => (ld2 V c t i).trans (hA _ _ _)) (fun j => (ld3 V c t j).trans (hB _ _ _)) i

include hZ in
theorem out14 (hr : ∀ y, IsR (scores I Q y)) :
    (dat1 V c).arrAt 4 cfg1.N = s_v116 (F := Ideal) (scores I Q) (denom (scores I Q)) Z := by
  refine (dat1 V c).arrAt_eq_of_covers 4 _ (by decide +kernel) fun t _ y => ?_
  blk_simp
  rw [after1_4]; unfold_out out1_4; frame_out
  exact point14 V c Q Z I hQ hZ hA hB hr t y

theorem out15 : (dat1 V c).arrAt 5 cfg1.N = denom (scores I Q) := by
  refine (dat1 V c).arrAt_eq_of_covers 5 _ (by decide +kernel) fun t _ y => ?_
  blk_simp
  rw [after1_5]; unfold_out out1_5; frame_out
  exact point15 V c Q I hQ hA hB t y

end Region

end Cert.Lsh.Ker
end
-- ==== Proof.KHost.lean ====
/- What the kernel's host operations leave around its two grids, as the same stages the reference has. -/
module

public import proofs.«01_k».proof.Proof.Gen.KernelIdeal.Frame
public import proofs.«01_k».proof.Proof.Stages

@[expose] public section

set_option maxRecDepth 16384
set_option Elab.async false

noncomputable section

namespace Cert.Lsh.Ker

open Cert.KernelIdeal Cert.KernelIdeal.Gen
open Idealize.ShloMosaic Idealize.ShloMosaic.TcCoe Idealize.ShloMosaic.StableHlo

variable {F : FTy → Type} [FloatOps F]

/-- Rows of queries and values taken in sorted order. -/
def k_v92 (v91 : (⟨S16x4096x1, .i32⟩ : BufTy).Contents (Elt F)) (v90 : (⟨S16x2048x128, .f32⟩ : BufTy).Contents (Elt F)) : (⟨S16x4096x128, .f32⟩ : BufTy).Contents (Elt F) :=
  let call4_c : (⟨S_, .i32⟩ : BufTy).Contents (Elt F) := (constantI S_ 32 0#32)
  let call4_v0 : (⟨S16x4096x1, .i32⟩ : BufTy).Contents (Elt F) := (broadcastInDim S16x4096x1 ![] bcast_S_S16x4096x1) call4_c
  let call4_v1 : (⟨S16x4096x1, .i1⟩ : BufTy).Contents (Elt F) := (cmpi .slt) v91 call4_v0
  let call4_c_0 : (⟨S_, .i32⟩ : BufTy).Contents (Elt F) := (constantI S_ 32 2048#32)
  let call4_v2 : (⟨S16x4096x1, .i32⟩ : BufTy).Contents (Elt F) := (broadcastInDim S16x4096x1 ![] bcast_S_S16x4096x1) call4_c_0
  let call4_v3 : (⟨S16x4096x1, .i32⟩ : BufTy).Contents (Elt F) := addi v91 call4_v2
  let call4_v4 : (⟨S16x4096x1, .i32⟩ : BufTy).Contents (Elt F) := select call4_v1 call4_v3 v91
  let call4_c_2 : (⟨S_, .i32⟩ : BufTy).Contents (Elt F) := (constantI S_ 32 0#32)
  let call4_v5 : (⟨S16x4096x1, .i32⟩ : BufTy).Contents (Elt F) := (broadcastInDim S16x4096x1 ![] bcast_S_S16x4096x1) call4_c_2
  let call4_v6 : (⟨S16x4096x1, .i1⟩ : BufTy).Contents (Elt F) := (cmpi .sge) call4_v4 call4_v5
  let call4_c_1 : (⟨S1, .i32⟩ : BufTy).Contents (Elt F) := (constantI S1 32 2047#32)
  let call4_v7 : (⟨S1x1x1, .i32⟩ : BufTy).Contents (Elt F) := (broadcastInDim S1x1x1 ![2] bcast_S1_S1x1x1_2) call4_c_1
  let call4_v8 : (⟨S16x4096x1, .i32⟩ : BufTy).Contents (Elt F) := (broadcastInDim S16x4096x1 ![0, 1, 2] bcast_S1x1x1_S16x4096x1_0_1_2) call4_v7
  let call4_v9 : (⟨S16x4096x1, .i1⟩ : BufTy).Contents (Elt F) := (cmpi .sle) call4_v4 call4_v8
  let call4_v10 : (⟨S16x4096x1, .i1⟩ : BufTy).Contents (Elt F) := andi call4_v6 call4_v9
  let call4_c_3 : (⟨S_, .i1⟩ : BufTy).Contents (Elt F) := (constantI S_ 1 1#1)
  let call4_v11 : (⟨S16x4096, .i1⟩ : BufTy).Contents (Elt F) := Host.reduce IntOp.andi call4_v10 call4_c_3 reducesTo_S16x4096x1_S16x4096_d2 h_S_
  let call4_v13 : (⟨S16x4096x128, .i1⟩ : BufTy).Contents (Elt F) := (broadcastInDim S16x4096x128 ![0, 1] bcast_S16x4096_S16x4096x128_0_1) call4_v11
  let call4_v12 : (⟨S16x4096x128, .f32⟩ : BufTy).Contents (Elt F) := Host.gather gather_S16x2048x128_S16x4096x1_S16x4096x128_2_1_0_0_1_2_11128 v90 call4_v4
  let call4_cst : (⟨S_, .f32⟩ : BufTy).Contents (Elt F) := (constant S_ .f32 0x7FC00000#32)
  let call4_v14 : (⟨S16x4096x128, .f32⟩ : BufTy).Contents (Elt F) := (broadcastInDim S16x4096x128 ![] bcast_S_S16x4096x128) call4_cst
  select call4_v13 call4_v12 call4_v14

/-- Rounds combined by a softmax over their logits. -/
def k_v123 (v103 : (⟨S16x4096x64, .f32⟩ : BufTy).Contents (Elt F)) (v104 : (⟨S16x4096, .f32⟩ : BufTy).Contents (Elt F)) : (⟨S1x2048x1024, .f32⟩ : BufTy).Contents (Elt F) :=
  let v105 : (⟨S16x2x2048x64, .f32⟩ : BufTy).Contents (Elt F) := shapeCast _ v103 shapeCasts_S16x4096x64_S16x2x2048x64
  let v106 : (⟨S16x2x2048, .f32⟩ : BufTy).Contents (Elt F) := shapeCast _ v104 shapeCasts_S16x4096_S16x2x2048
  let cst_12 : (⟨S_, .f32⟩ : BufTy).Contents (Elt F) := (constant S_ .f32 0xFF800000#32)
  let v108 : (⟨S16x2048, .f32⟩ : BufTy).Contents (Elt F) := broadcastInDim S16x2048 ![] bcast_S_S16x2048 cst_12
  let cst_11 : (⟨S_, .f32⟩ : BufTy).Contents (Elt F) := (constant S_ .f32 0xFF800000#32)
  let v107 : (⟨S16x2048, .f32⟩ : BufTy).Contents (Elt F) := Host.reduce FloatOps.maximumf v106 cst_11 reducesTo_S16x2x2048_S16x2048_d1 h_S_
  let v109 : (⟨S16x2048, .f32⟩ : BufTy).Contents (Elt F) := maximumf v108 v107
  let v110 : (⟨S16x1x2048, .f32⟩ : BufTy).Contents (Elt F) := broadcastInDim S16x1x2048 ![0, 2] bcast_S16x2048_S16x1x2048_0_2 v109
  let v111 : (⟨S16x2x2048, .f32⟩ : BufTy).Contents (Elt F) := broadcastInDim S16x2x2048 ![0, 1, 2] bcast_S16x1x2048_S16x2x2048_0_1_2 v110
  let v112 : (⟨S16x2x2048, .f32⟩ : BufTy).Contents (Elt F) := subf v106 v111
  let v113 : (⟨S16x2x2048, .f32⟩ : BufTy).Contents (Elt F) := Host.exp v112
  let cst_13 : (⟨S_, .f32⟩ : BufTy).Contents (Elt F) := (constant S_ .f32 0x00000000#32)
  let v114 : (⟨S16x2048, .f32⟩ : BufTy).Contents (Elt F) := Host.reduceAdd v113 cst_13 reducesTo_S16x2x2048_S16x2048_d1 h_S_
  let v115 : (⟨S16x1x2048, .f32⟩ : BufTy).Contents (Elt F) := broadcastInDim S16x1x2048 ![0, 2] bcast_S16x2048_S16x1x2048_0_2 v114
  let v116 : (⟨S16x2x2048, .f32⟩ : BufTy).Contents (Elt F) := broadcastInDim S16x2x2048 ![0, 1, 2] bcast_S16x1x2048_S16x2x2048_0_1_2 v115
  let v117 : (⟨S16x2x2048, .f32⟩ : BufTy).Contents (Elt F) := Host.divf v113 v116
  let v118 : (⟨S16x2x2048x1, .f32⟩ : BufTy).Contents (Elt F) := broadcastInDim S16x2x2048x1 ![0, 1, 2] bcast_S16x2x2048_S16x2x2048x1_0_1_2 v117
  let v119 : (⟨S16x2x2048x64, .f32⟩ : BufTy).Contents (Elt F) := broadcastInDim S16x2x2048x64 ![0, 1, 2, 3] bcast_S16x2x2048x1_S16x2x2048x64_0_1_2_3 v118
  let v120 : (⟨S16x2x2048x64, .f32⟩ : BufTy).Contents (Elt F) := mulf v105 v119
  let cst_14 : (⟨S_, .f32⟩ : BufTy).Contents (Elt F) := (constant S_ .f32 0x00000000#32)
  let v121 : (⟨S16x2048x64, .f32⟩ : BufTy).Contents (Elt F) := Host.reduceAdd v120 cst_14 reducesTo_S16x2x2048x64_S16x2048x64_d1 h_S_
  let v122 : (⟨S2048x16x64, .f32⟩ : BufTy).Contents (Elt F) := transpose S2048x16x64 [1, 0, 2] v121 transposes_S16x2048x64_S2048x16x64_1_0_2
  shapeCast _ v122 shapeCasts_S2048x16x64_S1x2048x1024

set_option maxHeartbeats 4000000 in
theorem h_v0 (V : Valuation τ sig (Elt F)) : after hostOps0 V (Proc.devRef .tc main_v0) = shapeCast _ (V (Proc.devRef .tc main_arg0)) shapeCasts_S1x2048x1024_S2048x1024 := by
  simp only [hostOps0, TRef.nullary, TRef.unary, TRef.binary, TRef.ternary, TRef.quaternary, TRef.toBuf, TRef.ofBuf, cast_eq]
  after_results_simp
  all_goals rfl
set_option maxHeartbeats 4000000 in
theorem h_v2 (V : Valuation τ sig (Elt F)) : after hostOps0 V (Proc.devRef .tc main_v2) = transpose S16x1024x64 [1, 0, 2] (shapeCast _ (V (Proc.devRef .tc main_arg1)) shapeCasts_S1024x1024_S1024x16x64 : (⟨S1024x16x64, .f32⟩ : BufTy).Contents (Elt F)) transposes_S1024x16x64_S16x1024x64_1_0_2 := by
  simp only [hostOps0, TRef.nullary, TRef.unary, TRef.binary, TRef.ternary, TRef.quaternary, TRef.toBuf, TRef.ofBuf, cast_eq]
  after_results_simp
  all_goals rfl
set_option maxHeartbeats 4000000 in
theorem h_v4 (V : Valuation τ sig (Elt F)) : after hostOps0 V (Proc.devRef .tc main_v4) = transpose S16x1024x64 [1, 0, 2] (shapeCast _ (V (Proc.devRef .tc main_arg2)) shapeCasts_S1024x1024_S1024x16x64 : (⟨S1024x16x64, .f32⟩ : BufTy).Contents (Elt F)) transposes_S1024x16x64_S16x1024x64_1_0_2 := by
  simp only [hostOps0, TRef.nullary, TRef.unary, TRef.binary, TRef.ternary, TRef.quaternary, TRef.toBuf, TRef.ofBuf, cast_eq]
  after_results_simp
  all_goals rfl
set_option maxHeartbeats 4000000 in
theorem h_v24 (V : Valuation τ sig (Elt F)) : after hostOps0 V (Proc.devRef .tc main_v24) = s_v23 (F := F) := by
  simp only [hostOps0, TRef.nullary, TRef.unary, TRef.binary, TRef.ternary, TRef.quaternary, TRef.toBuf, TRef.ofBuf, cast_eq]
  after_results_simp
  all_goals rfl
set_option maxHeartbeats 4000000 in
theorem h_v27 (V : Valuation τ sig (Elt F)) : after hostOps0 V (Proc.devRef .tc main_v27) = s_v27 (F := F) := by
  simp only [hostOps0, TRef.nullary, TRef.unary, TRef.binary, TRef.ternary, TRef.quaternary, TRef.toBuf, TRef.ofBuf, cast_eq]
  after_results_simp
  all_goals rfl
set_option maxHeartbeats 4000000 in
theorem h_v72 (V : Valuation τ sig (Elt F)) : after hostOps1 V (Proc.devRef .tc main_v72) = s_v45 (V (Proc.devRef .tc main_arg3)) (s_v41 (s_v1 (V (Proc.devRef .tc main_arg0)) (V (Proc.devRef .tc main_arg1))) s_v28 s_v24) := by
  simp only [hostOps1, TRef.nullary, TRef.unary, TRef.binary, TRef.ternary, TRef.quaternary, TRef.toBuf, TRef.ofBuf, cast_eq]
  after_results_simp
  all_goals rfl
set_option maxHeartbeats 4000000 in
theorem h_v73 (V : Valuation τ sig (Elt F)) : after hostOps1_1 V (Proc.devRef .tc main_v73) = s_v46 (V (Proc.devRef .tc main_v72)) := by
  simp only [hostOps1_1, TRef.nullary, TRef.unary, TRef.binary, TRef.ternary, TRef.quaternary, TRef.toBuf, TRef.ofBuf, cast_eq]
  after_results_simp
  all_goals rfl
set_option maxHeartbeats 4000000 in
theorem h_v86 (V : Valuation τ sig (Elt F)) : after hostOps1_2 V (Proc.devRef .tc main_v86) = s_v62 (F := F) (s_v53 (F := F) (V (Proc.devRef .tc main_v73))) := by
  simp only [hostOps1_2, TRef.nullary, TRef.unary, TRef.binary, TRef.ternary, TRef.quaternary, TRef.toBuf, TRef.ofBuf, cast_eq]
  after_results_simp
  all_goals rfl
set_option maxHeartbeats 4000000 in
theorem h_v87 (V : Valuation τ sig (Elt F)) : after hostOps1_3 V (Proc.devRef .tc main_v87) = s_v63 (F := F) (V (Proc.devRef .tc main_v86)) := by
  simp only [hostOps1_3, TRef.nullary, TRef.unary, TRef.binary, TRef.ternary, TRef.quaternary, TRef.toBuf, TRef.ofBuf, cast_eq]
  after_results_simp
  all_goals rfl
set_option maxHeartbeats 4000000 in
theorem h_v88 (V : Valuation τ sig (Elt F)) : after hostOps1_4 V (Proc.devRef .tc main_v88) = s_v64 (F := F) (V (Proc.devRef .tc main_v87)) := by
  simp only [hostOps1_4, TRef.nullary, TRef.unary, TRef.binary, TRef.ternary, TRef.quaternary, TRef.toBuf, TRef.ofBuf, cast_eq]
  after_results_simp
  all_goals rfl
theorem h_c10 (V : Valuation τ sig (Elt F)) : after hostOps1_5 V (Proc.devRef .tc main_c_10) = constantI S_ 32 2048#32 := by
  after_results_simp
set_option maxHeartbeats 4000000 in
theorem h_v89 (V : Valuation τ sig (Elt F)) (h : V (Proc.devRef .tc main_c_10) = constantI S_ 32 2048#32) : after hostOps1_6 V (Proc.devRef .tc main_v89) = s_v65 (F := F) (V (Proc.devRef .tc main_v87)) := by
  simp only [hostOps1_6, TRef.nullary, TRef.unary, TRef.binary, TRef.ternary, TRef.quaternary, TRef.toBuf, TRef.ofBuf, cast_eq]
  after_results_simp
  simp only [h]
  all_goals rfl
set_option maxHeartbeats 4000000 in
theorem h_v90 (V : Valuation τ sig (Elt F)) : after hostOps1_7 V (Proc.devRef .tc main_v90) = concatenate S16x2048x128 2 [⟨S16x2048x64, (V (Proc.devRef .tc main_v28_0))⟩, ⟨S16x2048x64, (V (Proc.devRef .tc main_v28_1))⟩] concatenates_S16x2048x64_S16x2048x64_S16x2048x128_d2 := by
  simp only [hostOps1_7, TRef.nullary, TRef.unary, TRef.binary, TRef.ternary, TRef.quaternary, TRef.toBuf, TRef.ofBuf, cast_eq]
  after_results
  all_goals rfl
set_option maxHeartbeats 4000000 in
theorem h_v91 (V : Valuation τ sig (Elt F)) : after hostOps1_7 V (Proc.devRef .tc main_v91) = broadcastInDim S16x4096x1 ![0, 1] bcast_S16x4096_S16x4096x1_0_1 (V (Proc.devRef .tc main_v89)) := by
  simp only [hostOps1_7, TRef.nullary, TRef.unary, TRef.binary, TRef.ternary, TRef.quaternary, TRef.toBuf, TRef.ofBuf, cast_eq]
  after_results
  all_goals rfl
set_option maxHeartbeats 4000000 in
theorem h_v92 (V : Valuation τ sig (Elt F)) : after hostOps1_8 V (Proc.devRef .tc main_v92) = k_v92 (V (Proc.devRef .tc main_v91)) (V (Proc.devRef .tc main_v90)) := by
  simp only [hostOps1_8, TRef.nullary, TRef.unary, TRef.binary, TRef.ternary, TRef.quaternary, TRef.toBuf, TRef.ofBuf, cast_eq]
  after_results_simp
  all_goals rfl
set_option maxHeartbeats 4000000 in
theorem h_v93 (V : Valuation τ sig (Elt F)) : after hostOps1_9 V (Proc.devRef .tc main_v93) = shapeCast _ (V (Proc.devRef .tc main_v92)) shapeCasts_S16x4096x128_S16x16x256x128 := by
  simp only [hostOps1_9, TRef.nullary, TRef.unary, TRef.binary, TRef.ternary, TRef.quaternary, TRef.toBuf, TRef.ofBuf, cast_eq]
  after_results_simp
  all_goals rfl
set_option maxHeartbeats 4000000 in
theorem h_v94 (V : Valuation τ sig (Elt F)) : after hostOps1_9 V (Proc.devRef .tc main_v94) = s_v87 (F := F) (V (Proc.devRef .tc main_v89)) := by
  simp only [hostOps1_9, TRef.nullary, TRef.unary, TRef.binary, TRef.ternary, TRef.quaternary, TRef.toBuf, TRef.ofBuf, cast_eq]
  after_results_simp
  all_goals rfl
set_option maxHeartbeats 4000000 in
theorem h_v95 (V : Valuation τ sig (Elt F)) : after hostOps1_9 V (Proc.devRef .tc main_v95) = broadcastInDim S16x16x256x1 ![0, 1, 2] bcast_S16x16x256_S16x16x256x1_0_1_2 (s_v87 (F := F) (V (Proc.devRef .tc main_v89))) := by
  simp only [hostOps1_9, TRef.nullary, TRef.unary, TRef.binary, TRef.ternary, TRef.quaternary, TRef.toBuf, TRef.ofBuf, cast_eq]
  after_results_simp
  all_goals rfl
set_option maxHeartbeats 4000000 in
theorem h_v96 (V : Valuation τ sig (Elt F)) : after hostOps1_10 V (Proc.devRef .tc main_v96) = concatenate S16x16x256 1 [⟨S16x1x256, (extractStridedSlice S16x1x256 ![0, 15, 0] (V (Proc.devRef .tc main_v94)) slices_S16x16x256_S16x1x256_0_15_0 : (⟨S16x1x256, .i32⟩ : BufTy).Contents (Elt F))⟩, ⟨S16x15x256, (extractStridedSlice S16x15x256 ![0, 0, 0] (V (Proc.devRef .tc main_v94)) slices_S16x16x256_S16x15x256_0_0_0 : (⟨S16x15x256, .i32⟩ : BufTy).Contents (Elt F))⟩] concatenates_S16x1x256_S16x15x256_S16x16x256_d1 := by
  simp only [hostOps1_10, TRef.nullary, TRef.unary, TRef.binary, TRef.ternary, TRef.quaternary, TRef.toBuf, TRef.ofBuf, cast_eq]
  after_results
  all_goals rfl
set_option maxHeartbeats 4000000 in
theorem h_v98 (V : Valuation τ sig (Elt F)) : after hostOps1_11 V (Proc.devRef .tc main_v98) = shapeCast _ (concatenate S16x16x512 2 [⟨S16x16x256, (V (Proc.devRef .tc main_v96))⟩, ⟨S16x16x256, (V (Proc.devRef .tc main_v94))⟩] concatenates_S16x16x256_S16x16x256_S16x16x512_d2 : (⟨S16x16x512, .i32⟩ : BufTy).Contents (Elt F)) shapeCasts_S16x16x512_S16x16x1x512 := by
  simp only [hostOps1_11, TRef.nullary, TRef.unary, TRef.binary, TRef.ternary, TRef.quaternary, TRef.toBuf, TRef.ofBuf, cast_eq]
  after_results
  all_goals rfl
set_option maxHeartbeats 4000000 in
theorem h_v100 (V : Valuation τ sig (Elt F)) : after hostOps2 V (Proc.devRef .tc main_v100) = shapeCast _ (V (Proc.devRef .tc main_v99_0)) shapeCasts_S16x16x256x64_S16x4096x64 := by
  simp only [hostOps2, TRef.nullary, TRef.unary, TRef.binary, TRef.ternary, TRef.quaternary, TRef.toBuf, TRef.ofBuf, cast_eq]
  after_results_simp
  all_goals rfl
set_option maxHeartbeats 4000000 in
theorem h_v101 (V : Valuation τ sig (Elt F)) : after hostOps2 V (Proc.devRef .tc main_v101) = shapeCast _ (V (Proc.devRef .tc main_v99_1)) shapeCasts_S16x16x256x1_S16x4096 := by
  simp only [hostOps2, TRef.nullary, TRef.unary, TRef.binary, TRef.ternary, TRef.quaternary, TRef.toBuf, TRef.ofBuf, cast_eq]
  after_results_simp
  all_goals rfl
set_option maxHeartbeats 4000000 in
theorem h_v102 (V : Valuation τ sig (Elt F)) : after hostOps2 V (Proc.devRef .tc main_v102) = broadcastInDim S16x4096x1 ![0, 1] bcast_S16x4096_S16x4096x1_0_1 (V (Proc.devRef .tc main_v88)) := by
  simp only [hostOps2, TRef.nullary, TRef.unary, TRef.binary, TRef.ternary, TRef.quaternary, TRef.toBuf, TRef.ofBuf, cast_eq]
  after_results_simp
  all_goals rfl
set_option maxHeartbeats 4000000 in
theorem h_v123 (V : Valuation τ sig (Elt F)) : after hostOps2_3 V (Proc.devRef .tc main_v123) = k_v123 (V (Proc.devRef .tc main_v103)) (V (Proc.devRef .tc main_v104)) := by
  simp only [hostOps2_3, TRef.nullary, TRef.unary, TRef.binary, TRef.ternary, TRef.quaternary, TRef.toBuf, TRef.ofBuf, cast_eq]
  after_results_simp
  all_goals rfl
set_option maxHeartbeats 4000000 in
theorem h_v103 (V : Valuation τ sig (Elt F)) (x : (⟨S16x16x256x64, .f32⟩ : BufTy).Contents (Elt F)) (i : (⟨S16x4096, .i32⟩ : BufTy).Contents (Elt F))
    (hx : (V (Proc.devRef .tc main_v100)) = shapeCast _ x shapeCasts_S16x16x256x64_S16x4096x64) (hi : (V (Proc.devRef .tc main_v102)) = broadcastInDim S16x4096x1 ![0, 1] bcast_S16x4096_S16x4096x1_0_1 i) :
    after hostOps2_1 V (Proc.devRef .tc main_v103) = s_v119 i x := by
  simp only [hostOps2_1, TRef.nullary, TRef.unary, TRef.binary, TRef.ternary, TRef.quaternary, TRef.toBuf, TRef.ofBuf, cast_eq]
  after_results_simp
  simp only [hx, hi]
  all_goals rfl
set_option maxHeartbeats 4000000 in
theorem h_v104 (V : Valuation τ sig (Elt F)) (x : (⟨S16x16x256x1, .f32⟩ : BufTy).Contents (Elt F))
    (hx : (V (Proc.devRef .tc main_v101)) = shapeCast _ x shapeCasts_S16x16x256x1_S16x4096) :
    after hostOps2_2 V (Proc.devRef .tc main_v104) = s_v121 (V (Proc.devRef .tc main_v88)) x := by
  simp only [hostOps2_2, TRef.nullary, TRef.unary, TRef.binary, TRef.ternary, TRef.quaternary, TRef.toBuf, TRef.ofBuf, cast_eq]
  after_results_simp
  simp only [hx]
  all_goals rfl

end Cert.Lsh.Ker

end
-- ==== Proof.Finite.lean ====
/- From finite inputs every score of the attention, and every logarithm of a denominator, is a real number. -/
module

public import proofs.«01_k».proof.Proof.KVal1
public import proofs.«01_k».proof.Proof.RefOut
public import proofs.«01_k».proof.Pre_finite
public import Idealize.ShloMosaic.Lib.ReduceAll

@[expose] public section

set_option maxRecDepth 16384
set_option Elab.async false

noncomputable section

namespace Cert.Lsh

open Idealize.ShloMosaic Idealize.ShloMosaic.TcCoe Idealize.SL.Sem
open Cert.ReferenceIdeal

/-- An angle of the rotary embedding is a real number. -/
theorem angle_real (a b : ℝ) : ∃ r : ℝ, ((a : ℝ) : EReal) *
    Ideal.div 1 (Ideal.pow (Ideal.ofBits .f32 0x461C4000#32)
      (Ideal.div (Ideal.ofBits .f32 0x40000000#32 * ((b : ℝ) : EReal)) (Ideal.ofBits .f32 0x42800000#32))) = ((r : ℝ) : EReal) := by
  rw [bits_1e4, bits_64, bits_2, ← EReal.coe_mul, Ideal.div_coe (by norm_num), ← EReal.coe_mul, Ideal.pow_coe_coe,
    Ideal.div_coe (show Real.rpow 10000 (2 * b * (1 / 64)) ≠ 0 from ne_of_gt (Real.rpow_pos_of_pos (by norm_num) _)), one_mul, ← EReal.coe_mul]
  exact ⟨_, rfl⟩

theorem v23_real (i : Fin 2048) (d : Fin 64) : IsR (s_v23 (F := Ideal) (ix2 i d)) := by
  pointwise [s_v23]
  obtain ⟨r, hr⟩ := angle_real ((BitVec.ofNat 32 i.val).toInt : ℝ) ((BitVec.ofNat 32 (d.val / 2)).toInt : ℝ)
  exact ⟨Real.sin r, (congrArg Ideal.sin hr).trans (Ideal.sin_coe r)⟩

theorem v27_real (i : Fin 2048) (d : Fin 64) : IsR (s_v27 (F := Ideal) (ix2 i d)) := by
  pointwise [s_v27]
  obtain ⟨r, hr⟩ := angle_real ((BitVec.ofNat 32 i.val).toInt : ℝ) ((BitVec.ofNat 32 (d.val / 2)).toInt : ℝ)
  exact ⟨Real.cos r, (congrArg Ideal.cos hr).trans (Ideal.cos_coe r)⟩

theorem v1_real (a0 : FVec Ideal S1x2048x1024 .f32) (a1 : FVec Ideal S1024x1024 .f32) (h0 : ∀ y, IsR (a0 y)) (h1 : ∀ y, IsR (a1 y))
    (h : Fin 16) (i : Fin 2048) (d : Fin 64) : IsR (s_v1 (F := Ideal) a0 a1 (ix4 0 i h d)) := by
  pointwise [s_v1]
  exact IsR.sum _ fun x => (h0 _).mul (h1 _)

theorem v54_real (v1 : FVec Ideal S1x2048x16x64 .f32) (hv : ∀ h i d, IsR (v1 (ix4 0 i h d))) (y : S16x2048x64.Idx) :
    IsR (s_v54 (F := Ideal) (s_v41 (F := Ideal) v1 (s_v28 (F := Ideal)) (s_v24 (F := Ideal))) y) := by
  obtain ⟨h, i, d, rfl⟩ : ∃ h i d, y = ix3 h i d := ⟨_, _, _, eq_ix3 y⟩
  pointwise [s_v54, s_v41, cat_v34, s_v28, s_v24]
  refine ((hv _ _ _).mul (v27_real _ _)).add (IsR.mul ?_ (v23_real _ _))
  by_cases hd : d.val % 2 < 1
  · rw [dif_pos hd]; exact (hv _ _ _).neg
  · rw [dif_neg hd]; exact hv _ _ _

theorem v68_real (I : IVec S16x4096 32) (hI : ∀ a c, InRange 2048 (I (ix2 a c))) (x : FVec Ideal S16x2048x64 .f32) (hx : ∀ y, IsR (x y))
    (y : S16x16x256x64.Idx) : IsR (s_v68 (F := Ideal) I x y) := by
  obtain ⟨h, c, i, d, rfl⟩ : ∃ h c i d, y = ix4 h c i d := ⟨_, _, _, _, eq_ix4 y⟩
  pointwise [s_v68]
  obtain ⟨k, hk⟩ := hI h ⟨c.val * 256 + i.val, by omega⟩
  rw [v67_at _ _ _ _ _ k hk]
  exact hx _

theorem scores_real (I : IVec S16x4096 32) (Q : FVec Ideal S16x16x256x64 .f32) (hQ : ∀ y, IsR (Q y)) (y : S16x16x256x512.Idx) :
    IsR (scores I Q y) := by
  obtain ⟨h, c, i, j, rfl⟩ : ∃ h c i j, y = ix4 h c i j := ⟨_, _, _, _, eq_ix4 y⟩
  unfold scores
  rw [v101_at, v86_at]
  refine IsR.select (IsR.select (IsR.sum _ fun x => (hQ _).mul ?_) real_neg9) real_neg5
  have hu : ∀ c i d, IsR (s_v83 (F := Ideal) Q (ix4 h c i d)) := fun c i d => by
    rw [v83_at]
    exact ((hQ _).mul (scale_real _ fun k => hQ _)).mul real_eighth
  by_cases hj : j.val < 256
  · rw [dif_pos hj]; exact hu _ _ _
  · rw [dif_neg hj]; exact hu _ _ _

theorem denom_real (M : FVec Ideal S16x16x256x512 .f32) (hM : ∀ y, IsR (M y)) (y : S16x16x256x1.Idx) : IsR (denom M y) := by
  obtain ⟨h, c, i, j, rfl⟩ : ∃ h c i j, y = ix4 h c i j := ⟨_, _, _, _, eq_ix4 y⟩
  obtain rfl : j = (0 : Fin 1) := Subsingleton.elim _ _
  rw [denom_at]
  exact logits_real _ fun k => hM _

theorem lt_top_real (x : EReal) (h : max x (-x) < ⊤) : IsR x := by
  refine (isR_iff _).2 ⟨?_, ?_⟩
  · rintro rfl; simp at h
  · rintro rfl; simp at h

theorem below_top (x : EReal) (h : Ideal.cmp .olt (max x (-x)) (Ideal.ofBits .f32 0x7F800000#32) = 1#1) : IsR x := by
  refine lt_top_real x ?_
  rw [bits_top] at h
  by_contra hx
  simp [Ideal.cmp, hx] at h

theorem bits_and : ∀ x y : BitVec 1, IntOp.andi x y = 1#1 → x = 1#1 ∧ y = 1#1 := by decide

/-- What the precondition says of the two arrays it reads. -/
theorem finite_real [Cert.Pre_finite.Facts] (a0 : FVec Ideal S1x2048x1024 .f32) (a1 a2 : FVec Ideal S1024x1024 .f32) (a3 : FVec Ideal S16x64x2x8 .f32)
    (h : Cert.Pre_finite.fn (F := Ideal) a0 a1 a2 a3 = fun _ => 1#1) : (∀ y, IsR (a0 y)) ∧ ∀ y, IsR (a1 y) := by
  have h' := congrFun h ix0
  obtain ⟨e0, e1⟩ := bits_and _ _ h'
  have : Subsingleton Cert.Pre_finite.S_.Idx := ⟨fun x y => funext fun k => k.elim0⟩
  exact ⟨fun y => below_top _ (Host.reduce_andi_all _ _ _ _ _ e0 y), fun y => below_top _ (Host.reduce_andi_all _ _ _ _ _ e1 y)⟩

theorem r101_real (a0 : FVec Ideal S1x2048x1024 .f32) (a1 : FVec Ideal S1024x1024 .f32) (a3 : FVec Ideal S16x64x2x8 .f32)
    (h0 : ∀ y, IsR (a0 y)) (h1 : ∀ y, IsR (a1 y)) (y : S16x16x256x512.Idx) :
    IsR (scores (Cert.Lsh.r65 (F := Ideal) a0 a1 a3) (Cert.Lsh.r68 (F := Ideal) a0 a1 a3) y) := by
  refine scores_real _ _ (fun y => ?_) y
  unfold Cert.Lsh.r68
  refine v68_real _ (fun a c => ?_) _ (fun y => ?_) y
  · exact range_v65 _ (fun i => range_v63 _ i) a c
  · exact v54_real _ (fun h i d => v1_real a0 a1 h0 h1 h i d) y

end Cert.Lsh
end
-- ==== Proof.Combine.lean ====
/- The host operations between and after the kernel's grids, read against the reference's. -/
module

public import proofs.«01_k».proof.Proof.KHost
public import proofs.«01_k».proof.Proof.Finite

@[expose] public section

set_option maxRecDepth 16384
set_option Elab.async false

noncomputable section

namespace Cert.Lsh.Ker

open Idealize.ShloMosaic Idealize.ShloMosaic.TcCoe Idealize.SL.Sem
open Cert.KernelIdeal Cert.KernelIdeal.Gen

theorem g_v92 (x : FVec Ideal S16x2048x128 .f32) (idx : IVec S16x4096x1 32) (a : Fin 16) (c : Fin 4096) (d : Fin 128) :
    Host.gather gather_S16x2048x128_S16x4096x1_S16x4096x128_2_1_0_0_1_2_11128 x idx (ix3 a c d)
      = x (ix3 a (rowAt 2048 (idx (ix3 a c 0))) d) := gather_rows _ x idx a c d

theorem k92_at (i : IVec S16x4096x1 32) (x : FVec Ideal S16x2048x128 .f32) (a : Fin 16) (c : Fin 4096) (d : Fin 128)
    (k : Fin 2048) (hk : i (ix3 a c 0) = BitVec.ofNat 32 k.val) : k_v92 (F := Ideal) i x (ix3 a c d) = x (ix3 a k d) := by
  have hk' : ∀ u : Fin 1, i (ix3 a c u) = BitVec.ofNat 32 k.val := fun u => by rw [Subsingleton.elim u 0]; exact hk
  pointwise [k_v92, g_v92]
  simp only [hk', wrap_at _ 2048 (show k.val < 4096 by omega), in_range _ 2047 (show k.val ≤ 2047 by omega) (show 2047 < 4096 by omega),
    select_one, rowAt_ofNat 2048 (show 2048 ≤ 4096 by omega)]
  rw [fold_one rfl _ 1#1 (fun _ => rfl), select_one]

section Rows

variable (q z : FVec Ideal S16x2048x64 .f32) (I : IVec S16x4096 32) (hI : ∀ a c, InRange 2048 (I (ix2 a c)))

/-- The rows of queries and values, side by side, in sorted order and chunk by chunk. -/
def pair : FVec Ideal S16x16x256x128 .f32 :=
  shapeCast S16x16x256x128 (k_v92 (F := Ideal) (broadcastInDim S16x4096x1 ![0, 1] bcast_S16x4096_S16x4096x1_0_1 I)
    (concatenate S16x2048x128 2 [⟨S16x2048x64, q⟩, ⟨S16x2048x64, z⟩] concatenates_S16x2048x64_S16x2048x64_S16x2048x128_d2))
    shapeCasts_S16x4096x128_S16x16x256x128

theorem cat_at (a : Fin 16) (k : Fin 2048) (d : Fin 128) :
    concatenate S16x2048x128 2 [⟨S16x2048x64, q⟩, ⟨S16x2048x64, z⟩] concatenates_S16x2048x64_S16x2048x64_S16x2048x128_d2 (ix3 a k d)
      = if hd : d.val < 64 then q (ix3 a k ⟨d.val, hd⟩) else z (ix3 a k ⟨d.val - 64, by omega⟩) := by
  pointwise

include hI in
theorem pair_lo (h c : Fin 16) (i : Fin 256) (d : Fin 64) :
    pair q z I (ix4 h c i ⟨d.val, by omega⟩) = s_v68 (F := Ideal) I q (ix4 h c i d) := by
  obtain ⟨k, hk⟩ := hI h ⟨c.val * 256 + i.val, by omega⟩
  unfold pair
  pointwise [s_v68]
  rw [v67_at _ _ _ _ _ k hk, k92_at _ _ _ _ _ k (by pointwise; exact hk), cat_at, dif_pos d.isLt]

include hI in
theorem pair_hi (h c : Fin 16) (i : Fin 256) (d : Fin 64) :
    pair q z I (ix4 h c i ⟨64 + d.val, by omega⟩) = s_v71 (F := Ideal) I z (ix4 h c i d) := by
  obtain ⟨k, hk⟩ := hI h ⟨c.val * 256 + i.val, by omega⟩
  have e : s_v71 (F := Ideal) I z = s_v68 (F := Ideal) I z := rfl
  rw [e]
  unfold pair
  pointwise [s_v68]
  rw [v67_at _ _ _ _ _ k hk, k92_at _ _ _ _ _ k (by pointwise; exact hk), cat_at, dif_neg (show ¬ 64 + d.val < 64 by omega)]
  exact congrArg (fun d' => z (ix3 h k d')) (Fin.ext (by show 64 + d.val - 64 = d.val; omega))

end Rows

/-- The sorted positions of the chunks before, around the end. -/
def rolled (P : IVec S16x16x256 32) : IVec S16x16x256 32 :=
  concatenate S16x16x256 1 [⟨S16x1x256, (extractStridedSlice S16x1x256 ![0, 15, 0] P slices_S16x16x256_S16x1x256_0_15_0)⟩,
    ⟨S16x15x256, (extractStridedSlice S16x15x256 ![0, 0, 0] P slices_S16x16x256_S16x15x256_0_0_0)⟩] concatenates_S16x1x256_S16x15x256_S16x16x256_d1

theorem keys_eq (I : IVec S16x4096 32) :
    concatenate S16x16x512 2 [⟨S16x16x256, rolled (s_v87 (F := Ideal) I)⟩, ⟨S16x16x256, s_v87 (F := Ideal) I⟩] concatenates_S16x16x256_S16x16x256_S16x16x512_d2
      = s_v89 (F := Ideal) I := by
  funext y
  obtain ⟨h, c, j, rfl⟩ : ∃ h c j, y = ix3 h c j := ⟨_, _, _, eq_ix3 y⟩
  unfold rolled
  pointwise [s_v89, cat_v88, cat_v89]

theorem keys_at (I : IVec S16x4096 32) (B : IVec S16x16x512 32) (h c : Fin 16) (j : Fin 512) :
    (shapeCast S16x16x1x512 B shapeCasts_S16x16x512_S16x16x1x512 : IVec S16x16x1x512 32) (ix4 h c 0 j) = B (ix3 h c j) := by
  pointwise

theorem query_at (I : IVec S16x4096 32) (h c : Fin 16) (i : Fin 256) :
    (broadcastInDim S16x16x256x1 ![0, 1, 2] bcast_S16x16x256_S16x16x256x1_0_1_2 (s_v87 (F := Ideal) I) : IVec S16x16x256x1 32) (ix4 h c i 0)
      = I (ix2 h ⟨c.val * 256 + i.val, by omega⟩) := by
  pointwise [s_v87]

end Cert.Lsh.Ker
end
-- ==== Proof.Rounds.lean ====
/- The rounds combined, in the kernel and in the reference. -/
module

public import proofs.«01_k».proof.Proof.KHost
public import proofs.«01_k».proof.Proof.Finite

@[expose] public section

set_option maxRecDepth 16384
set_option Elab.async false

noncomputable section

namespace Cert.Lsh.Ker

open Idealize.ShloMosaic Idealize.ShloMosaic.TcCoe Idealize.SL.Sem
open Cert.KernelIdeal Cert.KernelIdeal.Gen

/-- The two logits of one position of one head. -/
def pairAt (y : FVec Ideal S16x4096 .f32) (a : Fin 2048) (c : Fin 1024) (r : Fin 2) : EReal :=
  y (ix2 ⟨c.val / 64, by omega⟩ ⟨r.val * 2048 + a.val, by omega⟩)

/-- The greater of them. -/
def topOf (g : Fin 2 → EReal) : EReal := Finset.fold max (Ideal.ofBits .f32 0xFF800000#32) g Finset.univ

theorem k123_at (x : FVec Ideal S16x4096x64 .f32) (y : FVec Ideal S16x4096 .f32) (a : Fin 2048) (c : Fin 1024) :
    k_v123 (F := Ideal) x y (ix3 0 a c) = ∑ r : Fin 2, x (ix3 ⟨c.val / 64, by omega⟩ ⟨r.val * 2048 + a.val, by omega⟩ ⟨c.val % 64, by omega⟩)
      * Ideal.div (Ideal.exp (pairAt y a c r - max (Ideal.ofBits .f32 0xFF800000#32) (topOf (pairAt y a c))))
          (∑ r' : Fin 2, Ideal.exp (pairAt y a c r' - max (Ideal.ofBits .f32 0xFF800000#32) (topOf (pairAt y a c)))) := by
  unfold topOf pairAt
  pointwise [k_v123]

theorem v141_at (x : FVec Ideal S16x4096x64 .f32) (y : FVec Ideal S16x4096 .f32) (a : Fin 2048) (c : Fin 1024) :
    s_v141 (F := Ideal) x y (ix3 0 a c) = ∑ r : Fin 2, x (ix3 ⟨c.val / 64, by omega⟩ ⟨r.val * 2048 + a.val, by omega⟩ ⟨c.val % 64, by omega⟩)
      * Ideal.exp (pairAt y a c r - (topOf (pairAt y a c)
          + Ideal.log (∑ r' : Fin 2, Ideal.exp (pairAt y a c r' - topOf (pairAt y a c))))) := by
  unfold topOf pairAt
  pointwise [s_v141]

theorem top_eq (g : Fin 2 → EReal) : topOf g = Finset.fold max ⊥ g Finset.univ := by
  unfold topOf; rw [bits_bot]

theorem weight_eq (g : Fin 2 → EReal) (hg : ∀ r, IsR (g r)) (r : Fin 2) :
    Ideal.div (Ideal.exp (g r - max (Ideal.ofBits .f32 0xFF800000#32) (topOf g)))
        (∑ r' : Fin 2, Ideal.exp (g r' - max (Ideal.ofBits .f32 0xFF800000#32) (topOf g)))
      = Ideal.exp (g r - (topOf g + Ideal.log (∑ r' : Fin 2, Ideal.exp (g r' - topOf g)))) := by
  have e : max (Ideal.ofBits .f32 0xFF800000#32) (topOf g) = topOf g := by rw [bits_bot]; exact max_eq_right bot_le
  rw [e, top_eq]
  exact softmax_eq g hg r

/-- Rounds combined by a softmax: dividing by the sum, and subtracting the logarithm of the sum, are the same. -/
theorem rounds_at (x : FVec Ideal S16x4096x64 .f32) (y : FVec Ideal S16x4096 .f32) (hy : ∀ a c, IsR (y (ix2 a c))) (a : Fin 2048) (c : Fin 1024) :
    k_v123 (F := Ideal) x y (ix3 0 a c) = s_v141 (F := Ideal) x y (ix3 0 a c) := by
  rw [k123_at, v141_at]
  refine Finset.sum_congr rfl fun r _ => ?_
  rw [weight_eq (pairAt y a c) (fun r => hy _ _) r]

theorem rounds_eq (x : FVec Ideal S16x4096x64 .f32) (y : FVec Ideal S16x4096 .f32) (hy : ∀ a c, IsR (y (ix2 a c))) :
    k_v123 (F := Ideal) x y = s_v141 (F := Ideal) x y := by
  funext w
  have hw : w = ix3 0 (w 1) (w 2) :=
    (eq_ix3 w).trans (congrArg (fun k : Fin 1 => (ix3 k (w 1) (w 2) : S1x2048x1024.Idx)) (Subsingleton.elim _ _))
  rw [hw]
  exact rounds_at x y hy (w 1) (w 2)

end Cert.Lsh.Ker
end
-- ==== Proof.Chain.lean ====
/- The kernel's arrays from one host step and grid to the next, as the reference's. -/
module

public import proofs.«01_k».proof.Proof.KVal0
public import proofs.«01_k».proof.Proof.KOut1
public import proofs.«01_k».proof.Proof.Combine
public import proofs.«01_k».proof.Proof.Rounds

@[expose] public section

set_option maxRecDepth 16384
set_option Elab.async false

noncomputable section

namespace Cert.Lsh.Ker

open Idealize.ShloMosaic Idealize.ShloMosaic.TcCoe Idealize.SL.Sem
open Cert.KernelIdeal Cert.KernelIdeal.Gen

section Chain

variable (m : (ℓ : Loc nD τ sig) → Buf (Elt Ideal) ℓ) (ρ : Dev nD → PrngReg) (c : Dev nD)

/-- The hidden states. -/
def A0 : FVec Ideal S1x2048x1024 .f32 := m ((c : Thread nD τ).loc main_arg0)
/-- The query and key projection. -/
def A1 : FVec Ideal S1024x1024 .f32 := m ((c : Thread nD τ).loc main_arg1)
/-- The value projection. -/
def A2 : FVec Ideal S1024x1024 .f32 := m ((c : Thread nD τ).loc main_arg2)
/-- The hashing rotations. -/
def A3 : FVec Ideal S16x64x2x8 .f32 := m ((c : Thread nD τ).loc main_arg3)

theorem w1_v0 : W1 m ρ c (Proc.devRef .tc main_v0) = shapeCast S2048x1024 (A0 m c) shapeCasts_S1x2048x1024_S2048x1024 := by
  refine (h_v0 (W0 m ρ c)).trans ?_
  rw [show W0 m ρ c (Proc.devRef .tc main_arg0) = A0 m c from W0_args m ρ c main_arg0 (by decide)]

theorem w1_v2 : W1 m ρ c (Proc.devRef .tc main_v2) = transpose S16x1024x64 [1, 0, 2] (shapeCast S1024x16x64 (A1 m c) shapeCasts_S1024x1024_S1024x16x64) transposes_S1024x16x64_S16x1024x64_1_0_2 := by
  refine (h_v2 (W0 m ρ c)).trans ?_
  rw [show W0 m ρ c (Proc.devRef .tc main_arg1) = A1 m c from W0_args m ρ c main_arg1 (by decide)]

theorem w1_v4 : W1 m ρ c (Proc.devRef .tc main_v4) = transpose S16x1024x64 [1, 0, 2] (shapeCast S1024x16x64 (A2 m c) shapeCasts_S1024x1024_S1024x16x64) transposes_S1024x16x64_S16x1024x64_1_0_2 := by
  refine (h_v4 (W0 m ρ c)).trans ?_
  rw [show W0 m ρ c (Proc.devRef .tc main_arg2) = A2 m c from W0_args m ρ c main_arg2 (by decide)]

theorem w1_v24 : W1 m ρ c (Proc.devRef .tc main_v24) = s_v23 (F := Ideal) := h_v24 (W0 m ρ c)

theorem w1_v27 : W1 m ρ c (Proc.devRef .tc main_v27) = s_v27 (F := Ideal) := h_v27 (W0 m ρ c)

/-- The rotated queries after the first grid. -/
theorem w2_q : W2 m ρ c (Proc.devRef .tc main_v28_0) = s_v54 (F := Ideal) (r41 (F := Ideal) (A0 m c) (A1 m c)) := by
  refine (W2_arr m ρ c 5).trans ((out5 (V1 m ρ) c).trans ?_)
  rw [show V1 m ρ c main_v0 = _ from w1_v0 m ρ c, show V1 m ρ c main_v2 = _ from w1_v2 m ρ c,
    show V1 m ρ c main_v27 = _ from w1_v27 m ρ c, show V1 m ρ c main_v24 = _ from w1_v24 m ρ c]
  exact rotated_eq (A0 m c) (A1 m c) _ _ _

/-- The values after the first grid. -/
theorem w2_z : W2 m ρ c (Proc.devRef .tc main_v28_1) = s_v56 (F := Ideal) (s_v3 (F := Ideal) (A0 m c) (A2 m c)) := by
  refine (W2_arr m ρ c 6).trans ((out6 (V1 m ρ) c).trans ?_)
  rw [show V1 m ρ c main_v0 = _ from w1_v0 m ρ c, show V1 m ρ c main_v4 = _ from w1_v4 m ρ c]
  exact projected_eq (A0 m c) (A2 m c) _ _ _

theorem w3_v72 : W3 m ρ c (Proc.devRef .tc main_v72) = s_v45 (F := Ideal) (A3 m c) (r41 (F := Ideal) (A0 m c) (A1 m c)) := by
  refine (h_v72 (W2 m ρ c)).trans ?_
  rw [show W2 m ρ c (Proc.devRef .tc main_arg0) = A0 m c from W2_args m ρ c main_arg0 (by decide), show W2 m ρ c (Proc.devRef .tc main_arg1) = A1 m c from W2_args m ρ c main_arg1 (by decide), show W2 m ρ c (Proc.devRef .tc main_arg3) = A3 m c from W2_args m ρ c main_arg3 (by decide)]
  rfl

theorem w4_v73 : W4 m ρ c (Proc.devRef .tc main_v73) = s_v46 (F := Ideal) (s_v45 (F := Ideal) (A3 m c) (r41 (F := Ideal) (A0 m c) (A1 m c))) := by
  refine (h_v73 (W3 m ρ c)).trans ?_
  rw [w3_v72 m ρ c]

theorem w5_v86 : W5 m ρ c (Proc.devRef .tc main_v86) = r62 (F := Ideal) (A0 m c) (A1 m c) (A3 m c) := by
  refine (h_v86 (W4 m ρ c)).trans ?_
  rw [w4_v73 m ρ c]
  rfl

theorem w6_v87 : W6 m ρ c (Proc.devRef .tc main_v87) = r63 (F := Ideal) (A0 m c) (A1 m c) (A3 m c) := by
  refine (h_v87 (W5 m ρ c)).trans ?_
  rw [w5_v86 m ρ c]
  rfl

theorem w7_v88 : W7 m ρ c (Proc.devRef .tc main_v88) = r64 (F := Ideal) (A0 m c) (A1 m c) (A3 m c) := by
  refine (h_v88 (W6 m ρ c)).trans ?_
  rw [w6_v87 m ρ c]
  rfl

theorem w8_v87 : W8 m ρ c (Proc.devRef .tc main_v87) = r63 (F := Ideal) (A0 m c) (A1 m c) (A3 m c) :=
  ((W8_of m ρ c main_v87 (by decide)).trans (W7_of m ρ c main_v87 (by decide))).trans (w6_v87 m ρ c)

theorem w9_v89 : W9 m ρ c (Proc.devRef .tc main_v89) = r65 (F := Ideal) (A0 m c) (A1 m c) (A3 m c) := by
  refine (h_v89 (W8 m ρ c) (h_c10 (W7 m ρ c))).trans ?_
  rw [w8_v87 m ρ c]
  rfl

theorem w9_q : W9 m ρ c (Proc.devRef .tc main_v28_0) = s_v54 (F := Ideal) (r41 (F := Ideal) (A0 m c) (A1 m c)) :=
  ((W9_of m ρ c main_v28_0 (by decide)).trans ((W8_of m ρ c main_v28_0 (by decide)).trans ((W7_of m ρ c main_v28_0 (by decide)).trans ((W6_of m ρ c main_v28_0 (by decide)).trans ((W5_of m ρ c main_v28_0 (by decide)).trans ((W4_of m ρ c main_v28_0 (by decide)).trans (W3_of m ρ c main_v28_0 (by decide)))))))).trans (w2_q m ρ c)

theorem w9_z : W9 m ρ c (Proc.devRef .tc main_v28_1) = s_v56 (F := Ideal) (s_v3 (F := Ideal) (A0 m c) (A2 m c)) :=
  ((W9_of m ρ c main_v28_1 (by decide)).trans ((W8_of m ρ c main_v28_1 (by decide)).trans ((W7_of m ρ c main_v28_1 (by decide)).trans ((W6_of m ρ c main_v28_1 (by decide)).trans ((W5_of m ρ c main_v28_1 (by decide)).trans ((W4_of m ρ c main_v28_1 (by decide)).trans (W3_of m ρ c main_v28_1 (by decide)))))))).trans (w2_z m ρ c)

theorem w10_v90 : W10 m ρ c (Proc.devRef .tc main_v90) = concatenate S16x2048x128 2 [⟨S16x2048x64, (s_v54 (F := Ideal) (r41 (F := Ideal) (A0 m c) (A1 m c)))⟩, ⟨S16x2048x64, (s_v56 (F := Ideal) (s_v3 (F := Ideal) (A0 m c) (A2 m c)))⟩] concatenates_S16x2048x64_S16x2048x64_S16x2048x128_d2 := by
  refine (h_v90 (W9 m ρ c)).trans ?_
  rw [w9_q m ρ c, w9_z m ρ c]

theorem w10_v91 : W10 m ρ c (Proc.devRef .tc main_v91) = broadcastInDim S16x4096x1 ![0, 1] bcast_S16x4096_S16x4096x1_0_1 (r65 (F := Ideal) (A0 m c) (A1 m c) (A3 m c)) := by
  refine (h_v91 (W9 m ρ c)).trans ?_
  rw [w9_v89 m ρ c]

theorem w11_v92 : W11 m ρ c (Proc.devRef .tc main_v92) = k_v92 (F := Ideal) (broadcastInDim S16x4096x1 ![0, 1] bcast_S16x4096_S16x4096x1_0_1 (r65 (F := Ideal) (A0 m c) (A1 m c) (A3 m c))) (concatenate S16x2048x128 2 [⟨S16x2048x64, (s_v54 (F := Ideal) (r41 (F := Ideal) (A0 m c) (A1 m c)))⟩, ⟨S16x2048x64, (s_v56 (F := Ideal) (s_v3 (F := Ideal) (A0 m c) (A2 m c)))⟩] concatenates_S16x2048x64_S16x2048x64_S16x2048x128_d2) := by
  refine (h_v92 (W10 m ρ c)).trans ?_
  rw [w10_v90 m ρ c, w10_v91 m ρ c]

theorem w11_v89 : W11 m ρ c (Proc.devRef .tc main_v89) = r65 (F := Ideal) (A0 m c) (A1 m c) (A3 m c) :=
  ((W11_of m ρ c main_v89 (by decide)).trans (W10_of m ρ c main_v89 (by decide))).trans (w9_v89 m ρ c)

theorem w12_v93 : W12 m ρ c (Proc.devRef .tc main_v93) = pair (s_v54 (F := Ideal) (r41 (F := Ideal) (A0 m c) (A1 m c))) (s_v56 (F := Ideal) (s_v3 (F := Ideal) (A0 m c) (A2 m c))) (r65 (F := Ideal) (A0 m c) (A1 m c) (A3 m c)) := by
  refine (h_v93 (W11 m ρ c)).trans ?_
  rw [w11_v92 m ρ c]
  rfl

theorem w12_v94 : W12 m ρ c (Proc.devRef .tc main_v94) = s_v87 (F := Ideal) (r65 (F := Ideal) (A0 m c) (A1 m c) (A3 m c)) := by
  refine (h_v94 (W11 m ρ c)).trans ?_
  rw [w11_v89 m ρ c]

theorem w12_v95 : W12 m ρ c (Proc.devRef .tc main_v95) = broadcastInDim S16x16x256x1 ![0, 1, 2] bcast_S16x16x256_S16x16x256x1_0_1_2 (s_v87 (F := Ideal) (r65 (F := Ideal) (A0 m c) (A1 m c) (A3 m c))) := by
  refine (h_v95 (W11 m ρ c)).trans ?_
  rw [w11_v89 m ρ c]

theorem w13_v96 : W13 m ρ c (Proc.devRef .tc main_v96) = rolled (s_v87 (F := Ideal) (r65 (F := Ideal) (A0 m c) (A1 m c) (A3 m c))) := by
  refine (h_v96 (W12 m ρ c)).trans ?_
  rw [w12_v94 m ρ c]
  rfl

theorem w13_v94 : W13 m ρ c (Proc.devRef .tc main_v94) = s_v87 (F := Ideal) (r65 (F := Ideal) (A0 m c) (A1 m c) (A3 m c)) :=
  (W13_of m ρ c main_v94 (by decide)).trans (w12_v94 m ρ c)

theorem w14_v98 : W14 m ρ c (Proc.devRef .tc main_v98) = shapeCast S16x16x1x512 (s_v89 (F := Ideal) (r65 (F := Ideal) (A0 m c) (A1 m c) (A3 m c))) shapeCasts_S16x16x512_S16x16x1x512 := by
  refine (h_v98 (W13 m ρ c)).trans ?_
  rw [w13_v96 m ρ c, w13_v94 m ρ c, keys_eq]

theorem w14_v93 : W14 m ρ c (Proc.devRef .tc main_v93) = pair (s_v54 (F := Ideal) (r41 (F := Ideal) (A0 m c) (A1 m c))) (s_v56 (F := Ideal) (s_v3 (F := Ideal) (A0 m c) (A2 m c))) (r65 (F := Ideal) (A0 m c) (A1 m c) (A3 m c)) :=
  ((W14_of m ρ c main_v93 (by decide)).trans (W13_of m ρ c main_v93 (by decide))).trans (w12_v93 m ρ c)

theorem w14_v95 : W14 m ρ c (Proc.devRef .tc main_v95) = broadcastInDim S16x16x256x1 ![0, 1, 2] bcast_S16x16x256_S16x16x256x1_0_1_2 (s_v87 (F := Ideal) (r65 (F := Ideal) (A0 m c) (A1 m c) (A3 m c))) :=
  ((W14_of m ρ c main_v95 (by decide)).trans (W13_of m ρ c main_v95 (by decide))).trans (w12_v95 m ρ c)

theorem w14_v88 : W14 m ρ c (Proc.devRef .tc main_v88) = r64 (F := Ideal) (A0 m c) (A1 m c) (A3 m c) :=
  ((W14_of m ρ c main_v88 (by decide)).trans ((W13_of m ρ c main_v88 (by decide)).trans ((W12_of m ρ c main_v88 (by decide)).trans ((W11_of m ρ c main_v88 (by decide)).trans ((W10_of m ρ c main_v88 (by decide)).trans ((W9_of m ρ c main_v88 (by decide)).trans (W8_of m ρ c main_v88 (by decide)))))))).trans (w7_v88 m ρ c)

theorem inRange_keys : ∀ a b, InRange 2048 ((r65 (F := Ideal) (A0 m c) (A1 m c) (A3 m c)) (ix2 a b)) := fun a b => range_v65 _ (fun i => range_v63 _ i) a b

theorem hyp_q (h c' : Fin 16) (i : Fin 256) (d : Fin 64) :
    (show FVec Ideal S16x16x256x128 .f32 from V14 m ρ c main_v93) (ix4 h c' i (lo d))
      = r68 (F := Ideal) (A0 m c) (A1 m c) (A3 m c) (ix4 h c' i d) :=
  (congrFun (w14_v93 m ρ c) _).trans (pair_lo _ _ _ (inRange_keys m c) h c' i d)

theorem hyp_z (h c' : Fin 16) (i : Fin 256) (d : Fin 64) :
    (show FVec Ideal S16x16x256x128 .f32 from V14 m ρ c main_v93) (ix4 h c' i (hi d))
      = r71 (F := Ideal) (A0 m c) (A1 m c) (A2 m c) (A3 m c) (ix4 h c' i d) :=
  (congrFun (w14_v93 m ρ c) _).trans (pair_hi _ _ _ (inRange_keys m c) h c' i d)

theorem hyp_a (h c' : Fin 16) (i : Fin 256) :
    (show IVec S16x16x256x1 32 from V14 m ρ c main_v95) (ix4 h c' i 0) = (r65 (F := Ideal) (A0 m c) (A1 m c) (A3 m c)) (ix2 h (place c' i)) :=
  (congrFun (w14_v95 m ρ c) _).trans (query_at _ h c' i)

theorem hyp_b (h c' : Fin 16) (j : Fin 512) :
    (show IVec S16x16x1x512 32 from V14 m ρ c main_v98) (ix4 h c' 0 j) = s_v89 (F := Ideal) (r65 (F := Ideal) (A0 m c) (A1 m c) (A3 m c)) (ix3 h c' j) :=
  (congrFun (w14_v98 m ρ c) _).trans (keys_at (r65 (F := Ideal) (A0 m c) (A1 m c) (A3 m c)) _ h c' j)

variable (h0 : ∀ y, IsR (A0 m c y)) (h1 : ∀ y, IsR (A1 m c y))

include h0 h1 in
/-- The attention after the second grid. -/
theorem w15_o : W15 m ρ c (Proc.devRef .tc main_v99_0) = r116 (F := Ideal) (A0 m c) (A1 m c) (A2 m c) (A3 m c) :=
  (W15_arr m ρ c 4).trans (out14 (V14 m ρ) c (r68 (F := Ideal) (A0 m c) (A1 m c) (A3 m c)) (r71 (F := Ideal) (A0 m c) (A1 m c) (A2 m c) (A3 m c)) (r65 (F := Ideal) (A0 m c) (A1 m c) (A3 m c))
    (hyp_q m ρ c) (hyp_z m ρ c) (hyp_a m ρ c) (hyp_b m ρ c) (r101_real (A0 m c) (A1 m c) (A3 m c) h0 h1))

/-- The logarithms of the denominators after the second grid. -/
theorem w15_l : W15 m ρ c (Proc.devRef .tc main_v99_1) = r110 (F := Ideal) (A0 m c) (A1 m c) (A3 m c) :=
  (W15_arr m ρ c 5).trans (out15 (V14 m ρ) c (r68 (F := Ideal) (A0 m c) (A1 m c) (A3 m c)) (r65 (F := Ideal) (A0 m c) (A1 m c) (A3 m c)) (hyp_q m ρ c) (hyp_a m ρ c) (hyp_b m ρ c))

theorem w15_v88 : W15 m ρ c (Proc.devRef .tc main_v88) = r64 (F := Ideal) (A0 m c) (A1 m c) (A3 m c) :=
  (W15_of m ρ c main_v88 (by decide)).trans (w14_v88 m ρ c)

theorem w16_v102 : W16 m ρ c (Proc.devRef .tc main_v102) = broadcastInDim S16x4096x1 ![0, 1] bcast_S16x4096_S16x4096x1_0_1 (r64 (F := Ideal) (A0 m c) (A1 m c) (A3 m c)) := by
  refine (h_v102 (W15 m ρ c)).trans ?_
  rw [w15_v88 m ρ c]

include h0 h1 in
theorem w16_v100 : W16 m ρ c (Proc.devRef .tc main_v100) = shapeCast S16x4096x64 (r116 (F := Ideal) (A0 m c) (A1 m c) (A2 m c) (A3 m c)) shapeCasts_S16x16x256x64_S16x4096x64 := by
  refine (h_v100 (W15 m ρ c)).trans ?_
  rw [w15_o m ρ c h0 h1]

theorem w16_v101 : W16 m ρ c (Proc.devRef .tc main_v101) = shapeCast S16x4096 (r110 (F := Ideal) (A0 m c) (A1 m c) (A3 m c)) shapeCasts_S16x16x256x1_S16x4096 := by
  refine (h_v101 (W15 m ρ c)).trans ?_
  rw [w15_l m ρ c]

include h0 h1 in
theorem w17_v103 : W17 m ρ c (Proc.devRef .tc main_v103) = s_v119 (F := Ideal) (r64 (F := Ideal) (A0 m c) (A1 m c) (A3 m c)) (r116 (F := Ideal) (A0 m c) (A1 m c) (A2 m c) (A3 m c)) :=
  h_v103 (W16 m ρ c) _ _ (w16_v100 m ρ c h0 h1) (w16_v102 m ρ c)

theorem w18_v104 : W18 m ρ c (Proc.devRef .tc main_v104) = s_v121 (F := Ideal) (r64 (F := Ideal) (A0 m c) (A1 m c) (A3 m c)) (r110 (F := Ideal) (A0 m c) (A1 m c) (A3 m c)) := by
  refine (h_v104 (W17 m ρ c) _ ((W17_of m ρ c main_v101 (by decide)).trans (w16_v101 m ρ c))).trans ?_
  rw [show W17 m ρ c (Proc.devRef .tc main_v88) = _ from ((W17_of m ρ c main_v88 (by decide)).trans (W16_of m ρ c main_v88 (by decide))).trans (w15_v88 m ρ c)]

include h0 h1 in
/-- The kernel's result is the reference's. -/
theorem w19_v123 : W19 m ρ c (Proc.devRef .tc main_v123) = r141 (F := Ideal) (A0 m c) (A1 m c) (A2 m c) (A3 m c) := by
  refine (h_v123 (W18 m ρ c)).trans ?_
  rw [show W18 m ρ c (Proc.devRef .tc main_v103) = _ from (W18_of m ρ c main_v103 (by decide)).trans (w17_v103 m ρ c h0 h1), w18_v104 m ρ c]
  refine rounds_eq _ _ fun a b => ?_
  obtain ⟨k, hk⟩ : InRange 4096 (r64 (F := Ideal) (A0 m c) (A1 m c) (A3 m c) (ix2 a b)) := range_v64 _ _
  rw [v121_at _ _ a b k hk]
  exact denom_real _ (r101_real (A0 m c) (A1 m c) (A3 m c) h0 h1) _

end Chain

end Cert.Lsh.Ker
end
-- ==== Proof.lean ====
/- The kernel and the reference of LSH attention: both run and leave their arguments as they were, and over the
   extended reals, from finite hidden states and query projection, they end with the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefOut
public import proofs.«01_k».proof.Proof.KRun
public import proofs.«01_k».proof.Proof.Chain
public import proofs.«01_k».proof.Proof.Finite
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts

/-- From equal arguments of which the first two are finite, the kernel and the reference end with the same result. -/
theorem algebraic : Cert.algebraic_KernelIdeal_ReferenceIdeal_pre_finite := by
  intro m g m' g' hpre hargs
  refine ⟨fun c => Cert.Lsh.r141 (F := Ideal) (Cert.Lsh.Ker.A0 m c) (Cert.Lsh.Ker.A1 m c) (Cert.Lsh.Ker.A2 m c) (Cert.Lsh.Ker.A3 m c), ?_, ?_⟩
  · refine (θ_run (Cert.KernelIdeal.defs (F := Ideal)) _ _).mono (fun r h c => ?_) (Cert.Lsh.Ker.run (F := Ideal) m g)
    obtain ⟨h0, h1⟩ := Cert.Lsh.finite_real _ _ _ _ (hpre c)
    exact ⟨(h.1 c).1.trans (Cert.Lsh.Ker.w19_v123 m g c h0 h1), (h.1 c).2⟩
  · refine (θ_run (Cert.ReferenceIdeal.defs (F := Ideal)) _ _).mono (fun r h c => ?_) (Cert.Lsh.Ref.run (F := Ideal) m' g')
    obtain ⟨e0, e1, e2, e3⟩ := hargs c
    have e := (h.1 c).1
    rw [e0, e1, e2, e3] at e
    exact ⟨e, (h.1 c).2⟩

theorem claim : Cert.Claim := ⟨Cert.Kernel.Gen.facts, Cert.KernelIdeal.Gen.facts, Cert.ReferenceIdeal.Gen.facts, Cert.Pre_finite.Gen.facts,
  fun m g _ => Cert.Kernel.Gen.frame (F := Bits) m g,
  fun m g _ => Cert.KernelIdeal.Gen.frame (F := Ideal) m g,
  fun m g _ => Cert.KernelIdeal.Gen.frame (F := Ideal) m g,
  fun m g _ => (θ_run (Cert.ReferenceIdeal.defs (F := Ideal)) _ _).mono (fun _ h => ⟨fun c => (h.1 c).2, h.2⟩) (Cert.Lsh.Ref.run (F := Ideal) m g),
  fun m g _ => (θ_run (Cert.ReferenceIdeal.defs (F := Ideal)) _ _).mono (fun _ h => ⟨fun c => (h.1 c).2, h.2⟩) (Cert.Lsh.Ref.run (F := Ideal) m g),
  trivial,
  algebraic⟩

end Cert.Proof

end
